-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v81_0)) (v1 : (c : Dev Cert.KernelIdeal.nD) → Buf (Elt Ideal) ((c.tc : Thread Cert.KernelIdeal.nD Cert.KernelIdeal.τ).loc Cert.KernelIdeal.main_v81_1)) (v2 : (c : Dev Cert.KernelIdeal.nD) → Buf (Elt Ideal) ((c.tc : Thread Cert.KernelIdeal.nD Cert.KernelIdeal.τ).loc Cert.KernelIdeal.main_v81_2)) (v3 : (c : Dev Cert.KernelIdeal.nD) → Buf (Elt Ideal) ((c.tc : Thread Cert.KernelIdeal.nD Cert.KernelIdeal.τ).loc Cert.KernelIdeal.main_v81_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81_0) = v0 c
          ∧ r.2.mem ((c.tc : Thread Cert.KernelIdeal.nD Cert.KernelIdeal.τ).loc Cert.KernelIdeal.main_v81_1) = v1 c
          ∧ r.2.mem ((c.tc : Thread Cert.KernelIdeal.nD Cert.KernelIdeal.τ).loc Cert.KernelIdeal.main_v81_2) = v2 c
          ∧ r.2.mem ((c.tc : Thread Cert.KernelIdeal.nD Cert.KernelIdeal.τ).loc Cert.KernelIdeal.main_v81_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v321) = v0 c
          ∧ r.2.mem ((c.tc : Thread Cert.ReferenceIdeal.nD Cert.ReferenceIdeal.τ).loc Cert.ReferenceIdeal.main_v322) = v1 c
          ∧ r.2.mem ((c.tc : Thread Cert.ReferenceIdeal.nD Cert.ReferenceIdeal.τ).loc Cert.ReferenceIdeal.main_v323) = v2 c
          ∧ r.2.mem ((c.tc : Thread Cert.ReferenceIdeal.nD Cert.ReferenceIdeal.τ).loc Cert.ReferenceIdeal.main_v325) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v6) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v6) = v0 c
          ∧ r.2.mem ((c.tc : Thread Cert.Reference12Ideal.nD Cert.Reference12Ideal.τ).loc Cert.Reference12Ideal.main_v4) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v23) = v0 c
          ∧ r.2.mem ((c.tc : Thread Cert.Reference13Ideal.nD Cert.Reference13Ideal.τ).loc Cert.Reference13Ideal.main_v4) = v1 c
          ∧ r.2.mem ((c.tc : Thread Cert.Reference13Ideal.nD Cert.Reference13Ideal.τ).loc Cert.Reference13Ideal.main_v10) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v9) = v0 c
          ∧ r.2.mem ((c.tc : Thread Cert.Reference14Ideal.nD Cert.Reference14Ideal.τ).loc Cert.Reference14Ideal.main_v10) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v34) = v0 c
          ∧ r.2.mem ((c.tc : Thread Cert.Reference15Ideal.nD Cert.Reference15Ideal.τ).loc Cert.Reference15Ideal.main_v35) = v1 c
          ∧ r.2.mem ((c.tc : Thread Cert.Reference15Ideal.nD Cert.Reference15Ideal.τ).loc Cert.Reference15Ideal.main_v36) = v2 c
          ∧ r.2.mem ((c.tc : Thread Cert.Reference15Ideal.nD Cert.Reference15Ideal.τ).loc Cert.Reference15Ideal.main_v37) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
-- ==== Kernel.lean ====
abbrev S2304x1024 : Shape := ⟨2, ![2304, 1024]⟩
abbrev S2304x14336 : Shape := ⟨2, ![2304, 14336]⟩
abbrev S8 : Shape := ⟨1, ![8]⟩
abbrev S2304x2048 : Shape := ⟨2, ![2304, 2048]⟩
abbrev S_ : Shape := ⟨0, ![]⟩
abbrev S128 : Shape := ⟨1, ![128]⟩
abbrev S1x128 : Shape := ⟨2, ![1, 128]⟩
abbrev S8x1 : Shape := ⟨2, ![8, 1]⟩
abbrev S8x128 : Shape := ⟨2, ![8, 128]⟩
abbrev S18x128x8x128 : Shape := ⟨4, ![18, 128, 8, 128]⟩
abbrev S18x128x8x256 : Shape := ⟨4, ![18, 128, 8, 256]⟩
abbrev S128x8 : Shape := ⟨2, ![128, 8]⟩
abbrev S1x128x8x1 : Shape := ⟨4, ![1, 128, 8, 1]⟩
abbrev S8x18x128x256 : Shape := ⟨4, ![8, 18, 128, 256]⟩
abbrev S8x1x1x1 : Shape := ⟨4, ![8, 1, 1, 1]⟩
abbrev S8x1x128x256 : Shape := ⟨4, ![8, 1, 128, 256]⟩
abbrev S8x16x128x256 : Shape := ⟨4, ![8, 16, 128, 256]⟩
abbrev S8x2x128x256 : Shape := ⟨4, ![8, 2, 128, 256]⟩
abbrev S8x8x128 : Shape := ⟨3, ![8, 8, 128]⟩
abbrev S128x1024 : Shape := ⟨2, ![128, 1024]⟩
abbrev S128x2048 : Shape := ⟨2, ![128, 2048]⟩
abbrev S8x128x256 : Shape := ⟨3, ![8, 128, 256]⟩
abbrev S1 : Shape := ⟨1, ![1]⟩
abbrev S128x128 : Shape := ⟨2, ![128, 128]⟩
abbrev S128x1 : Shape := ⟨2, ![128, 1]⟩
abbrev S1x256 : Shape := ⟨2, ![1, 256]⟩
abbrev S128x256 : Shape := ⟨2, ![128, 256]⟩
abbrev S1x1x128x256 : Shape := ⟨4, ![1, 1, 128, 256]⟩
abbrev S1x128x256 : Shape := ⟨3, ![1, 128, 256]⟩
abbrev S1x1 : Shape := ⟨2, ![1, 1]⟩
abbrev S1x8x128 : Shape := ⟨3, ![1, 8, 128]⟩

abbrev nBuf : Space → Nat
  | .hbm => 108
  | .vmem => 18
  | .smem => 1
  | _ => 0

abbrev bufTy : (tb : Table) → Fin (tcTables nBuf tb) → BufTy
  | .hbm, ⟨0, _⟩ => ⟨S2304x1024, .bf16⟩
  | .hbm, ⟨1, _⟩ => ⟨S2304x1024, .bf16⟩
  | .hbm, ⟨2, _⟩ => ⟨S2304x14336, .bf16⟩
  | .hbm, ⟨3, _⟩ => ⟨S8, .f32⟩
  | .hbm, ⟨4, _⟩ => ⟨S2304x2048, .bf16⟩
  | .hbm, ⟨5, _⟩ => ⟨S8, .f32⟩
  | .hbm, ⟨6, _⟩ => ⟨S_, .f32⟩
  | .hbm, ⟨7, _⟩ => ⟨S8, .f32⟩
  | .hbm, ⟨8, _⟩ => ⟨S8, .f32⟩
  | .hbm, ⟨9, _⟩ => ⟨S8, .f32⟩
  | .hbm, ⟨10, _⟩ => ⟨S8, .f32⟩
  | .hbm, ⟨11, _⟩ => ⟨S8, .i1⟩
  | .hbm, ⟨12, _⟩ => ⟨S8, .f32⟩
  | .hbm, ⟨13, _⟩ => ⟨S8, .f32⟩
  | .hbm, ⟨14, _⟩ => ⟨S8, .f32⟩
  | .hbm, ⟨15, _⟩ => ⟨S8, .f32⟩
  | .hbm, ⟨16, _⟩ => ⟨S8, .f32⟩
  | .hbm, ⟨17, _⟩ => ⟨S8, .f32⟩
  | .hbm, ⟨18, _⟩ => ⟨S8, .f32⟩
  | .hbm, ⟨19, _⟩ => ⟨S8, .f32⟩
  | .hbm, ⟨20, _⟩ => ⟨S8, .f32⟩
  | .hbm, ⟨21, _⟩ => ⟨S2304x2048, .bf16⟩
  | .hbm, ⟨22, _⟩ => ⟨S128, .f32⟩
  | .hbm, ⟨23, _⟩ => ⟨S_, .f32⟩
  | .hbm, ⟨24, _⟩ => ⟨S128, .f32⟩
  | .hbm, ⟨25, _⟩ => ⟨S128, .f32⟩
  | .hbm, ⟨26, _⟩ => ⟨S1x128, .f32⟩
  | .hbm, ⟨27, _⟩ => ⟨S8x1, .f32⟩
  | .hbm, ⟨28, _⟩ => ⟨S8x128, .f32⟩
  | .hbm, ⟨29, _⟩ => ⟨S8x128, .f32⟩
  | .hbm, ⟨30, _⟩ => ⟨S8x128, .f32⟩
  | .hbm, ⟨31, _⟩ => ⟨S8x128, .f32⟩
  | .hbm, ⟨32, _⟩ => ⟨S_, .f32⟩
  | .hbm, ⟨33, _⟩ => ⟨S8, .f32⟩
  | .hbm, ⟨34, _⟩ => ⟨S8, .f32⟩
  | .hbm, ⟨35, _⟩ => ⟨S8, .f32⟩
  | .hbm, ⟨36, _⟩ => ⟨S2304x1024, .f32⟩
  | .hbm, ⟨37, _⟩ => ⟨S18x128x8x128, .f32⟩
  | .hbm, ⟨38, _⟩ => ⟨S2304x2048, .f32⟩
  | .hbm, ⟨39, _⟩ => ⟨S18x128x8x256, .f32⟩
  | .hbm, ⟨40, _⟩ => ⟨S128x8, .f32⟩
  | .hbm, ⟨41, _⟩ => ⟨S1x128x8x1, .f32⟩
  | .hbm, ⟨42, _⟩ => ⟨S18x128x8x128, .f32⟩
  | .hbm, ⟨43, _⟩ => ⟨S18x128x8x128, .f32⟩
  | .hbm, ⟨44, _⟩ => ⟨S8x18x128x256, .f32⟩
  | .hbm, ⟨45, _⟩ => ⟨S8x1x1x1, .f32⟩
  | .hbm, ⟨46, _⟩ => ⟨S8x1x128x256, .f32⟩
  | .hbm, ⟨47, _⟩ => ⟨S8x1x128x256, .f32⟩
  | .hbm, ⟨48, _⟩ => ⟨S8x1x128x256, .f32⟩
  | .hbm, ⟨49, _⟩ => ⟨S8x1x128x256, .f32⟩
  | .hbm, ⟨50, _⟩ => ⟨S8x1x128x256, .f32⟩
  | .hbm, ⟨51, _⟩ => ⟨S8x1x128x256, .f32⟩
  | .hbm, ⟨52, _⟩ => ⟨S8x1x128x256, .f32⟩
  | .hbm, ⟨53, _⟩ => ⟨S8x1x128x256, .f32⟩
  | .hbm, ⟨54, _⟩ => ⟨S8x1x128x256, .f32⟩
  | .hbm, ⟨55, _⟩ => ⟨S8x1x128x256, .f32⟩
  | .hbm, ⟨56, _⟩ => ⟨S8x1x128x256, .f32⟩
  | .hbm, ⟨57, _⟩ => ⟨S8x1x128x256, .f32⟩
  | .hbm, ⟨58, _⟩ => ⟨S8x1x128x256, .f32⟩
  | .hbm, ⟨59, _⟩ => ⟨S8x1x128x256, .f32⟩
  | .hbm, ⟨60, _⟩ => ⟨S8x1x128x256, .f32⟩
  | .hbm, ⟨61, _⟩ => ⟨S8x1x128x256, .f32⟩
  | .hbm, ⟨62, _⟩ => ⟨S8x1x128x256, .f32⟩
  | .hbm, ⟨63, _⟩ => ⟨S8x1x128x256, .f32⟩
  | .hbm, ⟨64, _⟩ => ⟨S8x1x128x256, .f32⟩
  | .hbm, ⟨65, _⟩ => ⟨S_, .f32⟩
  | .hbm, ⟨66, _⟩ => ⟨S8x1x128x256, .f32⟩
  | .hbm, ⟨67, _⟩ => ⟨S8x1x128x256, .f32⟩
  | .hbm, ⟨68, _⟩ => ⟨S8x1x128x256, .f32⟩
  | .hbm, ⟨69, _⟩ => ⟨S8x1x128x256, .f32⟩
  | .hbm, ⟨70, _⟩ => ⟨S8x1x128x256, .f32⟩
  | .hbm, ⟨71, _⟩ => ⟨S8x1x128x256, .f32⟩
  | .hbm, ⟨72, _⟩ => ⟨S8x1x128x256, .f32⟩
  | .hbm, ⟨73, _⟩ => ⟨S8x1x128x256, .f32⟩
  | .hbm, ⟨74, _⟩ => ⟨S8x1x128x256, .f32⟩
  | .hbm, ⟨75, _⟩ => ⟨S8x1x128x256, .f32⟩
  | .hbm, ⟨76, _⟩ => ⟨S8x1x128x256, .f32⟩
  | .hbm, ⟨77, _⟩ => ⟨S8x1x128x256, .f32⟩
  | .hbm, ⟨78, _⟩ => ⟨S8x1x128x256, .f32⟩
  | .hbm, ⟨79, _⟩ => ⟨S8x1x128x256, .f32⟩
  | .hbm, ⟨80, _⟩ => ⟨S8x1x128x256, .f32⟩
  | .hbm, ⟨81, _⟩ => ⟨S8x1x128x256, .f32⟩
  | .hbm, ⟨82, _⟩ => ⟨S8x1x128x256, .f32⟩
  | .hbm, ⟨83, _⟩ => ⟨S8x1x128x256, .f32⟩
  | .hbm, ⟨84, _⟩ => ⟨S8x1x128x256, .f32⟩
  | .hbm, ⟨85, _⟩ => ⟨S8x1x128x256, .f32⟩
  | .hbm, ⟨86, _⟩ => ⟨S8x1x128x256, .f32⟩
  | .hbm, ⟨87, _⟩ => ⟨S8x1x128x256, .f32⟩
  | .hbm, ⟨88, _⟩ => ⟨S8x1x128x256, .f32⟩
  | .hbm, ⟨89, _⟩ => ⟨S8x1x128x256, .f32⟩
  | .hbm, ⟨90, _⟩ => ⟨S8x1x128x256, .f32⟩
  | .hbm, ⟨91, _⟩ => ⟨S8x1x128x256, .f32⟩
  | .hbm, ⟨92, _⟩ => ⟨S8x1x128x256, .f32⟩
  | .hbm, ⟨93, _⟩ => ⟨S8x1x128x256, .f32⟩
  | .hbm, ⟨94, _⟩ => ⟨S8x1x128x256, .f32⟩
  | .hbm, ⟨95, _⟩ => ⟨S8x1x128x256, .f32⟩
  | .hbm, ⟨96, _⟩ => ⟨S8x1x128x256, .f32⟩
  | .hbm, ⟨97, _⟩ => ⟨S8x1x128x256, .f32⟩
  | .hbm, ⟨98, _⟩ => ⟨S8x1x128x256, .f32⟩
  | .hbm, ⟨99, _⟩ => ⟨S8x1x128x256, .f32⟩
  | .hbm, ⟨100, _⟩ => ⟨S8x1x128x256, .f32⟩
  | .hbm, ⟨101, _⟩ => ⟨S8x16x128x256, .f32⟩
  | .hbm, ⟨102, _⟩ => ⟨S8x2x128x256, .f32⟩
  | .hbm, ⟨103, _⟩ => ⟨S8x18x128x256, .f32⟩
  | .hbm, ⟨104, _⟩ => ⟨S2304x1024, .bf16⟩
  | .hbm, ⟨105, _⟩ => ⟨S2304x1024, .bf16⟩
  | .hbm, ⟨106, _⟩ => ⟨S2304x2048, .bf16⟩
  | .hbm, ⟨107, _⟩ => ⟨S8x8x128, .f32⟩
  | .local _ .vmem, ⟨0, _⟩ => ⟨S128x1024, .bf16⟩
  | .local _ .vmem, ⟨1, _⟩ => ⟨S128x1024, .bf16⟩
  | .local _ .vmem, ⟨2, _⟩ => ⟨S128x1024, .bf16⟩
  | .local _ .vmem, ⟨3, _⟩ => ⟨S128x1024, .bf16⟩
  | .local _ .vmem, ⟨4, _⟩ => ⟨S128x2048, .bf16⟩
  | .local _ .vmem, ⟨5, _⟩ => ⟨S128x2048, .bf16⟩
  | .local _ .vmem, ⟨6, _⟩ => ⟨S8x1x128x256, .f32⟩
  | .local _ .vmem, ⟨7, _⟩ => ⟨S8x1x128x256, .f32⟩
  | .local _ .vmem, ⟨8, _⟩ => ⟨S128x2048, .bf16⟩
  | .local _ .vmem, ⟨9, _⟩ => ⟨S128x2048, .bf16⟩
  | .local _ .vmem, ⟨10, _⟩ => ⟨S128x1024, .bf16⟩
  | .local _ .vmem, ⟨11, _⟩ => ⟨S128x1024, .bf16⟩
  | .local _ .vmem, ⟨12, _⟩ => ⟨S128x1024, .bf16⟩
  | .local _ .vmem, ⟨13, _⟩ => ⟨S128x1024, .bf16⟩
  | .local _ .vmem, ⟨14, _⟩ => ⟨S128x2048, .bf16⟩
  | .local _ .vmem, ⟨15, _⟩ => ⟨S128x2048, .bf16⟩
  | .local _ .vmem, ⟨16, _⟩ => ⟨S8x8x128, .f32⟩
  | .local _ .vmem, ⟨17, _⟩ => ⟨S8x128x256, .f32⟩
  | .local _ .smem, ⟨0, _⟩ => ⟨S8, .f32⟩
  | _, _ => ⟨S2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_call0_cst : Ref sig .tc := ⟨.hbm, 6, rfl⟩
abbrev main_call0_call0_v0 : Ref sig .tc := ⟨.hbm, 7, rfl⟩
abbrev main_call0_call0_v1 : Ref sig .tc := ⟨.hbm, 8, rfl⟩
abbrev main_call0_call0_v2 : Ref sig .tc := ⟨.hbm, 9, rfl⟩
abbrev main_call0_call0_v3 : Ref sig .tc := ⟨.hbm, 10, rfl⟩
abbrev main_call0_call0_v4 : Ref sig .tc := ⟨.hbm, 11, rfl⟩
abbrev main_call0_call0_v5 : Ref sig .tc := ⟨.hbm, 12, rfl⟩
abbrev main_call0_call0_v6 : Ref sig .tc := ⟨.hbm, 13, rfl⟩
abbrev main_call0_call0_v7 : Ref sig .tc := ⟨.hbm, 14, rfl⟩
abbrev main_call0_call0_v8 : Ref sig .tc := ⟨.hbm, 15, rfl⟩
abbrev main_call0_call0_v9 : Ref sig .tc := ⟨.hbm, 16, rfl⟩
abbrev main_call0_call0_v10 : Ref sig .tc := ⟨.hbm, 17, rfl⟩
abbrev main_call0_call0_v11 : Ref sig .tc := ⟨.hbm, 18, rfl⟩
abbrev main_call0_v1 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_cst : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst_0 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_1 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81_0 : Ref sig .tc := ⟨.hbm, 104, rfl⟩
abbrev main_v81_1 : Ref sig .tc := ⟨.hbm, 105, rfl⟩
abbrev main_v81_2 : Ref sig .tc := ⟨.hbm, 106, rfl⟩
abbrev main_v81_3 : Ref sig .tc := ⟨.hbm, 107, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_scratch0 : Ref sig .tc := ⟨.vmem, 17, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17

abbrev nD : Nat := 1
abbrev τ : Topo := Topo.v7x

variable {F : FTy → Type} [FloatOps F]

abbrev grid0 : Pipeline.Grid := ⟨2, ![1, 18], ![false, false]⟩

def k0_off1 (i : grid0.Coords) (c0_i32_1 : BitVec 32) : Fin 1 → Nat :=
  let arg0 : BitVec 32 := BitVec.ofNat 32 (i 0).val
  let c8_i32 : BitVec 32 := 8#32
  let v3 : BitVec 32 := Scalar.muli arg0 c8_i32
  let v4 : BitVec 32 := Scalar.addi v3 c0_i32_1
  let v5 : Index := Scalar.indexCast v4
  ![v5.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.subi c17_i32 arg1
  let c16_i32 : BitVec 32 := 16#32
  let v1 : BitVec 32 := Scalar.addi v0 c16_i32
  let c18_i32 : BitVec 32 := 18#32
  let c0_i32 : BitVec 32 := 0#32
  let v2 : BitVec 1 := Scalar.cmpi .eq c18_i32 c0_i32
  let c1_i32 : BitVec 32 := 1#32
  let v3 : BitVec 32 := Scalar.select v2 c1_i32 c18_i32
  let v4 : BitVec 32 := Scalar.remsi v1 v3
  let c0_i32_0 : BitVec 32 := 0#32
  let v5 : BitVec 1 := Scalar.cmpi .ne v4 c0_i32_0
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let v9 : BitVec 1 := Scalar.andi v8 v5
  let v10 : BitVec 32 := Scalar.addi v4 v3
  let v11 : BitVec 32 := Scalar.select v9 v10 v4
  let c0_i32_3 : BitVec 32 := 0#32
  ![v11.toNat, arg0.toNat]

def cc0_transform_2 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.subi c17_i32 arg1
  let c16_i32 : BitVec 32 := 16#32
  let v1 : BitVec 32 := Scalar.addi v0 c16_i32
  let c18_i32 : BitVec 32 := 18#32
  let c0_i32 : BitVec 32 := 0#32
  let v2 : BitVec 1 := Scalar.cmpi .eq c18_i32 c0_i32
  let c1_i32 : BitVec 32 := 1#32
  let v3 : BitVec 32 := Scalar.select v2 c1_i32 c18_i32
  let v4 : BitVec 32 := Scalar.remsi v1 v3
  let c0_i32_0 : BitVec 32 := 0#32
  let v5 : BitVec 1 := Scalar.cmpi .ne v4 c0_i32_0
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let v9 : BitVec 1 := Scalar.andi v8 v5
  let v10 : BitVec 32 := Scalar.addi v4 v3
  let v11 : BitVec 32 := Scalar.select v9 v10 v4
  let c0_i32_3 : BitVec 32 := 0#32
  ![v11.toNat, arg0.toNat]

def cc0_transform_3 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.subi c17_i32 arg1
  let c16_i32 : BitVec 32 := 16#32
  let v1 : BitVec 32 := Scalar.addi v0 c16_i32
  let c18_i32 : BitVec 32 := 18#32
  let c0_i32 : BitVec 32 := 0#32
  let v2 : BitVec 1 := Scalar.cmpi .eq c18_i32 c0_i32
  let c1_i32 : BitVec 32 := 1#32
  let v3 : BitVec 32 := Scalar.select v2 c1_i32 c18_i32
  let v4 : BitVec 32 := Scalar.remsi v1 v3
  let c0_i32_0 : BitVec 32 := 0#32
  let v5 : BitVec 1 := Scalar.cmpi .ne v4 c0_i32_0
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let v9 : BitVec 1 := Scalar.andi v8 v5
  let v10 : BitVec 32 := Scalar.addi v4 v3
  let v11 : BitVec 32 := Scalar.select v9 v10 v4
  let c3_i32 : BitVec 32 := 3#32
  let v12 : BitVec 32 := Scalar.addi c3_i32 arg0
  let c0_i32_3 : BitVec 32 := 0#32
  ![v11.toNat, v12.toNat]

def cc0_transform_4 (i : grid0.Coords) : Fin 4 → Nat :=
  let arg0 : BitVec 32 := BitVec.ofNat 32 (i 0).val
  let arg1 : BitVec 32 := BitVec.ofNat 32 (i 1).val
  let c17_i32 : BitVec 32 := 17#32
  let v0 : BitVec 32 := Scalar.subi c17_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.subi c17_i32 arg1
  let c16_i32 : BitVec 32 := 16#32
  let v1 : BitVec 32 := Scalar.addi v0 c16_i32
  let c18_i32 : BitVec 32 := 18#32
  let c0_i32 : BitVec 32 := 0#32
  let v2 : BitVec 1 := Scalar.cmpi .eq c18_i32 c0_i32
  let c1_i32 : BitVec 32 := 1#32
  let v3 : BitVec 32 := Scalar.select v2 c1_i32 c18_i32
  let v4 : BitVec 32 := Scalar.remsi v1 v3
  let c0_i32_0 : BitVec 32 := 0#32
  let v5 : BitVec 1 := Scalar.cmpi .ne v4 c0_i32_0
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let v9 : BitVec 1 := Scalar.andi v8 v5
  let v10 : BitVec 32 := Scalar.addi v4 v3
  let v11 : BitVec 32 := Scalar.select v9 v10 v4
  let c0_i32_3 : BitVec 32 := 0#32
  ![v11.toNat, arg0.toNat]

def cc0_transform_6 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.subi c17_i32 arg1
  let c16_i32 : BitVec 32 := 16#32
  let v1 : BitVec 32 := Scalar.addi v0 c16_i32
  let c18_i32 : BitVec 32 := 18#32
  let c0_i32 : BitVec 32 := 0#32
  let v2 : BitVec 1 := Scalar.cmpi .eq c18_i32 c0_i32
  let c1_i32 : BitVec 32 := 1#32
  let v3 : BitVec 32 := Scalar.select v2 c1_i32 c18_i32
  let v4 : BitVec 32 := Scalar.remsi v1 v3
  let c0_i32_0 : BitVec 32 := 0#32
  let v5 : BitVec 1 := Scalar.cmpi .ne v4 c0_i32_0
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let v9 : BitVec 1 := Scalar.andi v8 v5
  let v10 : BitVec 32 := Scalar.addi v4 v3
  let v11 : BitVec 32 := Scalar.select v9 v10 v4
  let c0_i32_3 : BitVec 32 := 0#32
  ![v11.toNat, arg0.toNat]

def cc0_transform_7 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.subi c17_i32 arg1
  let c16_i32 : BitVec 32 := 16#32
  let v1 : BitVec 32 := Scalar.addi v0 c16_i32
  let c18_i32 : BitVec 32 := 18#32
  let c0_i32 : BitVec 32 := 0#32
  let v2 : BitVec 1 := Scalar.cmpi .eq c18_i32 c0_i32
  let c1_i32 : BitVec 32 := 1#32
  let v3 : BitVec 32 := Scalar.select v2 c1_i32 c18_i32
  let v4 : BitVec 32 := Scalar.remsi v1 v3
  let c0_i32_0 : BitVec 32 := 0#32
  let v5 : BitVec 1 := Scalar.cmpi .ne v4 c0_i32_0
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let v9 : BitVec 1 := Scalar.andi v8 v5
  let v10 : BitVec 32 := Scalar.addi v4 v3
  let v11 : BitVec 32 := Scalar.select v9 v10 v4
  let c0_i32_3 : BitVec 32 := 0#32
  ![v11.toNat, arg0.toNat]

def cc0_transform_8 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.subi c17_i32 arg1
  let c16_i32 : BitVec 32 := 16#32
  let v1 : BitVec 32 := Scalar.addi v0 c16_i32
  let c18_i32 : BitVec 32 := 18#32
  let c0_i32 : BitVec 32 := 0#32
  let v2 : BitVec 1 := Scalar.cmpi .eq c18_i32 c0_i32
  let c1_i32 : BitVec 32 := 1#32
  let v3 : BitVec 32 := Scalar.select v2 c1_i32 c18_i32
  let v4 : BitVec 32 := Scalar.remsi v1 v3
  let c0_i32_0 : BitVec 32 := 0#32
  let v5 : BitVec 1 := Scalar.cmpi .ne v4 c0_i32_0
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let v9 : BitVec 1 := Scalar.andi v8 v5
  let v10 : BitVec 32 := Scalar.addi v4 v3
  let v11 : BitVec 32 := Scalar.select v9 v10 v4
  let c0_i32_3 : BitVec 32 := 0#32
  ![v11.toNat, arg0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x1x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S8x8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false]
-- ==== ReferenceIdeal.lean ====
abbrev S2304x1024 : Shape := ⟨2, ![2304, 1024]⟩
abbrev S2304x14336 : Shape := ⟨2, ![2304, 14336]⟩
abbrev S8 : Shape := ⟨1, ![8]⟩
abbrev S2304x2048 : Shape := ⟨2, ![2304, 2048]⟩
abbrev S_ : Shape := ⟨0, ![]⟩
abbrev S256x1024 : Shape := ⟨2, ![256, 1024]⟩
abbrev S2048x1024 : Shape := ⟨2, ![2048, 1024]⟩
abbrev S2304x8x128 : Shape := ⟨3, ![2304, 8, 128]⟩
abbrev S8x2304x128 : Shape := ⟨3, ![8, 2304, 128]⟩
abbrev S256x2048 : Shape := ⟨2, ![256, 2048]⟩
abbrev S2048x2048 : Shape := ⟨2, ![2048, 2048]⟩
abbrev S2304x8x256 : Shape := ⟨3, ![2304, 8, 256]⟩
abbrev S8x2304x256 : Shape := ⟨3, ![8, 2304, 256]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S8x1x1 : Shape := ⟨3, ![8, 1, 1]⟩
abbrev S1x128x128 : Shape := ⟨3, ![1, 128, 128]⟩
abbrev S8x128x128 : Shape := ⟨3, ![8, 128, 128]⟩
abbrev S8x1 : Shape := ⟨2, ![8, 1]⟩
abbrev S8x128 : Shape := ⟨2, ![8, 128]⟩
abbrev S8x18x128x128 : Shape := ⟨4, ![8, 18, 128, 128]⟩
abbrev S8x18x128x256 : Shape := ⟨4, ![8, 18, 128, 256]⟩
abbrev S8x1x128x128 : Shape := ⟨4, ![8, 1, 128, 128]⟩
abbrev S8x1x128x1 : Shape := ⟨4, ![8, 1, 128, 1]⟩
abbrev S8x1x1x1 : Shape := ⟨4, ![8, 1, 1, 1]⟩
abbrev S8x1x128x256 : Shape := ⟨4, ![8, 1, 128, 256]⟩
abbrev S8x16x128x256 : Shape := ⟨4, ![8, 16, 128, 256]⟩
abbrev S8x2x128x256 : Shape := ⟨4, ![8, 2, 128, 256]⟩
abbrev S8x18x256x128 : Shape := ⟨4, ![8, 18, 256, 128]⟩
abbrev S8x8x128 : Shape := ⟨3, ![8, 8, 128]⟩

abbrev nBuf : Space → Nat
  | .hbm => 385
  | .vmem => 0
  | .smem => 0
  | _ => 0

abbrev hbmTy0_0 (i : Nat) : BufTy := match i % 128 with
  | 0 => ⟨S2304x1024, .bf16⟩
  | 1 => ⟨S2304x1024, .bf16⟩
  | 2 => ⟨S2304x14336, .bf16⟩
  | 3 => ⟨S8, .f32⟩
  | 4 => ⟨S2304x2048, .bf16⟩
  | 5 => ⟨S8, .f32⟩
  | 6 => ⟨S_, .f32⟩
  | 7 => ⟨S8, .f32⟩
  | 8 => ⟨S8, .f32⟩
  | 9 => ⟨S8, .f32⟩
  | 10 => ⟨S8, .f32⟩
  | 11 => ⟨S8, .i1⟩
  | 12 => ⟨S8, .f32⟩
  | 13 => ⟨S8, .f32⟩
  | 14 => ⟨S8, .f32⟩
  | 15 => ⟨S8, .f32⟩
  | 16 => ⟨S8, .f32⟩
  | 17 => ⟨S8, .f32⟩
  | 18 => ⟨S8, .f32⟩
  | 19 => ⟨S8, .f32⟩
  | 20 => ⟨S8, .f32⟩
  | 21 => ⟨S2304x2048, .bf16⟩
  | 22 => ⟨S2304x1024, .f32⟩
  | 23 => ⟨S2304x1024, .f32⟩
  | 24 => ⟨S2304x2048, .f32⟩
  | 25 => ⟨S256x1024, .f32⟩
  | 26 => ⟨S2048x1024, .f32⟩
  | 27 => ⟨S2304x1024, .f32⟩
  | 28 => ⟨S2304x8x128, .f32⟩
  | 29 => ⟨S8x2304x128, .f32⟩
  | 30 => ⟨S256x1024, .f32⟩
  | 31 => ⟨S2048x1024, .f32⟩
  | 32 => ⟨S2304x1024, .f32⟩
  | 33 => ⟨S2304x8x128, .f32⟩
  | 34 => ⟨S8x2304x128, .f32⟩
  | 35 => ⟨S256x2048, .f32⟩
  | 36 => ⟨S2048x2048, .f32⟩
  | 37 => ⟨S2304x2048, .f32⟩
  | 38 => ⟨S2304x8x256, .f32⟩
  | 39 => ⟨S8x2304x256, .f32⟩
  | 40 => ⟨S128, .f32⟩
  | 41 => ⟨S128x1, .f32⟩
  | 42 => ⟨S1x128, .f32⟩
  | 43 => ⟨S128x128, .f32⟩
  | 44 => ⟨S128x128, .f32⟩
  | 45 => ⟨S128x128, .f32⟩
  | 46 => ⟨S_, .f32⟩
  | 47 => ⟨S128x128, .f32⟩
  | 48 => ⟨S128x128, .i1⟩
  | 49 => ⟨S_, .f32⟩
  | 50 => ⟨S128x128, .f32⟩
  | 51 => ⟨S128x128, .f32⟩
  | 52 => ⟨S8x1x1, .f32⟩
  | 53 => ⟨S1x128x128, .f32⟩
  | 54 => ⟨S8x128x128, .f32⟩
  | 55 => ⟨S8x128x128, .f32⟩
  | 56 => ⟨S8x128x128, .f32⟩
  | 57 => ⟨S8x128x128, .f32⟩
  | 58 => ⟨S_, .f32⟩
  | 59 => ⟨S_, .f32⟩
  | 60 => ⟨S8x128x128, .i1⟩
  | 61 => ⟨S8x128x128, .f32⟩
  | 62 => ⟨S8x128x128, .f32⟩
  | 63 => ⟨S_, .f32⟩
  | 64 => ⟨S8x128x128, .f32⟩
  | 65 => ⟨S_, .f32⟩
  | 66 => ⟨S128, .f32⟩
  | 67 => ⟨S128, .f32⟩
  | 68 => ⟨S1x128, .f32⟩
  | 69 => ⟨S8x1, .f32⟩
  | 70 => ⟨S8x128, .f32⟩
  | 71 => ⟨S8x128, .f32⟩
  | 72 => ⟨S8x128, .f32⟩
  | 73 => ⟨S8x128, .f32⟩
  | 74 => ⟨S_, .f32⟩
  | 75 => ⟨S128, .f32⟩
  | 76 => ⟨S128, .f32⟩
  | 77 => ⟨S1x128, .f32⟩
  | 78 => ⟨S8x1, .f32⟩
  | 79 => ⟨S8x128, .f32⟩
  | 80 => ⟨S8x128, .f32⟩
  | 81 => ⟨S8x128, .f32⟩
  | 82 => ⟨S8x128, .f32⟩
  | 83 => ⟨S_, .f32⟩
  | 84 => ⟨S8, .f32⟩
  | 85 => ⟨S8, .f32⟩
  | 86 => ⟨S8, .f32⟩
  | 87 => ⟨S8x18x128x128, .f32⟩
  | 88 => ⟨S8x18x128x128, .f32⟩
  | 89 => ⟨S8x18x128x256, .f32⟩
  | 90 => ⟨S8x18x128x128, .f32⟩
  | 91 => ⟨S8x1x128x128, .f32⟩
  | 92 => ⟨S8x18x128x128, .f32⟩
  | 93 => ⟨S8x18x128x128, .f32⟩
  | 94 => ⟨S8x18x128x256, .f32⟩
  | 95 => ⟨S8x1x128x1, .f32⟩
  | 96 => ⟨S8x18x128x128, .f32⟩
  | 97 => ⟨S8x18x128x128, .f32⟩
  | 98 => ⟨S8x18x128x256, .f32⟩
  | 99 => ⟨S8x1x1x1, .f32⟩
  | 100 => ⟨S8x1x128x256, .f32⟩
  | 101 => ⟨S_, .f32⟩
  | 102 => ⟨S8x1x128x256, .f32⟩
  | 103 => ⟨S8x1x128x256, .f32⟩
  | 104 => ⟨S8x1x128x256, .f32⟩
  | 105 => ⟨S8x1x128x256, .f32⟩
  | 106 => ⟨S8x1x128x256, .f32⟩
  | 107 => ⟨S8x1x128x256, .f32⟩
  | 108 => ⟨S8x1x128x256, .f32⟩
  | 109 => ⟨S8x1x128x256, .f32⟩
  | 110 => ⟨S8x1x128x256, .f32⟩
  | 111 => ⟨S8x1x128x256, .f32⟩
  | 112 => ⟨S8x1x128x256, .f32⟩
  | 113 => ⟨S8x1x128x256, .f32⟩
  | 114 => ⟨S8x1x128x256, .f32⟩
  | 115 => ⟨S8x1x128x256, .f32⟩
  | 116 => ⟨S8x1x128x256, .f32⟩
  | 117 => ⟨S8x1x128x256, .f32⟩
  | 118 => ⟨S8x1x128x256, .f32⟩
  | 119 => ⟨S8x1x128x256, .f32⟩
  | 120 => ⟨S8x1x128x256, .f32⟩
  | 121 => ⟨S8x1x128x256, .f32⟩
  | 122 => ⟨S8x1x128x256, .f32⟩
  | 123 => ⟨S8x1x128x256, .f32⟩
  | 124 => ⟨S8x1x128x256, .f32⟩
  | 125 => ⟨S8x1x128x256, .f32⟩
  | 126 => ⟨S8x1x128x256, .f32⟩
  | 127 => ⟨S8x1x128x256, .f32⟩
  | _ => ⟨S2304x1024, .bf16⟩

abbrev hbmTy0_1 (i : Nat) : BufTy := match i % 128 with
  | 0 => ⟨S8x1x128x256, .f32⟩
  | 1 => ⟨S8x1x128x256, .f32⟩
  | 2 => ⟨S8x1x128x256, .f32⟩
  | 3 => ⟨S8x1x128x256, .f32⟩
  | 4 => ⟨S8x1x128x256, .f32⟩
  | 5 => ⟨S8x1x128x256, .f32⟩
  | 6 => ⟨S8x1x128x256, .f32⟩
  | 7 => ⟨S8x1x128x256, .f32⟩
  | 8 => ⟨S8x1x128x256, .f32⟩
  | 9 => ⟨S8x1x128x256, .f32⟩
  | 10 => ⟨S8x1x128x256, .f32⟩
  | 11 => ⟨S8x1x128x256, .f32⟩
  | 12 => ⟨S8x1x128x256, .f32⟩
  | 13 => ⟨S8x1x128x256, .f32⟩
  | 14 => ⟨S8x1x128x256, .f32⟩
  | 15 => ⟨S8x1x128x256, .f32⟩
  | 16 => ⟨S8x1x128x256, .f32⟩
  | 17 => ⟨S8x1x128x256, .f32⟩
  | 18 => ⟨S8x1x128x256, .f32⟩
  | 19 => ⟨S8x1x128x256, .f32⟩
  | 20 => ⟨S8x1x128x256, .f32⟩
  | 21 => ⟨S8x1x128x256, .f32⟩
  | 22 => ⟨S8x1x128x256, .f32⟩
  | 23 => ⟨S8x1x128x256, .f32⟩
  | 24 => ⟨S8x1x128x256, .f32⟩
  | 25 => ⟨S8x1x128x256, .f32⟩
  | 26 => ⟨S8x1x128x256, .f32⟩
  | 27 => ⟨S8x1x128x256, .f32⟩
  | 28 => ⟨S8x1x128x256, .f32⟩
  | 29 => ⟨S8x16x128x256, .f32⟩
  | 30 => ⟨S8x2x128x256, .f32⟩
  | 31 => ⟨S8x18x128x256, .f32⟩
  | 32 => ⟨S_, .f32⟩
  | 33 => ⟨S8x1x128x256, .f32⟩
  | 34 => ⟨S8x1x128x1, .f32⟩
  | 35 => ⟨S8x18x128x128, .f32⟩
  | 36 => ⟨S8x18x128x128, .f32⟩
  | 37 => ⟨S8x18x128x256, .f32⟩
  | 38 => ⟨S8x18x128x256, .f32⟩
  | 39 => ⟨S8x2304x256, .f32⟩
  | 40 => ⟨S2304x8x256, .f32⟩
  | 41 => ⟨S2304x2048, .f32⟩
  | 42 => ⟨S2048x2048, .f32⟩
  | 43 => ⟨S256x2048, .f32⟩
  | 44 => ⟨S2304x2048, .f32⟩
  | 45 => ⟨S2304x2048, .f32⟩
  | 46 => ⟨S2048x2048, .f32⟩
  | 47 => ⟨S256x2048, .f32⟩
  | 48 => ⟨S_, .f32⟩
  | 49 => ⟨S2304x2048, .f32⟩
  | 50 => ⟨S_, .f32⟩
  | 51 => ⟨S2304x2048, .f32⟩
  | 52 => ⟨S2304x2048, .f32⟩
  | 53 => ⟨S2304x8x256, .f32⟩
  | 54 => ⟨S8x2304x256, .f32⟩
  | 55 => ⟨S8x18x128x256, .f32⟩
  | 56 => ⟨S8x18x256x128, .f32⟩
  | 57 => ⟨S8x18x128x256, .f32⟩
  | 58 => ⟨S8x18x128x128, .f32⟩
  | 59 => ⟨S8x18x128x128, .f32⟩
  | 60 => ⟨S_, .f32⟩
  | 61 => ⟨S8x128, .f32⟩
  | 62 => ⟨S8x1x128x1, .f32⟩
  | 63 => ⟨S8x18x128x128, .f32⟩
  | 64 => ⟨S8x18x128x128, .f32⟩
  | 65 => ⟨S_, .f32⟩
  | 66 => ⟨S8x128, .f32⟩
  | 67 => ⟨S8x1x128x256, .f32⟩
  | 68 => ⟨S8x1x128x256, .f32⟩
  | 69 => ⟨S8x1x128x256, .f32⟩
  | 70 => ⟨S8x1x128x256, .f32⟩
  | 71 => ⟨S8x1x128x256, .f32⟩
  | 72 => ⟨S8x1x128x256, .f32⟩
  | 73 => ⟨S8x1x128x256, .f32⟩
  | 74 => ⟨S8x1x128x256, .f32⟩
  | 75 => ⟨S8x1x128x256, .f32⟩
  | 76 => ⟨S8x1x128x256, .f32⟩
  | 77 => ⟨S8x1x128x256, .f32⟩
  | 78 => ⟨S8x1x128x256, .f32⟩
  | 79 => ⟨S8x1x128x256, .f32⟩
  | 80 => ⟨S8x1x128x256, .f32⟩
  | 81 => ⟨S8x1x128x256, .f32⟩
  | 82 => ⟨S8x1x128x256, .f32⟩
  | 83 => ⟨S8x1x128x256, .f32⟩
  | 84 => ⟨S8x1x128x256, .f32⟩
  | 85 => ⟨S8x1x128x256, .f32⟩
  | 86 => ⟨S8x1x128x256, .f32⟩
  | 87 => ⟨S8x1x128x256, .f32⟩
  | 88 => ⟨S8x1x128x256, .f32⟩
  | 89 => ⟨S8x1x128x256, .f32⟩
  | 90 => ⟨S8x1x128x256, .f32⟩
  | 91 => ⟨S8x1x128x256, .f32⟩
  | 92 => ⟨S8x1x128x256, .f32⟩
  | 93 => ⟨S8x1x128x256, .f32⟩
  | 94 => ⟨S8x1x128x256, .f32⟩
  | 95 => ⟨S8x1x128x256, .f32⟩
  | 96 => ⟨S8x1x128x256, .f32⟩
  | 97 => ⟨S8x1x128x256, .f32⟩
  | 98 => ⟨S8x1x128x256, .f32⟩
  | 99 => ⟨S8x1x128x256, .f32⟩
  | 100 => ⟨S8x1x128x256, .f32⟩
  | 101 => ⟨S8x1x128x256, .f32⟩
  | 102 => ⟨S8x1x128x256, .f32⟩
  | 103 => ⟨S8x1x128x256, .f32⟩
  | 104 => ⟨S8x1x128x256, .f32⟩
  | 105 => ⟨S8x1x128x256, .f32⟩
  | 106 => ⟨S8x1x128x256, .f32⟩
  | 107 => ⟨S8x1x128x256, .f32⟩
  | 108 => ⟨S8x1x128x256, .f32⟩
  | 109 => ⟨S8x1x128x256, .f32⟩
  | 110 => ⟨S8x1x128x256, .f32⟩
  | 111 => ⟨S8x1x128x256, .f32⟩
  | 112 => ⟨S8x1x128x256, .f32⟩
  | 113 => ⟨S8x1x128x256, .f32⟩
  | 114 => ⟨S8x1x128x256, .f32⟩
  | 115 => ⟨S8x1x128x256, .f32⟩
  | 116 => ⟨S8x1x128x256, .f32⟩
  | 117 => ⟨S8x1x128x256, .f32⟩
  | 118 => ⟨S8x1x128x256, .f32⟩
  | 119 => ⟨S8x1x128x256, .f32⟩
  | 120 => ⟨S8x1x128x256, .f32⟩
  | 121 => ⟨S8x1x128x256, .f32⟩
  | 122 => ⟨S8x1x128x256, .f32⟩
  | 123 => ⟨S8x1x128x256, .f32⟩
  | 124 => ⟨S8x1x128x256, .f32⟩
  | 125 => ⟨S8x1x128x256, .f32⟩
  | 126 => ⟨S8x1x128x256, .f32⟩
  | 127 => ⟨S8x1x128x256, .f32⟩
  | _ => ⟨S2304x1024, .bf16⟩

abbrev hbmTy0_2 (i : Nat) : BufTy := match i % 128 with
  | 0 => ⟨S8x1x128x256, .f32⟩
  | 1 => ⟨S8x1x128x256, .f32⟩
  | 2 => ⟨S8x1x128x256, .f32⟩
  | 3 => ⟨S8x1x128x256, .f32⟩
  | 4 => ⟨S8x1x128x256, .f32⟩
  | 5 => ⟨S8x1x128x256, .f32⟩
  | 6 => ⟨S8x1x128x256, .f32⟩
  | 7 => ⟨S8x1x128x256, .f32⟩
  | 8 => ⟨S8x1x128x256, .f32⟩
  | 9 => ⟨S8x1x128x256, .f32⟩
  | 10 => ⟨S8x1x128x256, .f32⟩
  | 11 => ⟨S8x1x128x256, .f32⟩
  | 12 => ⟨S8x1x128x256, .f32⟩
  | 13 => ⟨S8x1x128x256, .f32⟩
  | 14 => ⟨S8x1x128x256, .f32⟩
  | 15 => ⟨S8x1x128x256, .f32⟩
  | 16 => ⟨S8x1x128x256, .f32⟩
  | 17 => ⟨S8x1x128x256, .f32⟩
  | 18 => ⟨S8x1x128x256, .f32⟩
  | 19 => ⟨S8x1x128x256, .f32⟩
  | 20 => ⟨S8x1x128x256, .f32⟩
  | 21 => ⟨S8x1x128x256, .f32⟩
  | 22 => ⟨S_, .f32⟩
  | 23 => ⟨S8x1x128x256, .f32⟩
  | 24 => ⟨S8x16x128x256, .f32⟩
  | 25 => ⟨S8x2x128x256, .f32⟩
  | 26 => ⟨S8x18x128x256, .f32⟩
  | 27 => ⟨S_, .f32⟩
  | 28 => ⟨S8, .f32⟩
  | 29 => ⟨S8x1x1x1, .f32⟩
  | 30 => ⟨S_, .f32⟩
  | 31 => ⟨S8, .f32⟩
  | 32 => ⟨S8x18x256x128, .f32⟩
  | 33 => ⟨S8x18x128x256, .f32⟩
  | 34 => ⟨S8x18x128x128, .f32⟩
  | 35 => ⟨S8x18x128x128, .f32⟩
  | 36 => ⟨S8x18x128x128, .f32⟩
  | 37 => ⟨S_, .f32⟩
  | 38 => ⟨S8x128, .f32⟩
  | 39 => ⟨S8x1x128x1, .f32⟩
  | 40 => ⟨S8x18x128x128, .f32⟩
  | 41 => ⟨S8x18x128x128, .f32⟩
  | 42 => ⟨S_, .f32⟩
  | 43 => ⟨S8x128, .f32⟩
  | 44 => ⟨S8x18x256x128, .f32⟩
  | 45 => ⟨S8x18x128x256, .f32⟩
  | 46 => ⟨S8x18x128x256, .f32⟩
  | 47 => ⟨S8x18x128x128, .f32⟩
  | 48 => ⟨S8x18x128x128, .f32⟩
  | 49 => ⟨S_, .f32⟩
  | 50 => ⟨S8x128x128, .f32⟩
  | 51 => ⟨S8x1x128x128, .f32⟩
  | 52 => ⟨S8x18x128x128, .f32⟩
  | 53 => ⟨S8x18x128x128, .f32⟩
  | 54 => ⟨S_, .f32⟩
  | 55 => ⟨S8x128x128, .f32⟩
  | 56 => ⟨S8x18x128x128, .f32⟩
  | 57 => ⟨S8x18x128x128, .f32⟩
  | 58 => ⟨S8x18x128x128, .f32⟩
  | 59 => ⟨S8x18x128x128, .f32⟩
  | 60 => ⟨S8x2304x256, .f32⟩
  | 61 => ⟨S8x2304x128, .f32⟩
  | 62 => ⟨S8x2304x128, .f32⟩
  | 63 => ⟨S8, .f32⟩
  | 64 => ⟨S_, .f32⟩
  | 65 => ⟨S8, .f32⟩
  | 66 => ⟨S8, .f32⟩
  | 67 => ⟨S8x128, .f32⟩
  | 68 => ⟨S8x128, .f32⟩
  | 69 => ⟨S8x128, .f32⟩
  | 70 => ⟨S_, .f32⟩
  | 71 => ⟨S8, .f32⟩
  | 72 => ⟨S8x1, .f32⟩
  | 73 => ⟨S_, .f32⟩
  | 74 => ⟨S8, .f32⟩
  | 75 => ⟨S8, .f32⟩
  | 76 => ⟨S8x128, .f32⟩
  | 77 => ⟨S8x128, .f32⟩
  | 78 => ⟨S8x128, .f32⟩
  | 79 => ⟨S_, .f32⟩
  | 80 => ⟨S8, .f32⟩
  | 81 => ⟨S8x1, .f32⟩
  | 82 => ⟨S_, .f32⟩
  | 83 => ⟨S8, .f32⟩
  | 84 => ⟨S8, .f32⟩
  | 85 => ⟨S_, .f32⟩
  | 86 => ⟨S8x128x128, .f32⟩
  | 87 => ⟨S8x128x128, .f32⟩
  | 88 => ⟨S8x128x128, .f32⟩
  | 89 => ⟨S8x128x128, .f32⟩
  | 90 => ⟨S8x128x128, .f32⟩
  | 91 => ⟨S_, .f32⟩
  | 92 => ⟨S8, .f32⟩
  | 93 => ⟨S8x1x1, .f32⟩
  | 94 => ⟨S_, .f32⟩
  | 95 => ⟨S8, .f32⟩
  | 96 => ⟨S8, .f32⟩
  | 97 => ⟨S2304x8x256, .f32⟩
  | 98 => ⟨S2304x2048, .f32⟩
  | 99 => ⟨S256x2048, .f32⟩
  | 100 => ⟨S2048x2048, .f32⟩
  | 101 => ⟨S_, .f32⟩
  | 102 => ⟨S2304x2048, .f32⟩
  | 103 => ⟨S_, .f32⟩
  | 104 => ⟨S2304x2048, .f32⟩
  | 105 => ⟨S2304x2048, .f32⟩
  | 106 => ⟨S2304x8x128, .f32⟩
  | 107 => ⟨S2304x1024, .f32⟩
  | 108 => ⟨S256x1024, .f32⟩
  | 109 => ⟨S2048x1024, .f32⟩
  | 110 => ⟨S_, .f32⟩
  | 111 => ⟨S2304x1024, .f32⟩
  | 112 => ⟨S_, .f32⟩
  | 113 => ⟨S2304x1024, .f32⟩
  | 114 => ⟨S2304x1024, .f32⟩
  | 115 => ⟨S2304x8x128, .f32⟩
  | 116 => ⟨S2304x1024, .f32⟩
  | 117 => ⟨S256x1024, .f32⟩
  | 118 => ⟨S2048x1024, .f32⟩
  | 119 => ⟨S_, .f32⟩
  | 120 => ⟨S2304x1024, .f32⟩
  | 121 => ⟨S_, .f32⟩
  | 122 => ⟨S2304x1024, .f32⟩
  | 123 => ⟨S2304x1024, .f32⟩
  | 124 => ⟨S2304x1024, .bf16⟩
  | 125 => ⟨S2304x1024, .bf16⟩
  | 126 => ⟨S2304x2048, .bf16⟩
  | 127 => ⟨S8x1x1, .f32⟩
  | _ => ⟨S2304x1024, .bf16⟩

abbrev hbmTy0_3 (i : Nat) : BufTy := match i % 128 with
  | 0 => ⟨S8x8x128, .f32⟩
  | _ => ⟨S2304x1024, .bf16⟩

abbrev hbmTy (i : Nat) : BufTy := match i / 128 with
  | 0 => hbmTy0_0 i
  | 1 => hbmTy0_1 i
  | 2 => hbmTy0_2 i
  | 3 => hbmTy0_3 i
  | _ => ⟨S2304x1024, .bf16⟩

abbrev bufTy : (tb : Table) → Fin (tcTables nBuf tb) → BufTy
  | .hbm, ⟨i, _⟩ => hbmTy i
  | _, _ => ⟨S2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_call0_cst : Ref sig .tc := ⟨.hbm, 6, rfl⟩
abbrev main_call0_call0_v0 : Ref sig .tc := ⟨.hbm, 7, rfl⟩
abbrev main_call0_call0_v1 : Ref sig .tc := ⟨.hbm, 8, rfl⟩
abbrev main_call0_call0_v2 : Ref sig .tc := ⟨.hbm, 9, rfl⟩
abbrev main_call0_call0_v3 : Ref sig .tc := ⟨.hbm, 10, rfl⟩
abbrev main_call0_call0_v4 : Ref sig .tc := ⟨.hbm, 11, rfl⟩
abbrev main_call0_call0_v5 : Ref sig .tc := ⟨.hbm, 12, rfl⟩
abbrev main_call0_call0_v6 : Ref sig .tc := ⟨.hbm, 13, rfl⟩
abbrev main_call0_call0_v7 : Ref sig .tc := ⟨.hbm, 14, rfl⟩
abbrev main_call0_call0_v8 : Ref sig .tc := ⟨.hbm, 15, rfl⟩
abbrev main_call0_call0_v9 : Ref sig .tc := ⟨.hbm, 16, rfl⟩
abbrev main_call0_call0_v10 : Ref sig .tc := ⟨.hbm, 17, rfl⟩
abbrev main_call0_call0_v11 : Ref sig .tc := ⟨.hbm, 18, rfl⟩
abbrev main_call0_v1 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst : Ref sig .tc := ⟨.hbm, 46, rfl⟩
abbrev main_v26 : Ref sig .tc := ⟨.hbm, 47, rfl⟩
abbrev main_v27 : Ref sig .tc := ⟨.hbm, 48, rfl⟩
abbrev main_cst_0 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_1 : Ref sig .tc := ⟨.hbm, 58, rfl⟩
abbrev main_call1_v0 : Ref sig .tc := ⟨.hbm, 59, rfl⟩
abbrev main_v36_1 : Ref sig .tc := ⟨.hbm, 60, rfl⟩
abbrev main_call1_v2 : Ref sig .tc := ⟨.hbm, 61, rfl⟩
abbrev main_v36_0 : Ref sig .tc := ⟨.hbm, 62, rfl⟩
abbrev main_call1_cst : Ref sig .tc := ⟨.hbm, 63, rfl⟩
abbrev main_v36_2 : Ref sig .tc := ⟨.hbm, 64, rfl⟩
abbrev main_cst_2 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_cst_3 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_cst_4 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_cst_5 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_cst_6 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_cst_7 : Ref sig .tc := ⟨.hbm, 176, rfl⟩
abbrev main_v143 : Ref sig .tc := ⟨.hbm, 177, rfl⟩
abbrev main_cst_8 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_v151 : Ref sig .tc := ⟨.hbm, 186, rfl⟩
abbrev main_v152 : Ref sig .tc := ⟨.hbm, 187, rfl⟩
abbrev main_cst_9 : Ref sig .tc := ⟨.hbm, 188, rfl⟩
abbrev main_v153 : Ref sig .tc := ⟨.hbm, 189, rfl⟩
abbrev main_v154 : Ref sig .tc := ⟨.hbm, 190, rfl⟩
abbrev main_v155 : Ref sig .tc := ⟨.hbm, 191, rfl⟩
abbrev main_v156 : Ref sig .tc := ⟨.hbm, 192, rfl⟩
abbrev main_cst_10 : Ref sig .tc := ⟨.hbm, 193, rfl⟩
abbrev main_v157 : Ref sig .tc := ⟨.hbm, 194, rfl⟩
abbrev main_v158 : Ref sig .tc := ⟨.hbm, 195, rfl⟩
abbrev main_v159 : Ref sig .tc := ⟨.hbm, 196, rfl⟩
abbrev main_v160 : Ref sig .tc := ⟨.hbm, 197, rfl⟩
abbrev main_v161 : Ref sig .tc := ⟨.hbm, 198, rfl⟩
abbrev main_v162 : Ref sig .tc := ⟨.hbm, 199, rfl⟩
abbrev main_v163 : Ref sig .tc := ⟨.hbm, 200, rfl⟩
abbrev main_v164 : Ref sig .tc := ⟨.hbm, 201, rfl⟩
abbrev main_v165 : Ref sig .tc := ⟨.hbm, 202, rfl⟩
abbrev main_v166 : Ref sig .tc := ⟨.hbm, 203, rfl⟩
abbrev main_v167 : Ref sig .tc := ⟨.hbm, 204, rfl⟩
abbrev main_v168 : Ref sig .tc := ⟨.hbm, 205, rfl⟩
abbrev main_v169 : Ref sig .tc := ⟨.hbm, 206, rfl⟩
abbrev main_v170 : Ref sig .tc := ⟨.hbm, 207, rfl⟩
abbrev main_v171 : Ref sig .tc := ⟨.hbm, 208, rfl⟩
abbrev main_v172 : Ref sig .tc := ⟨.hbm, 209, rfl⟩
abbrev main_v173 : Ref sig .tc := ⟨.hbm, 210, rfl⟩
abbrev main_v174 : Ref sig .tc := ⟨.hbm, 211, rfl⟩
abbrev main_v175 : Ref sig .tc := ⟨.hbm, 212, rfl⟩
abbrev main_v176 : Ref sig .tc := ⟨.hbm, 213, rfl⟩
abbrev main_v177 : Ref sig .tc := ⟨.hbm, 214, rfl⟩
abbrev main_v178 : Ref sig .tc := ⟨.hbm, 215, rfl⟩
abbrev main_v179 : Ref sig .tc := ⟨.hbm, 216, rfl⟩
abbrev main_v180 : Ref sig .tc := ⟨.hbm, 217, rfl⟩
abbrev main_v181 : Ref sig .tc := ⟨.hbm, 218, rfl⟩
abbrev main_v182 : Ref sig .tc := ⟨.hbm, 219, rfl⟩
abbrev main_v183 : Ref sig .tc := ⟨.hbm, 220, rfl⟩
abbrev main_v184 : Ref sig .tc := ⟨.hbm, 221, rfl⟩
abbrev main_v185 : Ref sig .tc := ⟨.hbm, 222, rfl⟩
abbrev main_v186 : Ref sig .tc := ⟨.hbm, 223, rfl⟩
abbrev main_v187 : Ref sig .tc := ⟨.hbm, 224, rfl⟩
abbrev main_v188 : Ref sig .tc := ⟨.hbm, 225, rfl⟩
abbrev main_v189 : Ref sig .tc := ⟨.hbm, 226, rfl⟩
abbrev main_v190 : Ref sig .tc := ⟨.hbm, 227, rfl⟩
abbrev main_v191 : Ref sig .tc := ⟨.hbm, 228, rfl⟩
abbrev main_v192 : Ref sig .tc := ⟨.hbm, 229, rfl⟩
abbrev main_v193 : Ref sig .tc := ⟨.hbm, 230, rfl⟩
abbrev main_v194 : Ref sig .tc := ⟨.hbm, 231, rfl⟩
abbrev main_v195 : Ref sig .tc := ⟨.hbm, 232, rfl⟩
abbrev main_v196 : Ref sig .tc := ⟨.hbm, 233, rfl⟩
abbrev main_v197 : Ref sig .tc := ⟨.hbm, 234, rfl⟩
abbrev main_v198 : Ref sig .tc := ⟨.hbm, 235, rfl⟩
abbrev main_v199 : Ref sig .tc := ⟨.hbm, 236, rfl⟩
abbrev main_v200 : Ref sig .tc := ⟨.hbm, 237, rfl⟩
abbrev main_v201 : Ref sig .tc := ⟨.hbm, 238, rfl⟩
abbrev main_v202 : Ref sig .tc := ⟨.hbm, 239, rfl⟩
abbrev main_v203 : Ref sig .tc := ⟨.hbm, 240, rfl⟩
abbrev main_v204 : Ref sig .tc := ⟨.hbm, 241, rfl⟩
abbrev main_v205 : Ref sig .tc := ⟨.hbm, 242, rfl⟩
abbrev main_v206 : Ref sig .tc := ⟨.hbm, 243, rfl⟩
abbrev main_v207 : Ref sig .tc := ⟨.hbm, 244, rfl⟩
abbrev main_v208 : Ref sig .tc := ⟨.hbm, 245, rfl⟩
abbrev main_v209 : Ref sig .tc := ⟨.hbm, 246, rfl⟩
abbrev main_v210 : Ref sig .tc := ⟨.hbm, 247, rfl⟩
abbrev main_v211 : Ref sig .tc := ⟨.hbm, 248, rfl⟩
abbrev main_v212 : Ref sig .tc := ⟨.hbm, 249, rfl⟩
abbrev main_v213 : Ref sig .tc := ⟨.hbm, 250, rfl⟩
abbrev main_v214 : Ref sig .tc := ⟨.hbm, 251, rfl⟩
abbrev main_v215 : Ref sig .tc := ⟨.hbm, 252, rfl⟩
abbrev main_v216 : Ref sig .tc := ⟨.hbm, 253, rfl⟩
abbrev main_v217 : Ref sig .tc := ⟨.hbm, 254, rfl⟩
abbrev main_v218 : Ref sig .tc := ⟨.hbm, 255, rfl⟩
abbrev main_v219 : Ref sig .tc := ⟨.hbm, 256, rfl⟩
abbrev main_v220 : Ref sig .tc := ⟨.hbm, 257, rfl⟩
abbrev main_v221 : Ref sig .tc := ⟨.hbm, 258, rfl⟩
abbrev main_v222 : Ref sig .tc := ⟨.hbm, 259, rfl⟩
abbrev main_v223 : Ref sig .tc := ⟨.hbm, 260, rfl⟩
abbrev main_v224 : Ref sig .tc := ⟨.hbm, 261, rfl⟩
abbrev main_v225 : Ref sig .tc := ⟨.hbm, 262, rfl⟩
abbrev main_v226 : Ref sig .tc := ⟨.hbm, 263, rfl⟩
abbrev main_v227 : Ref sig .tc := ⟨.hbm, 264, rfl⟩
abbrev main_v228 : Ref sig .tc := ⟨.hbm, 265, rfl⟩
abbrev main_v229 : Ref sig .tc := ⟨.hbm, 266, rfl⟩
abbrev main_v230 : Ref sig .tc := ⟨.hbm, 267, rfl⟩
abbrev main_v231 : Ref sig .tc := ⟨.hbm, 268, rfl⟩
abbrev main_v232 : Ref sig .tc := ⟨.hbm, 269, rfl⟩
abbrev main_v233 : Ref sig .tc := ⟨.hbm, 270, rfl⟩
abbrev main_v234 : Ref sig .tc := ⟨.hbm, 271, rfl⟩
abbrev main_v235 : Ref sig .tc := ⟨.hbm, 272, rfl⟩
abbrev main_v236 : Ref sig .tc := ⟨.hbm, 273, rfl⟩
abbrev main_v237 : Ref sig .tc := ⟨.hbm, 274, rfl⟩
abbrev main_v238 : Ref sig .tc := ⟨.hbm, 275, rfl⟩
abbrev main_v239 : Ref sig .tc := ⟨.hbm, 276, rfl⟩
abbrev main_v240 : Ref sig .tc := ⟨.hbm, 277, rfl⟩
abbrev main_cst_11 : Ref sig .tc := ⟨.hbm, 278, rfl⟩
abbrev main_v241 : Ref sig .tc := ⟨.hbm, 279, rfl⟩
abbrev main_v242 : Ref sig .tc := ⟨.hbm, 280, rfl⟩
abbrev main_v243 : Ref sig .tc := ⟨.hbm, 281, rfl⟩
abbrev main_v244 : Ref sig .tc := ⟨.hbm, 282, rfl⟩
abbrev main_cst_12 : Ref sig .tc := ⟨.hbm, 283, rfl⟩
abbrev main_v245 : Ref sig .tc := ⟨.hbm, 284, rfl⟩
abbrev main_v246 : Ref sig .tc := ⟨.hbm, 285, rfl⟩
abbrev main_cst_13 : Ref sig .tc := ⟨.hbm, 286, rfl⟩
abbrev main_v247 : Ref sig .tc := ⟨.hbm, 287, rfl⟩
abbrev main_v248 : Ref sig .tc := ⟨.hbm, 288, rfl⟩
abbrev main_v249 : Ref sig .tc := ⟨.hbm, 289, rfl⟩
abbrev main_v250 : Ref sig .tc := ⟨.hbm, 290, rfl⟩
abbrev main_v251 : Ref sig .tc := ⟨.hbm, 291, rfl⟩
abbrev main_v252 : Ref sig .tc := ⟨.hbm, 292, rfl⟩
abbrev main_cst_14 : Ref sig .tc := ⟨.hbm, 293, rfl⟩
abbrev main_v253 : Ref sig .tc := ⟨.hbm, 294, rfl⟩
abbrev main_v254 : Ref sig .tc := ⟨.hbm, 295, rfl⟩
abbrev main_v255 : Ref sig .tc := ⟨.hbm, 296, rfl⟩
abbrev main_v256 : Ref sig .tc := ⟨.hbm, 297, rfl⟩
abbrev main_cst_15 : Ref sig .tc := ⟨.hbm, 298, rfl⟩
abbrev main_v257 : Ref sig .tc := ⟨.hbm, 299, rfl⟩
abbrev main_v258 : Ref sig .tc := ⟨.hbm, 300, rfl⟩
abbrev main_v259 : Ref sig .tc := ⟨.hbm, 301, rfl⟩
abbrev main_v260 : Ref sig .tc := ⟨.hbm, 302, rfl⟩
abbrev main_v261 : Ref sig .tc := ⟨.hbm, 303, rfl⟩
abbrev main_v262 : Ref sig .tc := ⟨.hbm, 304, rfl⟩
abbrev main_cst_16 : Ref sig .tc := ⟨.hbm, 305, rfl⟩
abbrev main_v263 : Ref sig .tc := ⟨.hbm, 306, rfl⟩
abbrev main_v264 : Ref sig .tc := ⟨.hbm, 307, rfl⟩
abbrev main_v265 : Ref sig .tc := ⟨.hbm, 308, rfl⟩
abbrev main_v266 : Ref sig .tc := ⟨.hbm, 309, rfl⟩
abbrev main_cst_17 : Ref sig .tc := ⟨.hbm, 310, rfl⟩
abbrev main_v267 : Ref sig .tc := ⟨.hbm, 311, rfl⟩
abbrev main_v268 : Ref sig .tc := ⟨.hbm, 312, rfl⟩
abbrev main_v269 : Ref sig .tc := ⟨.hbm, 313, rfl⟩
abbrev main_v270 : Ref sig .tc := ⟨.hbm, 314, rfl⟩
abbrev main_v271 : Ref sig .tc := ⟨.hbm, 315, rfl⟩
abbrev main_v272 : Ref sig .tc := ⟨.hbm, 316, rfl⟩
abbrev main_v273 : Ref sig .tc := ⟨.hbm, 317, rfl⟩
abbrev main_v274 : Ref sig .tc := ⟨.hbm, 318, rfl⟩
abbrev main_v275 : Ref sig .tc := ⟨.hbm, 319, rfl⟩
abbrev main_cst_18 : Ref sig .tc := ⟨.hbm, 320, rfl⟩
abbrev main_v276 : Ref sig .tc := ⟨.hbm, 321, rfl⟩
abbrev main_v277 : Ref sig .tc := ⟨.hbm, 322, rfl⟩
abbrev main_v278 : Ref sig .tc := ⟨.hbm, 323, rfl⟩
abbrev main_v279 : Ref sig .tc := ⟨.hbm, 324, rfl⟩
abbrev main_v280 : Ref sig .tc := ⟨.hbm, 325, rfl⟩
abbrev main_cst_19 : Ref sig .tc := ⟨.hbm, 326, rfl⟩
abbrev main_v281 : Ref sig .tc := ⟨.hbm, 327, rfl⟩
abbrev main_v282 : Ref sig .tc := ⟨.hbm, 328, rfl⟩
abbrev main_cst_20 : Ref sig .tc := ⟨.hbm, 329, rfl⟩
abbrev main_v283 : Ref sig .tc := ⟨.hbm, 330, rfl⟩
abbrev main_v284 : Ref sig .tc := ⟨.hbm, 331, rfl⟩
abbrev main_v285 : Ref sig .tc := ⟨.hbm, 332, rfl⟩
abbrev main_v286 : Ref sig .tc := ⟨.hbm, 333, rfl⟩
abbrev main_v287 : Ref sig .tc := ⟨.hbm, 334, rfl⟩
abbrev main_cst_21 : Ref sig .tc := ⟨.hbm, 335, rfl⟩
abbrev main_v288 : Ref sig .tc := ⟨.hbm, 336, rfl⟩
abbrev main_v289 : Ref sig .tc := ⟨.hbm, 337, rfl⟩
abbrev main_cst_22 : Ref sig .tc := ⟨.hbm, 338, rfl⟩
abbrev main_v290 : Ref sig .tc := ⟨.hbm, 339, rfl⟩
abbrev main_v291 : Ref sig .tc := ⟨.hbm, 340, rfl⟩
abbrev main_call2_cst : Ref sig .tc := ⟨.hbm, 341, rfl⟩
abbrev main_call2_v0 : Ref sig .tc := ⟨.hbm, 342, rfl⟩
abbrev main_v292 : Ref sig .tc := ⟨.hbm, 343, rfl⟩
abbrev main_v293 : Ref sig .tc := ⟨.hbm, 344, rfl⟩
abbrev main_v294 : Ref sig .tc := ⟨.hbm, 345, rfl⟩
abbrev main_v295 : Ref sig .tc := ⟨.hbm, 346, rfl⟩
abbrev main_cst_23 : Ref sig .tc := ⟨.hbm, 347, rfl⟩
abbrev main_v296 : Ref sig .tc := ⟨.hbm, 348, rfl⟩
abbrev main_v297 : Ref sig .tc := ⟨.hbm, 349, rfl⟩
abbrev main_cst_24 : Ref sig .tc := ⟨.hbm, 350, rfl⟩
abbrev main_v298 : Ref sig .tc := ⟨.hbm, 351, rfl⟩
abbrev main_v299 : Ref sig .tc := ⟨.hbm, 352, rfl⟩
abbrev main_v300 : Ref sig .tc := ⟨.hbm, 353, rfl⟩
abbrev main_v301 : Ref sig .tc := ⟨.hbm, 354, rfl⟩
abbrev main_v302 : Ref sig .tc := ⟨.hbm, 355, rfl⟩
abbrev main_v303 : Ref sig .tc := ⟨.hbm, 356, rfl⟩
abbrev main_cst_25 : Ref sig .tc := ⟨.hbm, 357, rfl⟩
abbrev main_v304 : Ref sig .tc := ⟨.hbm, 358, rfl⟩
abbrev main_cst_26 : Ref sig .tc := ⟨.hbm, 359, rfl⟩
abbrev main_v305 : Ref sig .tc := ⟨.hbm, 360, rfl⟩
abbrev main_v306 : Ref sig .tc := ⟨.hbm, 361, rfl⟩
abbrev main_v307 : Ref sig .tc := ⟨.hbm, 362, rfl⟩
abbrev main_v308 : Ref sig .tc := ⟨.hbm, 363, rfl⟩
abbrev main_v309 : Ref sig .tc := ⟨.hbm, 364, rfl⟩
abbrev main_v310 : Ref sig .tc := ⟨.hbm, 365, rfl⟩
abbrev main_cst_27 : Ref sig .tc := ⟨.hbm, 366, rfl⟩
abbrev main_v311 : Ref sig .tc := ⟨.hbm, 367, rfl⟩
abbrev main_cst_28 : Ref sig .tc := ⟨.hbm, 368, rfl⟩
abbrev main_v312 : Ref sig .tc := ⟨.hbm, 369, rfl⟩
abbrev main_v313 : Ref sig .tc := ⟨.hbm, 370, rfl⟩
abbrev main_v314 : Ref sig .tc := ⟨.hbm, 371, rfl⟩
abbrev main_v315 : Ref sig .tc := ⟨.hbm, 372, rfl⟩
abbrev main_v316 : Ref sig .tc := ⟨.hbm, 373, rfl⟩
abbrev main_v317 : Ref sig .tc := ⟨.hbm, 374, rfl⟩
abbrev main_cst_29 : Ref sig .tc := ⟨.hbm, 375, rfl⟩
abbrev main_v318 : Ref sig .tc := ⟨.hbm, 376, rfl⟩
abbrev main_cst_30 : Ref sig .tc := ⟨.hbm, 377, rfl⟩
abbrev main_v319 : Ref sig .tc := ⟨.hbm, 378, rfl⟩
abbrev main_v320 : Ref sig .tc := ⟨.hbm, 379, rfl⟩
abbrev main_v321 : Ref sig .tc := ⟨.hbm, 380, rfl⟩
abbrev main_v322 : Ref sig .tc := ⟨.hbm, 381, rfl⟩
abbrev main_v323 : Ref sig .tc := ⟨.hbm, 382, rfl⟩
abbrev main_v324 : Ref sig .tc := ⟨.hbm, 383, rfl⟩
abbrev main_v325 : Ref sig .tc := ⟨.hbm, 384, rfl⟩

abbrev nD : Nat := 1
abbrev τ : Topo := Topo.v7x

variable {F : FTy → Type} [FloatOps F]
-- ==== Kernel2.lean ====
abbrev S2304x2048 : Shape := ⟨2, ![2304, 2048]⟩
abbrev S2304x14336 : Shape := ⟨2, ![2304, 14336]⟩
abbrev S2048x14336 : Shape := ⟨2, ![2048, 14336]⟩
abbrev S2304x1024 : Shape := ⟨2, ![2304, 1024]⟩
abbrev S1024x1024 : Shape := ⟨2, ![1024, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S2304x2048, .bf16⟩
  | .hbm, ⟨1, _⟩ => ⟨S2304x14336, .bf16⟩
  | .hbm, ⟨2, _⟩ => ⟨S2048x14336, .bf16⟩
  | .local _ .vmem, ⟨0, _⟩ => ⟨S2304x1024, .bf16⟩
  | .local _ .vmem, ⟨1, _⟩ => ⟨S2304x1024, .bf16⟩
  | .local _ .vmem, ⟨2, _⟩ => ⟨S2304x1024, .bf16⟩
  | .local _ .vmem, ⟨3, _⟩ => ⟨S2304x1024, .bf16⟩
  | .local _ .vmem, ⟨4, _⟩ => ⟨S1024x1024, .bf16⟩
  | .local _ .vmem, ⟨5, _⟩ => ⟨S1024x1024, .bf16⟩
  | .local _ .vmem, ⟨6, _⟩ => ⟨S8x128, .f32⟩
  | _, _ => ⟨S2304x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 14, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2304x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2304x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S2304x2048 : Shape := ⟨2, ![2304, 2048]⟩
abbrev S2304x14336 : Shape := ⟨2, ![2304, 14336]⟩
abbrev S_ : Shape := ⟨0, ![]⟩
abbrev S2048x14336 : Shape := ⟨2, ![2048, 14336]⟩
abbrev S14336x2048 : Shape := ⟨2, ![14336, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2304x2048, .bf16⟩
  | .hbm, ⟨1, _⟩ => ⟨S2304x14336, .bf16⟩
  | .hbm, ⟨2, _⟩ => ⟨S_, .f32⟩
  | .hbm, ⟨3, _⟩ => ⟨S2048x14336, .f32⟩
  | .hbm, ⟨4, _⟩ => ⟨S2304x2048, .f32⟩
  | .hbm, ⟨5, _⟩ => ⟨S2304x14336, .f32⟩
  | .hbm, ⟨6, _⟩ => ⟨S2304x14336, .f32⟩
  | .hbm, ⟨7, _⟩ => ⟨S14336x2048, .f32⟩
  | .hbm, ⟨8, _⟩ => ⟨S2048x14336, .f32⟩
  | .hbm, ⟨9, _⟩ => ⟨S2048x14336, .bf16⟩
  | _, _ => ⟨S2304x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel3.lean ====
abbrev S2304x14336 : Shape := ⟨2, ![2304, 14336]⟩
abbrev S2048x14336 : Shape := ⟨2, ![2048, 14336]⟩
abbrev S8x128 : Shape := ⟨2, ![8, 128]⟩
abbrev S2304x2048 : Shape := ⟨2, ![2304, 2048]⟩
abbrev S1152x2048 : Shape := ⟨2, ![1152, 2048]⟩
abbrev S1024x2048 : Shape := ⟨2, ![1024, 2048]⟩
abbrev S1152x1024 : Shape := ⟨2, ![1152, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2304x14336, .bf16⟩
  | .hbm, ⟨1, _⟩ => ⟨S2048x14336, .bf16⟩
  | .hbm, ⟨2, _⟩ => ⟨S8x128, .f32⟩
  | .hbm, ⟨3, _⟩ => ⟨S2304x2048, .bf16⟩
  | .local _ .vmem, ⟨0, _⟩ => ⟨S1152x2048, .bf16⟩
  | .local _ .vmem, ⟨1, _⟩ => ⟨S1152x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1152x1024, .bf16⟩
  | .local _ .vmem, ⟨5, _⟩ => ⟨S1152x1024, .bf16⟩
  | .local _ .vmem, ⟨6, _⟩ => ⟨S1152x1024, .f32⟩
  | _, _ => ⟨S2304x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 7], ![false, false, false]⟩

def k0_cond3 (i : grid0.Coords) : BitVec 1 :=
  let arg2 : BitVec 32 := BitVec.ofNat 32 (i 2).val
  let c6_i32 : BitVec 32 := 6#32
  let v9 : BitVec 1 := Scalar.cmpi .eq arg2 c6_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1152x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1152x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S2304x14336 : Shape := ⟨2, ![2304, 14336]⟩
abbrev S2048x14336 : Shape := ⟨2, ![2048, 14336]⟩
abbrev S8x128 : Shape := ⟨2, ![8, 128]⟩
abbrev S_ : Shape := ⟨0, ![]⟩
abbrev S2304x2048 : Shape := ⟨2, ![2304, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2304x14336, .bf16⟩
  | .hbm, ⟨1, _⟩ => ⟨S2048x14336, .bf16⟩
  | .hbm, ⟨2, _⟩ => ⟨S8x128, .f32⟩
  | .hbm, ⟨3, _⟩ => ⟨S_, .f32⟩
  | .hbm, ⟨4, _⟩ => ⟨S2304x2048, .f32⟩
  | .hbm, ⟨5, _⟩ => ⟨S2048x14336, .f32⟩
  | .hbm, ⟨6, _⟩ => ⟨S2304x14336, .f32⟩
  | .hbm, ⟨7, _⟩ => ⟨S2304x14336, .f32⟩
  | .hbm, ⟨8, _⟩ => ⟨S2304x2048, .f32⟩
  | .hbm, ⟨9, _⟩ => ⟨S2304x2048, .bf16⟩
  | _, _ => ⟨S2304x14336, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel4.lean ====
abbrev S2304x2048 : Shape := ⟨2, ![2304, 2048]⟩
abbrev S2048x14336 : Shape := ⟨2, ![2048, 14336]⟩
abbrev S2304x14336 : Shape := ⟨2, ![2304, 14336]⟩
abbrev S1152x2048 : Shape := ⟨2, ![1152, 2048]⟩
abbrev S2048x1024 : Shape := ⟨2, ![2048, 1024]⟩
abbrev S1152x1024 : Shape := ⟨2, ![1152, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S2304x2048, .bf16⟩
  | .hbm, ⟨1, _⟩ => ⟨S2048x14336, .bf16⟩
  | .hbm, ⟨2, _⟩ => ⟨S2304x14336, .bf16⟩
  | .local _ .vmem, ⟨0, _⟩ => ⟨S1152x2048, .bf16⟩
  | .local _ .vmem, ⟨1, _⟩ => ⟨S1152x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1152x1024, .bf16⟩
  | .local _ .vmem, ⟨5, _⟩ => ⟨S1152x1024, .bf16⟩
  | .local _ .vmem, ⟨6, _⟩ => ⟨S8x128, .f32⟩
  | _, _ => ⟨S2304x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 14, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1152x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1152x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S2304x2048 : Shape := ⟨2, ![2304, 2048]⟩
abbrev S2048x14336 : Shape := ⟨2, ![2048, 14336]⟩
abbrev S2304x14336 : Shape := ⟨2, ![2304, 14336]⟩

abbrev nBuf : Space → Nat
  | .hbm => 6
  | .vmem => 0
  | .smem => 0
  | _ => 0

abbrev bufTy : (tb : Table) → Fin (tcTables nBuf tb) → BufTy
  | .hbm, ⟨0, _⟩ => ⟨S2304x2048, .bf16⟩
  | .hbm, ⟨1, _⟩ => ⟨S2048x14336, .bf16⟩
  | .hbm, ⟨2, _⟩ => ⟨S2304x2048, .f32⟩
  | .hbm, ⟨3, _⟩ => ⟨S2048x14336, .f32⟩
  | .hbm, ⟨4, _⟩ => ⟨S2304x14336, .f32⟩
  | .hbm, ⟨5, _⟩ => ⟨S2304x14336, .bf16⟩
  | _, _ => ⟨S2304x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel5.lean ====
abbrev S2304x2048 : Shape := ⟨2, ![2304, 2048]⟩
abbrev S2048x2048 : Shape := ⟨2, ![2048, 2048]⟩
abbrev S2304x1024 : Shape := ⟨2, ![2304, 1024]⟩
abbrev S1024x1024 : Shape := ⟨2, ![1024, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S2304x2048, .bf16⟩
  | .hbm, ⟨1, _⟩ => ⟨S2304x2048, .bf16⟩
  | .hbm, ⟨2, _⟩ => ⟨S2048x2048, .bf16⟩
  | .local _ .vmem, ⟨0, _⟩ => ⟨S2304x1024, .bf16⟩
  | .local _ .vmem, ⟨1, _⟩ => ⟨S2304x1024, .bf16⟩
  | .local _ .vmem, ⟨2, _⟩ => ⟨S2304x1024, .bf16⟩
  | .local _ .vmem, ⟨3, _⟩ => ⟨S2304x1024, .bf16⟩
  | .local _ .vmem, ⟨4, _⟩ => ⟨S1024x1024, .bf16⟩
  | .local _ .vmem, ⟨5, _⟩ => ⟨S1024x1024, .bf16⟩
  | .local _ .vmem, ⟨6, _⟩ => ⟨S8x128, .f32⟩
  | _, _ => ⟨S2304x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2304x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2304x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S2304x2048 : Shape := ⟨2, ![2304, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2304x2048, .bf16⟩
  | .hbm, ⟨1, _⟩ => ⟨S2304x2048, .bf16⟩
  | .hbm, ⟨2, _⟩ => ⟨S_, .f32⟩
  | .hbm, ⟨3, _⟩ => ⟨S2048x2048, .f32⟩
  | .hbm, ⟨4, _⟩ => ⟨S2304x2048, .f32⟩
  | .hbm, ⟨5, _⟩ => ⟨S2304x2048, .f32⟩
  | .hbm, ⟨6, _⟩ => ⟨S2304x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S2304x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S2304x2048 : Shape := ⟨2, ![2304, 2048]⟩
abbrev S2048x2048 : Shape := ⟨2, ![2048, 2048]⟩
abbrev S1152x2048 : Shape := ⟨2, ![1152, 2048]⟩
abbrev S1024x2048 : Shape := ⟨2, ![1024, 2048]⟩
abbrev S1152x1024 : Shape := ⟨2, ![1152, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S2304x2048, .bf16⟩
  | .hbm, ⟨1, _⟩ => ⟨S2048x2048, .bf16⟩
  | .hbm, ⟨2, _⟩ => ⟨S2304x2048, .bf16⟩
  | .local _ .vmem, ⟨0, _⟩ => ⟨S1152x2048, .bf16⟩
  | .local _ .vmem, ⟨1, _⟩ => ⟨S1152x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1152x1024, .bf16⟩
  | .local _ .vmem, ⟨5, _⟩ => ⟨S1152x1024, .bf16⟩
  | .local _ .vmem, ⟨6, _⟩ => ⟨S8x128, .f32⟩
  | _, _ => ⟨S2304x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1152x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1152x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S2304x2048 : Shape := ⟨2, ![2304, 2048]⟩
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2304x2048, .bf16⟩
  | .hbm, ⟨1, _⟩ => ⟨S2048x2048, .bf16⟩
  | .hbm, ⟨2, _⟩ => ⟨S_, .f32⟩
  | .hbm, ⟨3, _⟩ => ⟨S2304x2048, .f32⟩
  | .hbm, ⟨4, _⟩ => ⟨S2048x2048, .f32⟩
  | .hbm, ⟨5, _⟩ => ⟨S2304x2048, .f32⟩
  | .hbm, ⟨6, _⟩ => ⟨S2304x2048, .f32⟩
  | .hbm, ⟨7, _⟩ => ⟨S2304x2048, .f32⟩
  | .hbm, ⟨8, _⟩ => ⟨S2304x2048, .bf16⟩
  | _, _ => ⟨S2304x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel7.lean ====
abbrev S2304x2048 : Shape := ⟨2, ![2304, 2048]⟩
abbrev S2048x2048 : Shape := ⟨2, ![2048, 2048]⟩
abbrev S1152x2048 : Shape := ⟨2, ![1152, 2048]⟩
abbrev S2048x1024 : Shape := ⟨2, ![2048, 1024]⟩
abbrev S1152x1024 : Shape := ⟨2, ![1152, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S2304x2048, .bf16⟩
  | .hbm, ⟨1, _⟩ => ⟨S2048x2048, .bf16⟩
  | .hbm, ⟨2, _⟩ => ⟨S2304x2048, .bf16⟩
  | .local _ .vmem, ⟨0, _⟩ => ⟨S1152x2048, .bf16⟩
  | .local _ .vmem, ⟨1, _⟩ => ⟨S1152x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1152x1024, .bf16⟩
  | .local _ .vmem, ⟨5, _⟩ => ⟨S1152x1024, .bf16⟩
  | .local _ .vmem, ⟨6, _⟩ => ⟨S8x128, .f32⟩
  | _, _ => ⟨S2304x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1152x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1152x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S2304x2048 : Shape := ⟨2, ![2304, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2304x2048, .bf16⟩
  | .hbm, ⟨1, _⟩ => ⟨S2048x2048, .bf16⟩
  | .hbm, ⟨2, _⟩ => ⟨S2304x2048, .f32⟩
  | .hbm, ⟨3, _⟩ => ⟨S2048x2048, .f32⟩
  | .hbm, ⟨4, _⟩ => ⟨S2304x2048, .f32⟩
  | .hbm, ⟨5, _⟩ => ⟨S2304x2048, .bf16⟩
  | _, _ => ⟨S2304x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel8.lean ====
abbrev S2304x2048 : Shape := ⟨2, ![2304, 2048]⟩
abbrev S2048x2048 : Shape := ⟨2, ![2048, 2048]⟩
abbrev S1152x2048 : Shape := ⟨2, ![1152, 2048]⟩
abbrev S2048x1024 : Shape := ⟨2, ![2048, 1024]⟩
abbrev S1152x1024 : Shape := ⟨2, ![1152, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S2304x2048, .bf16⟩
  | .hbm, ⟨1, _⟩ => ⟨S2048x2048, .bf16⟩
  | .hbm, ⟨2, _⟩ => ⟨S2304x2048, .f32⟩
  | .local _ .vmem, ⟨0, _⟩ => ⟨S1152x2048, .bf16⟩
  | .local _ .vmem, ⟨1, _⟩ => ⟨S1152x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1152x1024, .f32⟩
  | .local _ .vmem, ⟨5, _⟩ => ⟨S1152x1024, .f32⟩
  | .local _ .vmem, ⟨6, _⟩ => ⟨S8x128, .f32⟩
  | _, _ => ⟨S2304x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1152x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1152x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S2304x2048 : Shape := ⟨2, ![2304, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2304x2048, .bf16⟩
  | .hbm, ⟨1, _⟩ => ⟨S2048x2048, .bf16⟩
  | .hbm, ⟨2, _⟩ => ⟨S2304x2048, .f32⟩
  | .hbm, ⟨3, _⟩ => ⟨S2048x2048, .f32⟩
  | .hbm, ⟨4, _⟩ => ⟨S2304x2048, .f32⟩
  | _, _ => ⟨S2304x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel9.lean ====
abbrev S2304x1024 : Shape := ⟨2, ![2304, 1024]⟩
abbrev S2304x2048 : Shape := ⟨2, ![2304, 2048]⟩
abbrev S1024x2048 : Shape := ⟨2, ![1024, 2048]⟩
abbrev S1024x1024 : Shape := ⟨2, ![1024, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S2304x1024, .bf16⟩
  | .hbm, ⟨1, _⟩ => ⟨S2304x2048, .bf16⟩
  | .hbm, ⟨2, _⟩ => ⟨S1024x2048, .bf16⟩
  | .local _ .vmem, ⟨0, _⟩ => ⟨S2304x1024, .bf16⟩
  | .local _ .vmem, ⟨1, _⟩ => ⟨S2304x1024, .bf16⟩
  | .local _ .vmem, ⟨2, _⟩ => ⟨S2304x1024, .bf16⟩
  | .local _ .vmem, ⟨3, _⟩ => ⟨S1024x1024, .bf16⟩
  | .local _ .vmem, ⟨4, _⟩ => ⟨S1024x1024, .bf16⟩
  | .local _ .vmem, ⟨5, _⟩ => ⟨S8x128, .f32⟩
  | _, _ => ⟨S2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2304x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2304x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S2304x1024 : Shape := ⟨2, ![2304, 1024]⟩
abbrev S2304x2048 : Shape := ⟨2, ![2304, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2304x1024, .bf16⟩
  | .hbm, ⟨1, _⟩ => ⟨S2304x2048, .bf16⟩
  | .hbm, ⟨2, _⟩ => ⟨S_, .f32⟩
  | .hbm, ⟨3, _⟩ => ⟨S1024x2048, .f32⟩
  | .hbm, ⟨4, _⟩ => ⟨S2304x1024, .f32⟩
  | .hbm, ⟨5, _⟩ => ⟨S2304x2048, .f32⟩
  | .hbm, ⟨6, _⟩ => ⟨S2304x2048, .f32⟩
  | .hbm, ⟨7, _⟩ => ⟨S2048x1024, .f32⟩
  | .hbm, ⟨8, _⟩ => ⟨S1024x2048, .f32⟩
  | .hbm, ⟨9, _⟩ => ⟨S1024x2048, .bf16⟩
  | _, _ => ⟨S2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel10.lean ====
abbrev S2304x2048 : Shape := ⟨2, ![2304, 2048]⟩
abbrev S1024x2048 : Shape := ⟨2, ![1024, 2048]⟩
abbrev S8x128 : Shape := ⟨2, ![8, 128]⟩
abbrev S2304x1024 : Shape := ⟨2, ![2304, 1024]⟩
abbrev S1152x2048 : Shape := ⟨2, ![1152, 2048]⟩
abbrev S1152x1024 : Shape := ⟨2, ![1152, 1024]⟩

abbrev nBuf : Space → Nat
  | .hbm => 4
  | .vmem => 6
  | .smem => 0
  | _ => 0

abbrev bufTy : (tb : Table) → Fin (tcTables nBuf tb) → BufTy
  | .hbm, ⟨0, _⟩ => ⟨S2304x2048, .bf16⟩
  | .hbm, ⟨1, _⟩ => ⟨S1024x2048, .bf16⟩
  | .hbm, ⟨2, _⟩ => ⟨S8x128, .f32⟩
  | .hbm, ⟨3, _⟩ => ⟨S2304x1024, .bf16⟩
  | .local _ .vmem, ⟨0, _⟩ => ⟨S1152x2048, .bf16⟩
  | .local _ .vmem, ⟨1, _⟩ => ⟨S1152x2048, .bf16⟩
  | .local _ .vmem, ⟨2, _⟩ => ⟨S1024x2048, .bf16⟩
  | .local _ .vmem, ⟨3, _⟩ => ⟨S1152x1024, .bf16⟩
  | .local _ .vmem, ⟨4, _⟩ => ⟨S1152x1024, .bf16⟩
  | .local _ .vmem, ⟨5, _⟩ => ⟨S8x128, .f32⟩
  | _, _ => ⟨S2304x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1152x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1152x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S2304x2048 : Shape := ⟨2, ![2304, 2048]⟩
abbrev S1024x2048 : Shape := ⟨2, ![1024, 2048]⟩
abbrev S8x128 : Shape := ⟨2, ![8, 128]⟩
abbrev S_ : Shape := ⟨0, ![]⟩
abbrev S2304x1024 : Shape := ⟨2, ![2304, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2304x2048, .bf16⟩
  | .hbm, ⟨1, _⟩ => ⟨S1024x2048, .bf16⟩
  | .hbm, ⟨2, _⟩ => ⟨S8x128, .f32⟩
  | .hbm, ⟨3, _⟩ => ⟨S_, .f32⟩
  | .hbm, ⟨4, _⟩ => ⟨S2304x1024, .f32⟩
  | .hbm, ⟨5, _⟩ => ⟨S1024x2048, .f32⟩
  | .hbm, ⟨6, _⟩ => ⟨S2304x2048, .f32⟩
  | .hbm, ⟨7, _⟩ => ⟨S2304x2048, .f32⟩
  | .hbm, ⟨8, _⟩ => ⟨S2304x1024, .f32⟩
  | .hbm, ⟨9, _⟩ => ⟨S2304x1024, .bf16⟩
  | _, _ => ⟨S2304x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel11.lean ====
abbrev S2304x1024 : Shape := ⟨2, ![2304, 1024]⟩
abbrev S1024x2048 : Shape := ⟨2, ![1024, 2048]⟩
abbrev S2304x2048 : Shape := ⟨2, ![2304, 2048]⟩
abbrev S1152x1024 : Shape := ⟨2, ![1152, 1024]⟩
abbrev S1024x1024 : Shape := ⟨2, ![1024, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S2304x1024, .bf16⟩
  | .hbm, ⟨1, _⟩ => ⟨S1024x2048, .bf16⟩
  | .hbm, ⟨2, _⟩ => ⟨S2304x2048, .bf16⟩
  | .local _ .vmem, ⟨0, _⟩ => ⟨S1152x1024, .bf16⟩
  | .local _ .vmem, ⟨1, _⟩ => ⟨S1152x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1152x1024, .bf16⟩
  | .local _ .vmem, ⟨5, _⟩ => ⟨S1152x1024, .bf16⟩
  | .local _ .vmem, ⟨6, _⟩ => ⟨S8x128, .f32⟩
  | _, _ => ⟨S2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1152x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1152x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S2304x1024 : Shape := ⟨2, ![2304, 1024]⟩
abbrev S1024x2048 : Shape := ⟨2, ![1024, 2048]⟩
abbrev S2304x2048 : Shape := ⟨2, ![2304, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2304x1024, .bf16⟩
  | .hbm, ⟨1, _⟩ => ⟨S1024x2048, .bf16⟩
  | .hbm, ⟨2, _⟩ => ⟨S2304x1024, .f32⟩
  | .hbm, ⟨3, _⟩ => ⟨S1024x2048, .f32⟩
  | .hbm, ⟨4, _⟩ => ⟨S2304x2048, .f32⟩
  | .hbm, ⟨5, _⟩ => ⟨S2304x2048, .bf16⟩
  | _, _ => ⟨S2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel12.lean ====
abbrev S16x2048 : Shape := ⟨2, ![16, 2048]⟩
abbrev S2x2048x768 : Shape := ⟨3, ![2, 2048, 768]⟩
abbrev S2x16x768 : Shape := ⟨3, ![2, 16, 768]⟩
abbrev S1x16x768 : Shape := ⟨3, ![1, 16, 768]⟩
abbrev S16x768 : Shape := ⟨2, ![16, 768]⟩
abbrev S2048x768 : Shape := ⟨2, ![2048, 768]⟩
abbrev S1x2048x768 : Shape := ⟨3, ![1, 2048, 768]⟩

abbrev nBuf : Space → Nat
  | .hbm => 5
  | .vmem => 5
  | .smem => 0
  | _ => 0

abbrev bufTy : (tb : Table) → Fin (tcTables nBuf tb) → BufTy
  | .hbm, ⟨0, _⟩ => ⟨S16x2048, .f32⟩
  | .hbm, ⟨1, _⟩ => ⟨S2x2048x768, .f32⟩
  | .hbm, ⟨2, _⟩ => ⟨S2x16x768, .f32⟩
  | .hbm, ⟨3, _⟩ => ⟨S2x2048x768, .f32⟩
  | .hbm, ⟨4, _⟩ => ⟨S16x2048, .f32⟩
  | .local _ .vmem, ⟨0, _⟩ => ⟨S16x2048, .f32⟩
  | .local _ .vmem, ⟨1, _⟩ => ⟨S2x2048x768, .f32⟩
  | .local _ .vmem, ⟨2, _⟩ => ⟨S2x16x768, .f32⟩
  | .local _ .vmem, ⟨3, _⟩ => ⟨S2x2048x768, .f32⟩
  | .local _ .vmem, ⟨4, _⟩ => ⟨S16x2048, .f32⟩
  | _, _ => ⟨S16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x2048x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x16x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x2048x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Reference12Ideal.lean ====
abbrev S16x2048 : Shape := ⟨2, ![16, 2048]⟩
abbrev S2x2048x768 : Shape := ⟨3, ![2, 2048, 768]⟩
abbrev S2x16x768 : Shape := ⟨3, ![2, 16, 768]⟩
abbrev S_ : Shape := ⟨0, ![]⟩
abbrev S2x768x16 : Shape := ⟨3, ![2, 768, 16]⟩
abbrev S2x768x2048 : Shape := ⟨3, ![2, 768, 2048]⟩

abbrev nBuf : Space → Nat
  | .hbm => 18
  | .vmem => 0
  | .smem => 0
  | _ => 0

abbrev bufTy : (tb : Table) → Fin (tcTables nBuf tb) → BufTy
  | .hbm, ⟨0, _⟩ => ⟨S16x2048, .f32⟩
  | .hbm, ⟨1, _⟩ => ⟨S2x2048x768, .f32⟩
  | .hbm, ⟨2, _⟩ => ⟨S2x16x768, .f32⟩
  | .hbm, ⟨3, _⟩ => ⟨S16x2048, .f32⟩
  | .hbm, ⟨4, _⟩ => ⟨S16x2048, .f32⟩
  | .hbm, ⟨5, _⟩ => ⟨S_, .f32⟩
  | .hbm, ⟨6, _⟩ => ⟨S16x2048, .f32⟩
  | .hbm, ⟨7, _⟩ => ⟨S16x2048, .f32⟩
  | .hbm, ⟨8, _⟩ => ⟨S_, .f32⟩
  | .hbm, ⟨9, _⟩ => ⟨S16x2048, .f32⟩
  | .hbm, ⟨10, _⟩ => ⟨S16x2048, .f32⟩
  | .hbm, ⟨11, _⟩ => ⟨S16x2048, .f32⟩
  | .hbm, ⟨12, _⟩ => ⟨S2x768x16, .f32⟩
  | .hbm, ⟨13, _⟩ => ⟨S2x16x768, .f32⟩
  | .hbm, ⟨14, _⟩ => ⟨S2x768x16, .f32⟩
  | .hbm, ⟨15, _⟩ => ⟨S16x2048, .f32⟩
  | .hbm, ⟨16, _⟩ => ⟨S2x768x2048, .f32⟩
  | .hbm, ⟨17, _⟩ => ⟨S2x2048x768, .f32⟩
  | _, _ => ⟨S16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== Kernel13.lean ====
abbrev S4096x768 : Shape := ⟨2, ![4096, 768]⟩
abbrev S256x768 : Shape := ⟨2, ![256, 768]⟩

abbrev nBuf : Space → Nat
  | .hbm => 7
  | .vmem => 14
  | .smem => 0
  | _ => 0

abbrev bufTy : (tb : Table) → Fin (tcTables nBuf tb) → BufTy
  | .hbm, ⟨0, _⟩ => ⟨S4096x768, .f32⟩
  | .hbm, ⟨1, _⟩ => ⟨S4096x768, .f32⟩
  | .hbm, ⟨2, _⟩ => ⟨S4096x768, .f32⟩
  | .hbm, ⟨3, _⟩ => ⟨S4096x768, .f32⟩
  | .hbm, ⟨4, _⟩ => ⟨S4096x768, .f32⟩
  | .hbm, ⟨5, _⟩ => ⟨S4096x768, .f32⟩
  | .hbm, ⟨6, _⟩ => ⟨S4096x768, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference13Ideal.lean ====
abbrev S4096x768 : Shape := ⟨2, ![4096, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x768, .f32⟩
  | .hbm, ⟨1, _⟩ => ⟨S4096x768, .f32⟩
  | .hbm, ⟨2, _⟩ => ⟨S4096x768, .f32⟩
  | .hbm, ⟨3, _⟩ => ⟨S4096x768, .f32⟩
  | .hbm, ⟨4, _⟩ => ⟨S_, .f32⟩
  | .hbm, ⟨5, _⟩ => ⟨S4096x768, .f32⟩
  | .hbm, ⟨6, _⟩ => ⟨S4096x768, .f32⟩
  | .hbm, ⟨7, _⟩ => ⟨S_, .f32⟩
  | .hbm, ⟨8, _⟩ => ⟨S4096x768, .f32⟩
  | .hbm, ⟨9, _⟩ => ⟨S4096x768, .f32⟩
  | .hbm, ⟨10, _⟩ => ⟨S4096x768, .f32⟩
  | .hbm, ⟨11, _⟩ => ⟨S_, .f32⟩
  | .hbm, ⟨12, _⟩ => ⟨S4096x768, .f32⟩
  | .hbm, ⟨13, _⟩ => ⟨S4096x768, .f32⟩
  | .hbm, ⟨14, _⟩ => ⟨S4096x768, .f32⟩
  | .hbm, ⟨15, _⟩ => ⟨S_, .f32⟩
  | .hbm, ⟨16, _⟩ => ⟨S4096x768, .f32⟩
  | .hbm, ⟨17, _⟩ => ⟨S4096x768, .f32⟩
  | .hbm, ⟨18, _⟩ => ⟨S4096x768, .f32⟩
  | .hbm, ⟨19, _⟩ => ⟨S_, .f32⟩
  | .hbm, ⟨20, _⟩ => ⟨S4096x768, .f32⟩
  | .hbm, ⟨21, _⟩ => ⟨S4096x768, .f32⟩
  | .hbm, ⟨22, _⟩ => ⟨S_, .f32⟩
  | .hbm, ⟨23, _⟩ => ⟨S4096x768, .f32⟩
  | .hbm, ⟨24, _⟩ => ⟨S4096x768, .f32⟩
  | .hbm, ⟨25, _⟩ => ⟨S4096x768, .f32⟩
  | .hbm, ⟨26, _⟩ => ⟨S_, .f32⟩
  | .hbm, ⟨27, _⟩ => ⟨S4096x768, .f32⟩
  | .hbm, ⟨28, _⟩ => ⟨S4096x768, .f32⟩
  | .hbm, ⟨29, _⟩ => ⟨S4096x768, .f32⟩
  | .hbm, ⟨30, _⟩ => ⟨S_, .f32⟩
  | .hbm, ⟨31, _⟩ => ⟨S4096x768, .f32⟩
  | .hbm, ⟨32, _⟩ => ⟨S4096x768, .f32⟩
  | .hbm, ⟨33, _⟩ => ⟨S4096x768, .f32⟩
  | .hbm, ⟨34, _⟩ => ⟨S_, .f32⟩
  | .hbm, ⟨35, _⟩ => ⟨S4096x768, .f32⟩
  | .hbm, ⟨36, _⟩ => ⟨S4096x768, .f32⟩
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel14.lean ====
abbrev S2304x1024 : Shape := ⟨2, ![2304, 1024]⟩
abbrev S2304x14336 : Shape := ⟨2, ![2304, 14336]⟩
abbrev S256x1024 : Shape := ⟨2, ![256, 1024]⟩

abbrev nBuf : Space → Nat
  | .hbm => 5
  | .vmem => 10
  | .smem => 0
  | _ => 0

abbrev bufTy : (tb : Table) → Fin (tcTables nBuf tb) → BufTy
  | .hbm, ⟨0, _⟩ => ⟨S2304x1024, .bf16⟩
  | .hbm, ⟨1, _⟩ => ⟨S2304x14336, .bf16⟩
  | .hbm, ⟨2, _⟩ => ⟨S2304x1024, .bf16⟩
  | .hbm, ⟨3, _⟩ => ⟨S2304x1024, .bf16⟩
  | .hbm, ⟨4, _⟩ => ⟨S2304x1024, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | _, _ => ⟨S2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference14Ideal.lean ====
abbrev S2304x1024 : Shape := ⟨2, ![2304, 1024]⟩
abbrev S2304x14336 : Shape := ⟨2, ![2304, 14336]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S2304x1024, .bf16⟩
  | .hbm, ⟨1, _⟩ => ⟨S2304x14336, .bf16⟩
  | .hbm, ⟨2, _⟩ => ⟨S2304x1024, .bf16⟩
  | .hbm, ⟨3, _⟩ => ⟨S2304x1024, .bf16⟩
  | .hbm, ⟨4, _⟩ => ⟨S2304x1024, .f32⟩
  | .hbm, ⟨5, _⟩ => ⟨S2304x1024, .f32⟩
  | .hbm, ⟨6, _⟩ => ⟨S2304x1024, .f32⟩
  | .hbm, ⟨7, _⟩ => ⟨S2304x1024, .f32⟩
  | .hbm, ⟨8, _⟩ => ⟨S_, .f32⟩
  | .hbm, ⟨9, _⟩ => ⟨S2304x1024, .f32⟩
  | .hbm, ⟨10, _⟩ => ⟨S2304x1024, .f32⟩
  | .hbm, ⟨11, _⟩ => ⟨S_, .f32⟩
  | .hbm, ⟨12, _⟩ => ⟨S2304x1024, .f32⟩
  | .hbm, ⟨13, _⟩ => ⟨S2304x1024, .f32⟩
  | .hbm, ⟨14, _⟩ => ⟨S_, .f32⟩
  | .hbm, ⟨15, _⟩ => ⟨S2304x1024, .f32⟩
  | .hbm, ⟨16, _⟩ => ⟨S2304x1024, .f32⟩
  | .hbm, ⟨17, _⟩ => ⟨S2304x1024, .f32⟩
  | .hbm, ⟨18, _⟩ => ⟨S2304x1024, .f32⟩
  | .hbm, ⟨19, _⟩ => ⟨S2304x1024, .f32⟩
  | .hbm, ⟨20, _⟩ => ⟨S2304x1024, .f32⟩
  | .hbm, ⟨21, _⟩ => ⟨S2304x1024, .f32⟩
  | .hbm, ⟨22, _⟩ => ⟨S2304x1024, .f32⟩
  | .hbm, ⟨23, _⟩ => ⟨S2304x1024, .f32⟩
  | .hbm, ⟨24, _⟩ => ⟨S2304x1024, .f32⟩
  | .hbm, ⟨25, _⟩ => ⟨S2304x1024, .f32⟩
  | .hbm, ⟨26, _⟩ => ⟨S2304x1024, .f32⟩
  | .hbm, ⟨27, _⟩ => ⟨S2304x1024, .bf16⟩
  | .hbm, ⟨28, _⟩ => ⟨S2304x1024, .bf16⟩
  | _, _ => ⟨S2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v3_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v3_1 : Ref sig .tc := ⟨.hbm, 17, rfl⟩
abbrev main_v3_0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩

abbrev nD : Nat := 1
abbrev τ : Topo := Topo.v7x

variable {F : FTy → Type} [FloatOps F]
-- ==== Kernel15.lean ====
abbrev S2304x14336 : Shape := ⟨2, ![2304, 14336]⟩
abbrev S2304x2048 : Shape := ⟨2, ![2304, 2048]⟩
abbrev S256x2048 : Shape := ⟨2, ![256, 2048]⟩

abbrev nBuf : Space → Nat
  | .hbm => 8
  | .vmem => 18
  | .smem => 0
  | _ => 0

abbrev bufTy : (tb : Table) → Fin (tcTables nBuf tb) → BufTy
  | .hbm, ⟨0, _⟩ => ⟨S2304x14336, .bf16⟩
  | .hbm, ⟨1, _⟩ => ⟨S2304x2048, .bf16⟩
  | .hbm, ⟨2, _⟩ => ⟨S2304x2048, .bf16⟩
  | .hbm, ⟨3, _⟩ => ⟨S2304x2048, .bf16⟩
  | .hbm, ⟨4, _⟩ => ⟨S2304x2048, .bf16⟩
  | .hbm, ⟨5, _⟩ => ⟨S2304x2048, .bf16⟩
  | .hbm, ⟨6, _⟩ => ⟨S2304x2048, .bf16⟩
  | .hbm, ⟨7, _⟩ => ⟨S2304x2048, .bf16⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | .local _ .vmem, ⟨10, _⟩ => ⟨S256x2048, .bf16⟩
  | .local _ .vmem, ⟨11, _⟩ => ⟨S256x2048, .bf16⟩
  | .local _ .vmem, ⟨12, _⟩ => ⟨S256x2048, .bf16⟩
  | .local _ .vmem, ⟨13, _⟩ => ⟨S256x2048, .bf16⟩
  | .local _ .vmem, ⟨14, _⟩ => ⟨S256x2048, .bf16⟩
  | .local _ .vmem, ⟨15, _⟩ => ⟨S256x2048, .bf16⟩
  | .local _ .vmem, ⟨16, _⟩ => ⟨S256x2048, .bf16⟩
  | .local _ .vmem, ⟨17, _⟩ => ⟨S256x2048, .bf16⟩
  | _, _ => ⟨S2304x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_1 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference15Ideal.lean ====
abbrev S2304x14336 : Shape := ⟨2, ![2304, 14336]⟩
abbrev S2304x2048 : Shape := ⟨2, ![2304, 2048]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S2304x14336, .bf16⟩
  | .hbm, ⟨1, _⟩ => ⟨S2304x2048, .bf16⟩
  | .hbm, ⟨2, _⟩ => ⟨S2304x2048, .bf16⟩
  | .hbm, ⟨3, _⟩ => ⟨S2304x2048, .bf16⟩
  | .hbm, ⟨4, _⟩ => ⟨S2304x2048, .bf16⟩
  | .hbm, ⟨5, _⟩ => ⟨S2304x2048, .f32⟩
  | .hbm, ⟨6, _⟩ => ⟨S2304x2048, .bf16⟩
  | .hbm, ⟨7, _⟩ => ⟨S2304x2048, .f32⟩
  | .hbm, ⟨8, _⟩ => ⟨S2304x2048, .f32⟩
  | .hbm, ⟨9, _⟩ => ⟨S2304x2048, .f32⟩
  | .hbm, ⟨10, _⟩ => ⟨S2304x2048, .f32⟩
  | .hbm, ⟨11, _⟩ => ⟨S2304x2048, .f32⟩
  | .hbm, ⟨12, _⟩ => ⟨S_, .f32⟩
  | .hbm, ⟨13, _⟩ => ⟨S2304x2048, .f32⟩
  | .hbm, ⟨14, _⟩ => ⟨S2304x2048, .f32⟩
  | .hbm, ⟨15, _⟩ => ⟨S_, .f32⟩
  | .hbm, ⟨16, _⟩ => ⟨S2304x2048, .f32⟩
  | .hbm, ⟨17, _⟩ => ⟨S2304x2048, .f32⟩
  | .hbm, ⟨18, _⟩ => ⟨S_, .f32⟩
  | .hbm, ⟨19, _⟩ => ⟨S2304x2048, .f32⟩
  | .hbm, ⟨20, _⟩ => ⟨S2304x2048, .f32⟩
  | .hbm, ⟨21, _⟩ => ⟨S2304x2048, .f32⟩
  | .hbm, ⟨22, _⟩ => ⟨S2304x2048, .f32⟩
  | .hbm, ⟨23, _⟩ => ⟨S2304x2048, .f32⟩
  | .hbm, ⟨24, _⟩ => ⟨S2304x2048, .f32⟩
  | .hbm, ⟨25, _⟩ => ⟨S_, .f32⟩
  | .hbm, ⟨26, _⟩ => ⟨S2304x2048, .f32⟩
  | .hbm, ⟨27, _⟩ => ⟨S2304x2048, .f32⟩
  | .hbm, ⟨28, _⟩ => ⟨S_, .f32⟩
  | .hbm, ⟨29, _⟩ => ⟨S2304x2048, .f32⟩
  | .hbm, ⟨30, _⟩ => ⟨S2304x2048, .f32⟩
  | .hbm, ⟨31, _⟩ => ⟨S_, .f32⟩
  | .hbm, ⟨32, _⟩ => ⟨S2304x2048, .f32⟩
  | .hbm, ⟨33, _⟩ => ⟨S2304x2048, .f32⟩
  | .hbm, ⟨34, _⟩ => ⟨S2304x2048, .f32⟩
  | .hbm, ⟨35, _⟩ => ⟨S2304x2048, .f32⟩
  | .hbm, ⟨36, _⟩ => ⟨S2304x2048, .f32⟩
  | .hbm, ⟨37, _⟩ => ⟨S2304x2048, .f32⟩
  | .hbm, ⟨38, _⟩ => ⟨S2304x2048, .f32⟩
  | .hbm, ⟨39, _⟩ => ⟨S2304x2048, .f32⟩
  | .hbm, ⟨40, _⟩ => ⟨S2304x2048, .f32⟩
  | .hbm, ⟨41, _⟩ => ⟨S2304x2048, .f32⟩
  | .hbm, ⟨42, _⟩ => ⟨S2304x2048, .f32⟩
  | .hbm, ⟨43, _⟩ => ⟨S2304x2048, .f32⟩
  | .hbm, ⟨44, _⟩ => ⟨S2304x2048, .bf16⟩
  | .hbm, ⟨45, _⟩ => ⟨S2304x2048, .bf16⟩
  | .hbm, ⟨46, _⟩ => ⟨S2304x2048, .bf16⟩
  | .hbm, ⟨47, _⟩ => ⟨S2304x2048, .bf16⟩
  | _, _ => ⟨S2304x14336, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩

abbrev nD : Nat := 1
abbrev τ : Topo := Topo.v7x

variable {F : FTy → Type} [FloatOps F]
-- ==== Proof.InDw.lean ====
module

public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal.Read
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.Kernel2Ideal.Prod

open Cert.Kernel2Ideal Cert.Kernel2Ideal.Gen

variable (m : (ℓ : Loc nD τ sig) → Buf (Elt Ideal) ℓ)

/-- The two factors as the launch reads them: the rows of the activations, and of the cotangents. -/
def arrA (c : Dev nD) (r : Fin 2304) (x : Fin 2048) : EReal := (m ((c : Thread nD τ).loc main_arg0) : Vec Ideal S2304x2048 .bf16) (ix2 r x)
def arrB (c : Dev nD) (r : Fin 2304) (x : Fin 14336) : EReal := (m ((c : Thread nD τ).loc main_arg1) : Vec Ideal S2304x14336 .bf16) (ix2 r x)

/-- The block of each window at a point: 14 column blocks for each of the 2 row blocks. -/
theorem idx : ∀ t : Fin cfg0.N, win0_0.index t = ![0, t.val / 14]
    ∧ win0_1.index t = ![0, t.val % 14]
    ∧ win0_2.index t = ![t.val / 14, t.val % 14] :=
  (by decide +kernel : ∀ t : Fin grid0.N, _)

theorem t_lt (t : Fin cfg0.N) : t.val < 28 := t.isLt

/-- The row and the column of the result which a point's block has at `i` and `j`. -/
def rowOf (t : Fin cfg0.N) (i : Fin 1024) : Fin 2048 := ⟨1024 * (t.val / 14) + i.val, by have := t_lt t; omega⟩
def colOf (t : Fin cfg0.N) (j : Fin 1024) : Fin 14336 := ⟨1024 * (t.val % 14) + j.val, by omega⟩

/-- The blocks a point reads. -/
def vA (c : Dev nD) (t : Fin cfg0.N) (i : Fin 2304) (j : Fin 1024) : EReal := iblk m c 0 t (ix2 i j)
def vB (c : Dev nD) (t : Fin cfg0.N) (i : Fin 2304) (j : Fin 1024) : EReal := iblk m c 1 t (ix2 i j)

theorem blkA (c : Dev nD) (t : Fin cfg0.N) (i : Fin 2304) (j : Fin 1024) :
    vA m c t i j = arrA m c i (rowOf t j) := by
  have ht := t_lt t
  unfold vA arrA rowOf
  blk_point [iblk, V, idx t]
  all_goals (try omega)

theorem blkB (c : Dev nD) (t : Fin cfg0.N) (i : Fin 2304) (j : Fin 1024) :
    vB m c t i j = arrB m c i (colOf t j) := by
  have ht := t_lt t
  unfold vB arrB colOf
  blk_point [iblk, V, idx t]
  all_goals (try omega)

/-- What a point leaves in the block of the result. -/
theorem out (c : Dev nD) (t : Fin cfg0.N) (i : Fin 1024) (j : Fin 1024) :
    outsAt0 m c t (ix2 i j) = ∑ k : Fin 2304, arrA m c k (rowOf t i) * arrB m c k (colOf t j) := by
  have e : outsAt0 m c t (ix2 i j) = ∑ k : Fin 2304, vA m c t k i * vB m c t k j := by
    unfold outsAt0
    frame_out
    open_payloads
    pointwise
    try simp only [read_unread_whole]
    simp only [vA, vB]
  rw [e]
  exact Finset.sum_congr rfl fun k _ => by rw [blkA, blkB]

theorem idx2 (t : Fin cfg0.N) (i : Fin 1024) (j : Fin 1024) :
    ((View.whole main_v0).slice (win0_2.rect t)).emb (ix2 i j) = (ix2 (rowOf t i) (colOf t j) : S2048x14336.Idx) := by
  have ht := t_lt t
  unfold rowOf colOf
  blk_ext [idx t]
  all_goals (try omega)

/-- The array of the result after the last point. -/
theorem final (c : Dev nD) : (dats m 0 c).arrAt 2 (cfgs 0).N
    = fun y : S2048x14336.Idx => ∑ k : Fin 2304, arrA m c k (y 0) * arrB m c k (y 1) := by
  refine (dats m 0 c).arrAt_eq_of_covers 2 _ (by decide +kernel) fun t hf y => ?_
  blk_simp [idx t]
  rw [after0_2]
  idx_vars y
  rw [idx2]
  exact out m c t y0 y1

/-- The array of the result is the derivative's: there the factors of each term stand the other way round. -/
theorem res (c : Dev nD) : (dats m 0 c).arrAt 2 (cfgs 0).N = Cert.Reference2Ideal.Read.val_main_v6 (F := Ideal)
    (m ((c : Thread nD τ).loc main_arg0)) (m ((c : Thread nD τ).loc main_arg1)) := by
  refine (final m c).trans (funext fun y => ?_)
  refine Eq.trans ?_ (Cert.Reference2Ideal.Read.val_main_v6_apply (F := Ideal) _ _ _).symm
  refine Eq.trans ?_ (Cert.Reference2Ideal.Read.val_main_v5_apply (F := Ideal) _ _ _).symm
  refine Eq.trans ?_ (Cert.Reference2Ideal.Read.val_main_v4_apply _ _ _).symm
  refine Finset.sum_congr rfl fun k _ => (mul_comm _ _).trans ?_
  refine congrArg₂ (fun a b : EReal => a * b) ?_ ?_
  · refine congrArg (m ((c : Thread nD τ).loc main_arg1)) (funext fun a => Fin.ext ?_)
    fin_cases a <;> rfl
  · refine congrArg (m ((c : Thread nD τ).loc main_arg0)) (funext fun a => Fin.ext ?_)
    fin_cases a <;> rfl

end Cert.Kernel2Ideal.Prod
-- ==== Proof.InDa.lean ====
module

public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal.Read
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.Kernel3Ideal.Prod

open Cert.Kernel3Ideal Cert.Kernel3Ideal.Gen

variable (m : (ℓ : Loc nD τ sig) → Buf (Elt Ideal) ℓ)

/-- The two factors as the launch reads them: the cotangents and the weights. -/
def arrA (c : Dev nD) (r : Fin 2304) (x : Fin 14336) : EReal := (m ((c : Thread nD τ).loc main_arg0) : Vec Ideal S2304x14336 .bf16) (ix2 r x)
def arrB (c : Dev nD) (r : Fin 2048) (x : Fin 14336) : EReal := (m ((c : Thread nD τ).loc main_arg1) : Vec Ideal S2048x14336 .bf16) (ix2 r x)

/-- The block of each window at a point: 2 row blocks, 2 column blocks for each, 7 blocks of the summed axis for each. -/
theorem idx : ∀ t : Fin cfg0.N, win0_0.index t = ![t.val / 14, t.val % 7]
    ∧ win0_1.index t = ![t.val / 7 % 2, t.val % 7]
    ∧ win0_2.index t = ![t.val / 14, t.val / 7 % 2] :=
  (by decide +kernel : ∀ t : Fin grid0.N, _)

theorem t_lt (t : Fin cfg0.N) : t.val < 28 := t.isLt

/-- The row and the column of the result which a point's block has at `i` and `j`, and the place in the summed axis. -/
def rowOf (t : Fin cfg0.N) (i : Fin 1152) : Fin 2304 := ⟨1152 * (t.val / 14) + i.val, by have := t_lt t; omega⟩
def colOf (t : Fin cfg0.N) (j : Fin 1024) : Fin 2048 := ⟨1024 * (t.val / 7 % 2) + j.val, by omega⟩
def sumOf (t : Fin cfg0.N) (k : Fin 2048) : Fin 14336 := ⟨2048 * (t.val % 7) + k.val, by omega⟩

/-- The blocks a point reads, and the accumulator after it. -/
def vA (c : Dev nD) (t : Fin cfg0.N) (i : Fin 1152) (k : Fin 2048) : EReal := iblk m c 0 t (ix2 i k)
def vB (c : Dev nD) (t : Fin cfg0.N) (j : Fin 1024) (k : Fin 2048) : EReal := iblk m c 1 t (ix2 j k)
def acc (c : Dev nD) (n : ℕ) (hn : n < cfg0.N) (i : Fin 1152) (j : Fin 1024) : EReal := (outsAt0 m c n hn).2 (ix2 i j)

theorem blkA (c : Dev nD) (t : Fin cfg0.N) (i : Fin 1152) (k : Fin 2048) :
    vA m c t i k = arrA m c (rowOf t i) (sumOf t k) := by
  have ht := t_lt t
  unfold vA arrA rowOf sumOf
  blk_point [iblk, V, idx t]
  all_goals (try omega)

theorem blkB (c : Dev nD) (t : Fin cfg0.N) (j : Fin 1024) (k : Fin 2048) :
    vB m c t j k = arrB m c (colOf t j) (sumOf t k) := by
  have ht := t_lt t
  unfold vB arrB colOf sumOf
  blk_point [iblk, V, idx t]
  all_goals (try omega)

theorem acc_A (c : Dev nD) (t : Fin cfg0.N) (h0 : t.val % 7 = 0) (i : Fin 1152) (j : Fin 1024) :
    acc m c t.val t.isLt i j = ∑ k : Fin 2048, vA m c t i k * vB m c t j k := by
  unfold acc
  rw [outsAt0_A m c t h0 (by omega) (by omega)]
  frame_out
  open_payloads
  pointwise
  try simp only [read_unread_whole]
  simp only [vA, vB]

theorem acc_B (c : Dev nD) (t : Fin cfg0.N) (h0 : ¬t.val % 7 = 0) (h2 : ¬t.val % 7 = 6) (i : Fin 1152) (j : Fin 1024) :
    acc m c t.val t.isLt i j = acc m c (t.val - 1) (Nat.lt_of_le_of_lt (Nat.sub_le _ _) t.isLt) i j
      + ∑ k : Fin 2048, vA m c t i k * vB m c t j k := by
  unfold acc
  rw [outsAt0_B m c t h0 (by omega) h2]
  frame_out
  open_payloads
  pointwise
  try simp only [read_unread_whole]
  simp only [vA, vB]

theorem acc_C (c : Dev nD) (t : Fin cfg0.N) (h2 : t.val % 7 = 6) (i : Fin 1152) (j : Fin 1024) :
    acc m c t.val t.isLt i j = acc m c (t.val - 1) (Nat.lt_of_le_of_lt (Nat.sub_le _ _) t.isLt) i j
      + ∑ k : Fin 2048, vA m c t i k * vB m c t j k := by
  unfold acc
  rw [outsAt0_C m c t (by omega) (by omega) h2]
  frame_out
  open_payloads
  pointwise
  try simp only [read_unread_whole]
  simp only [vA, vB]

/-- The last point of a block writes the accumulator out. -/
theorem out_C (c : Dev nD) (t : Fin cfg0.N) (h2 : t.val % 7 = 6) (i : Fin 1152) (j : Fin 1024) :
    (outsAt0 m c t.val t.isLt).1 (ix2 i j) = acc m c (t.val - 1) (Nat.lt_of_le_of_lt (Nat.sub_le _ _) t.isLt) i j
      + ∑ k : Fin 2048, vA m c t i k * vB m c t j k := by
  unfold acc
  rw [outsAt0_C m c t (by omega) (by omega) h2]
  frame_out
  open_payloads
  pointwise
  try simp only [read_unread_whole]
  simp only [vA, vB]

/-- The term of the product at a place of the summed axis, zero beyond its end. -/
def term (c : Dev nD) (r : Fin 2304) (x : Fin 2048) (k : ℕ) : EReal :=
  if h : k < 14336 then arrA m c r ⟨k, h⟩ * arrB m c x ⟨k, h⟩ else 0

/-- A point's own part of the sum. -/
theorem part_eq (c : Dev nD) (t : Fin cfg0.N) (i : Fin 1152) (j : Fin 1024) :
    ∑ k : Fin 2048, vA m c t i k * vB m c t j k
      = ∑ k ∈ Finset.range 2048, term m c (rowOf t i) (colOf t j) (2048 * (t.val % 7) + k) := by
  rw [Finset.sum_range]
  refine Finset.sum_congr rfl fun k _ => ?_
  rw [blkA, blkB, term, dif_pos (by omega)]
  rfl

/-- The accumulator holds the sum over the blocks read so far. -/
theorem acc_eq (c : Dev nD) (i : Fin 1152) (j : Fin 1024) : ∀ (n : ℕ) (hn : n < cfg0.N),
    acc m c n hn i j = ∑ k ∈ Finset.range (2048 * (n % 7) + 2048), term m c (rowOf ⟨n, hn⟩ i) (colOf ⟨n, hn⟩ j) k := by
  intro n
  induction n with
  | zero =>
    intro hn
    rw [acc_A m c ⟨0, hn⟩ rfl, part_eq]
    rw [Finset.sum_range_add]
    simp
  | succ n ih =>
    intro hn
    rw [Finset.sum_range_add]
    by_cases h0 : (n + 1) % 7 = 0
    · rw [acc_A m c ⟨n + 1, hn⟩ h0, part_eq]
      simp only [h0, Nat.mul_zero, Finset.range_zero, Finset.sum_empty, zero_add]
    · have hs : acc m c (n + 1) hn i j = acc m c n (Nat.lt_of_succ_lt hn) i j
          + ∑ k : Fin 2048, vA m c ⟨n + 1, hn⟩ i k * vB m c ⟨n + 1, hn⟩ j k := by
        by_cases h2 : (n + 1) % 7 = 6
        · exact acc_C m c ⟨n + 1, hn⟩ h2 i j
        · exact acc_B m c ⟨n + 1, hn⟩ h0 h2 i j
      have er : rowOf ⟨n, Nat.lt_of_succ_lt hn⟩ i = rowOf ⟨n + 1, hn⟩ i := Fin.ext (by simp only [rowOf]; omega)
      have ec : colOf ⟨n, Nat.lt_of_succ_lt hn⟩ j = colOf ⟨n + 1, hn⟩ j := Fin.ext (by simp only [colOf]; omega)
      have el : 2048 * (n % 7) + 2048 = 2048 * ((n + 1) % 7) := by omega
      rw [hs, ih (Nat.lt_of_succ_lt hn), part_eq, er, ec, el]

/-- What the last point of a block leaves in the block of the result. -/
theorem out (c : Dev nD) (t : Fin cfg0.N) (h2 : t.val % 7 = 6) (i : Fin 1152) (j : Fin 1024) :
    (outsAt0 m c t.val t.isLt).1 (ix2 i j)
      = ∑ k : Fin 14336, arrA m c (rowOf t i) k * arrB m c (colOf t j) k := by
  rw [out_C m c t h2, ← acc_C m c t h2, acc_eq]
  rw [show 2048 * (t.val % 7) + 2048 = 14336 by omega, Finset.sum_range]
  refine Finset.sum_congr rfl fun k _ => ?_
  rw [term, dif_pos k.isLt]

theorem idx2 (t : Fin cfg0.N) (i : Fin 1152) (j : Fin 1024) :
    ((View.whole main_v0).slice (win0_2.rect t)).emb (ix2 i j) = (ix2 (rowOf t i) (colOf t j) : S2304x2048.Idx) := by
  have ht := t_lt t
  unfold rowOf colOf
  blk_ext [idx t]
  all_goals (try omega)

/-- The array of the result after the last point. -/
theorem final (c : Dev nD) : (dats m 0 c).arrAt 2 (cfgs 0).N
    = fun y : S2304x2048.Idx => ∑ k : Fin 14336, arrA m c (y 0) k * arrB m c (y 1) k := by
  refine (dats m 0 c).arrAt_eq_of_covers 2 _ (by decide +kernel) fun t hf y => ?_
  have h2 : t.val % 7 = 6 := (flush0_2 t).mp hf
  blk_simp [idx t]
  rw [after0_2]
  idx_vars y
  rw [idx2]
  exact out m c t h2 y0 y1

/-- The array of the result is the derivative's. -/
theorem res (c : Dev nD) : (dats m 0 c).arrAt 2 (cfgs 0).N = Cert.Reference3Ideal.Read.val_main_v5 (F := Ideal)
    (m ((c : Thread nD τ).loc main_arg0)) (m ((c : Thread nD τ).loc main_arg1)) := by
  refine (final m c).trans (funext fun y => ?_)
  refine Eq.trans ?_ (Cert.Reference3Ideal.Read.val_main_v5_apply (F := Ideal) _ _ _).symm
  refine Eq.trans ?_ (Cert.Reference3Ideal.Read.val_main_v4_apply _ _ _).symm
  refine Finset.sum_congr rfl fun k _ => congrArg₂ (fun a b : EReal => a * b) ?_ ?_
  · refine congrArg (m ((c : Thread nD τ).loc main_arg0)) (funext fun a => Fin.ext ?_)
    fin_cases a <;> rfl
  · refine congrArg (m ((c : Thread nD τ).loc main_arg1)) (funext fun a => Fin.ext ?_)
    fin_cases a <;> rfl

end Cert.Kernel3Ideal.Prod
-- ==== Proof.InFwd.lean ====
module

public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal.Read
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.Kernel4Ideal.Prod

open Cert.Kernel4Ideal Cert.Kernel4Ideal.Gen

variable (m : (ℓ : Loc nD τ sig) → Buf (Elt Ideal) ℓ)

/-- The two factors as the launch reads them: the activations and the weights. -/
def arrA (c : Dev nD) (r : Fin 2304) (x : Fin 2048) : EReal := (m ((c : Thread nD τ).loc main_arg0) : Vec Ideal S2304x2048 .bf16) (ix2 r x)
def arrB (c : Dev nD) (r : Fin 2048) (x : Fin 14336) : EReal := (m ((c : Thread nD τ).loc main_arg1) : Vec Ideal S2048x14336 .bf16) (ix2 r x)

/-- The block of each window at a point: 14 column blocks for each of the 2 row blocks. -/
theorem idx : ∀ t : Fin cfg0.N, win0_0.index t = ![t.val / 14, 0]
    ∧ win0_1.index t = ![0, t.val % 14]
    ∧ win0_2.index t = ![t.val / 14, t.val % 14] :=
  (by decide +kernel : ∀ t : Fin grid0.N, _)

theorem t_lt (t : Fin cfg0.N) : t.val < 28 := t.isLt

/-- The row and the column of the result which a point's block has at `i` and `j`. -/
def rowOf (t : Fin cfg0.N) (i : Fin 1152) : Fin 2304 := ⟨1152 * (t.val / 14) + i.val, by have := t_lt t; omega⟩
def colOf (t : Fin cfg0.N) (j : Fin 1024) : Fin 14336 := ⟨1024 * (t.val % 14) + j.val, by omega⟩

/-- The blocks a point reads. -/
def vA (c : Dev nD) (t : Fin cfg0.N) (i : Fin 1152) (j : Fin 2048) : EReal := iblk m c 0 t (ix2 i j)
def vB (c : Dev nD) (t : Fin cfg0.N) (i : Fin 2048) (j : Fin 1024) : EReal := iblk m c 1 t (ix2 i j)

theorem blkA (c : Dev nD) (t : Fin cfg0.N) (i : Fin 1152) (j : Fin 2048) :
    vA m c t i j = arrA m c (rowOf t i) j := by
  have ht := t_lt t
  unfold vA arrA rowOf
  blk_point [iblk, V, idx t]
  all_goals (try omega)

theorem blkB (c : Dev nD) (t : Fin cfg0.N) (i : Fin 2048) (j : Fin 1024) :
    vB m c t i j = arrB m c i (colOf t j) := by
  have ht := t_lt t
  unfold vB arrB colOf
  blk_point [iblk, V, idx t]
  all_goals (try omega)

/-- What a point leaves in the block of the result. -/
theorem out (c : Dev nD) (t : Fin cfg0.N) (i : Fin 1152) (j : Fin 1024) :
    outsAt0 m c t (ix2 i j) = ∑ k : Fin 2048, arrA m c (rowOf t i) k * arrB m c k (colOf t j) := by
  have e : outsAt0 m c t (ix2 i j) = ∑ k : Fin 2048, vA m c t i k * vB m c t k j := by
    unfold outsAt0
    frame_out
    open_payloads
    pointwise
    try simp only [read_unread_whole]
    simp only [vA, vB]
  rw [e]
  exact Finset.sum_congr rfl fun k _ => by rw [blkA, blkB]

theorem idx2 (t : Fin cfg0.N) (i : Fin 1152) (j : Fin 1024) :
    ((View.whole main_v0).slice (win0_2.rect t)).emb (ix2 i j) = (ix2 (rowOf t i) (colOf t j) : S2304x14336.Idx) := by
  have ht := t_lt t
  unfold rowOf colOf
  blk_ext [idx t]
  all_goals (try omega)

/-- The array of the result after the last point. -/
theorem final (c : Dev nD) : (dats m 0 c).arrAt 2 (cfgs 0).N
    = fun y : S2304x14336.Idx => ∑ k : Fin 2048, arrA m c (y 0) k * arrB m c k (y 1) := by
  refine (dats m 0 c).arrAt_eq_of_covers 2 _ (by decide +kernel) fun t hf y => ?_
  blk_simp [idx t]
  rw [after0_2]
  idx_vars y
  rw [idx2]
  exact out m c t y0 y1

/-- The array of the result is the product's. -/
theorem res (c : Dev nD) : (dats m 0 c).arrAt 2 (cfgs 0).N = Cert.Reference4Ideal.Read.val_main_v3 (F := Ideal)
    (m ((c : Thread nD τ).loc main_arg0)) (m ((c : Thread nD τ).loc main_arg1)) := by
  refine (final m c).trans (funext fun y => ?_)
  refine Eq.trans ?_ (Cert.Reference4Ideal.Read.val_main_v3_apply (F := Ideal) _ _ _).symm
  refine Eq.trans ?_ (Cert.Reference4Ideal.Read.val_main_v2_apply _ _ _).symm
  refine Finset.sum_congr rfl fun k _ => congrArg₂ (fun a b : EReal => a * b) ?_ ?_
  · refine congrArg (m ((c : Thread nD τ).loc main_arg0)) (funext fun a => Fin.ext ?_)
    fin_cases a <;> rfl
  · refine congrArg (m ((c : Thread nD τ).loc main_arg1)) (funext fun a => Fin.ext ?_)
    fin_cases a <;> rfl

end Cert.Kernel4Ideal.Prod
-- ==== Proof.RetDw.lean ====
module

public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal.Read
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.Kernel5Ideal.Prod

open Cert.Kernel5Ideal Cert.Kernel5Ideal.Gen

variable (m : (ℓ : Loc nD τ sig) → Buf (Elt Ideal) ℓ)

/-- The block of each window at a point. -/
theorem idx : ∀ t : Fin cfg0.N, win0_0.index t = ![0, t.val / 2] ∧ win0_1.index t = ![0, t.val % 2] ∧ win0_2.index t = ![t.val / 2, t.val % 2] :=
  (by decide +kernel : ∀ t : Fin grid0.N, _)

theorem t_lt (t : Fin cfg0.N) : t.val < 4 := t.isLt

/-- The two factors, the rows of the branch and the cotangents: whole, and the block of each that a point reads. -/
def arrA (c : Dev nD) (r : Fin 2304) (x : Fin 2048) : EReal := (m ((c : Thread nD τ).loc main_arg0) : Vec Ideal S2304x2048 .bf16) (ix2 r x)
def arrB (c : Dev nD) (r : Fin 2304) (x : Fin 2048) : EReal := (m ((c : Thread nD τ).loc main_arg1) : Vec Ideal S2304x2048 .bf16) (ix2 r x)
def vA (c : Dev nD) (t : Fin cfg0.N) (i : Fin 2304) (j : Fin 1024) : EReal := iblk m c 0 t (ix2 i j)
def vB (c : Dev nD) (t : Fin cfg0.N) (i : Fin 2304) (j : Fin 1024) : EReal := iblk m c 1 t (ix2 i j)

/-- The row and the column of the result which a point's block has at `i` and `j`. -/
def rowOf (t : Fin cfg0.N) (i : Fin 1024) : Fin 2048 := ⟨1024 * (t.val / 2) + i.val, by have := t_lt t; omega⟩
def colOf (t : Fin cfg0.N) (j : Fin 1024) : Fin 2048 := ⟨1024 * (t.val % 2) + j.val, by omega⟩

/-- The array of the result after the last point. -/
theorem final (c : Dev nD) : (dats m 0 c).arrAt 2 (cfgs 0).N
    = fun y : S2048x2048.Idx => ∑ k : Fin 2304, arrA m c k (y 0) * arrB m c k (y 1) := by
  refine (dats m 0 c).arrAt_eq_of_covers 2 _ (by decide +kernel) fun t hf y => ?_
  have ht := t_lt t
  blk_simp [idx t]
  rw [after0_2]
  idx_vars y
  have e : ((View.whole main_v0).slice (win0_2.rect t)).emb (ix2 y0 y1) = (ix2 (rowOf t y0) (colOf t y1) : S2048x2048.Idx) := by
    unfold rowOf colOf
    blk_ext [idx t]
    all_goals (try omega)
  have o : outsAt0 m c t (ix2 y0 y1) = ∑ k : Fin 2304, vA m c t k y0 * vB m c t k y1 := by
    unfold outsAt0
    frame_out
    open_payloads
    pointwise
    simp only [vA, vB]
  rw [e]
  refine o.trans (Finset.sum_congr rfl fun k _ => congrArg₂ (fun a b : EReal => a * b) ?_ ?_)
  · show vA m c t k y0 = arrA m c k (rowOf t y0)
    unfold vA arrA rowOf
    blk_point [iblk, V, idx t]
    all_goals (try omega)
  · show vB m c t k y1 = arrB m c k (colOf t y1)
    unfold vB arrB colOf
    blk_point [iblk, V, idx t]
    all_goals (try omega)

/-- It is the reference's; there the factors of each term stand the other way round. -/
theorem res (c : Dev nD) : (dats m 0 c).arrAt 2 (cfgs 0).N = Cert.Reference5Ideal.Read.val_main_v6 (F := Ideal)
    (m ((c : Thread nD τ).loc main_arg0)) (m ((c : Thread nD τ).loc main_arg1)) := by
  refine (final m c).trans (funext fun y => ?_)
  refine Eq.trans ?_ (Cert.Reference5Ideal.Read.val_main_v6_apply (F := Ideal) _ _ _).symm
  refine Eq.trans ?_ (Cert.Reference5Ideal.Read.val_main_v5_apply (F := Ideal) _ _ _).symm
  refine Eq.trans ?_ (Cert.Reference5Ideal.Read.val_main_v4_apply _ _ _).symm
  refine Finset.sum_congr rfl fun k _ => (mul_comm _ _).trans (congrArg₂ (fun a b : EReal => a * b) ?_ ?_)
  · refine congrArg (m ((c : Thread nD τ).loc main_arg1)) (funext fun a => Fin.ext ?_)
    fin_cases a <;> rfl
  · refine congrArg (m ((c : Thread nD τ).loc main_arg0)) (funext fun a => Fin.ext ?_)
    fin_cases a <;> rfl

end Cert.Kernel5Ideal.Prod
-- ==== Proof.RetDa.lean ====
module

public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal.Read
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.Kernel6Ideal.Prod

open Cert.Kernel6Ideal Cert.Kernel6Ideal.Gen

variable (m : (ℓ : Loc nD τ sig) → Buf (Elt Ideal) ℓ)

/-- The block of each window at a point. -/
theorem idx : ∀ t : Fin cfg0.N, win0_0.index t = ![t.val / 2, 0] ∧ win0_1.index t = ![t.val % 2, 0] ∧ win0_2.index t = ![t.val / 2, t.val % 2] :=
  (by decide +kernel : ∀ t : Fin grid0.N, _)

theorem t_lt (t : Fin cfg0.N) : t.val < 4 := t.isLt

/-- The two factors, the cotangents and the weights: whole, and the block of each that a point reads. -/
def arrA (c : Dev nD) (r : Fin 2304) (x : Fin 2048) : EReal := (m ((c : Thread nD τ).loc main_arg0) : Vec Ideal S2304x2048 .bf16) (ix2 r x)
def arrB (c : Dev nD) (r : Fin 2048) (x : Fin 2048) : EReal := (m ((c : Thread nD τ).loc main_arg1) : Vec Ideal S2048x2048 .bf16) (ix2 r x)
def vA (c : Dev nD) (t : Fin cfg0.N) (i : Fin 1152) (j : Fin 2048) : EReal := iblk m c 0 t (ix2 i j)
def vB (c : Dev nD) (t : Fin cfg0.N) (i : Fin 1024) (j : Fin 2048) : EReal := iblk m c 1 t (ix2 i j)

/-- The row and the column of the result which a point's block has at `i` and `j`. -/
def rowOf (t : Fin cfg0.N) (i : Fin 1152) : Fin 2304 := ⟨1152 * (t.val / 2) + i.val, by have := t_lt t; omega⟩
def colOf (t : Fin cfg0.N) (j : Fin 1024) : Fin 2048 := ⟨1024 * (t.val % 2) + j.val, by omega⟩

/-- The array of the result after the last point. -/
theorem final (c : Dev nD) : (dats m 0 c).arrAt 2 (cfgs 0).N
    = fun y : S2304x2048.Idx => ∑ k : Fin 2048, arrA m c (y 0) k * arrB m c (y 1) k := by
  refine (dats m 0 c).arrAt_eq_of_covers 2 _ (by decide +kernel) fun t hf y => ?_
  have ht := t_lt t
  blk_simp [idx t]
  rw [after0_2]
  idx_vars y
  have e : ((View.whole main_v0).slice (win0_2.rect t)).emb (ix2 y0 y1) = (ix2 (rowOf t y0) (colOf t y1) : S2304x2048.Idx) := by
    unfold rowOf colOf
    blk_ext [idx t]
    all_goals (try omega)
  have o : outsAt0 m c t (ix2 y0 y1) = ∑ k : Fin 2048, vA m c t y0 k * vB m c t y1 k := by
    unfold outsAt0
    frame_out
    open_payloads
    pointwise
    simp only [vA, vB]
  rw [e]
  refine o.trans (Finset.sum_congr rfl fun k _ => congrArg₂ (fun a b : EReal => a * b) ?_ ?_)
  · show vA m c t y0 k = arrA m c (rowOf t y0) k
    unfold vA arrA rowOf
    blk_point [iblk, V, idx t]
    all_goals (try omega)
  · show vB m c t y1 k = arrB m c (colOf t y1) k
    unfold vB arrB colOf
    blk_point [iblk, V, idx t]
    all_goals (try omega)

/-- It is the reference's. -/
theorem res (c : Dev nD) : (dats m 0 c).arrAt 2 (cfgs 0).N = Cert.Reference6Ideal.Read.val_main_v5 (F := Ideal)
    (m ((c : Thread nD τ).loc main_arg0)) (m ((c : Thread nD τ).loc main_arg1)) := by
  refine (final m c).trans (funext fun y => ?_)
  refine Eq.trans ?_ (Cert.Reference6Ideal.Read.val_main_v5_apply (F := Ideal) _ _ _).symm
  refine Eq.trans ?_ (Cert.Reference6Ideal.Read.val_main_v4_apply _ _ _).symm
  refine Finset.sum_congr rfl fun k _ => (congrArg₂ (fun a b : EReal => a * b) ?_ ?_)
  · refine congrArg (m ((c : Thread nD τ).loc main_arg0)) (funext fun a => Fin.ext ?_)
    fin_cases a <;> rfl
  · refine congrArg (m ((c : Thread nD τ).loc main_arg1)) (funext fun a => Fin.ext ?_)
    fin_cases a <;> rfl

end Cert.Kernel6Ideal.Prod
-- ==== Proof.RetFwd.lean ====
module

public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal.Read
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.Kernel7Ideal.Prod

open Cert.Kernel7Ideal Cert.Kernel7Ideal.Gen

variable (m : (ℓ : Loc nD τ sig) → Buf (Elt Ideal) ℓ)

/-- The block of each window at a point. -/
theorem idx : ∀ t : Fin cfg0.N, win0_0.index t = ![t.val / 2, 0] ∧ win0_1.index t = ![0, t.val % 2] ∧ win0_2.index t = ![t.val / 2, t.val % 2] :=
  (by decide +kernel : ∀ t : Fin grid0.N, _)

theorem t_lt (t : Fin cfg0.N) : t.val < 4 := t.isLt

/-- The two factors, the rows of the branch and the weights: whole, and the block of each that a point reads. -/
def arrA (c : Dev nD) (r : Fin 2304) (x : Fin 2048) : EReal := (m ((c : Thread nD τ).loc main_arg0) : Vec Ideal S2304x2048 .bf16) (ix2 r x)
def arrB (c : Dev nD) (r : Fin 2048) (x : Fin 2048) : EReal := (m ((c : Thread nD τ).loc main_arg1) : Vec Ideal S2048x2048 .bf16) (ix2 r x)
def vA (c : Dev nD) (t : Fin cfg0.N) (i : Fin 1152) (j : Fin 2048) : EReal := iblk m c 0 t (ix2 i j)
def vB (c : Dev nD) (t : Fin cfg0.N) (i : Fin 2048) (j : Fin 1024) : EReal := iblk m c 1 t (ix2 i j)

/-- The row and the column of the result which a point's block has at `i` and `j`. -/
def rowOf (t : Fin cfg0.N) (i : Fin 1152) : Fin 2304 := ⟨1152 * (t.val / 2) + i.val, by have := t_lt t; omega⟩
def colOf (t : Fin cfg0.N) (j : Fin 1024) : Fin 2048 := ⟨1024 * (t.val % 2) + j.val, by omega⟩

/-- The array of the result after the last point. -/
theorem final (c : Dev nD) : (dats m 0 c).arrAt 2 (cfgs 0).N
    = fun y : S2304x2048.Idx => ∑ k : Fin 2048, arrA m c (y 0) k * arrB m c k (y 1) := by
  refine (dats m 0 c).arrAt_eq_of_covers 2 _ (by decide +kernel) fun t hf y => ?_
  have ht := t_lt t
  blk_simp [idx t]
  rw [after0_2]
  idx_vars y
  have e : ((View.whole main_v0).slice (win0_2.rect t)).emb (ix2 y0 y1) = (ix2 (rowOf t y0) (colOf t y1) : S2304x2048.Idx) := by
    unfold rowOf colOf
    blk_ext [idx t]
    all_goals (try omega)
  have o : outsAt0 m c t (ix2 y0 y1) = ∑ k : Fin 2048, vA m c t y0 k * vB m c t k y1 := by
    unfold outsAt0
    frame_out
    open_payloads
    pointwise
    simp only [vA, vB]
  rw [e]
  refine o.trans (Finset.sum_congr rfl fun k _ => congrArg₂ (fun a b : EReal => a * b) ?_ ?_)
  · show vA m c t y0 k = arrA m c (rowOf t y0) k
    unfold vA arrA rowOf
    blk_point [iblk, V, idx t]
    all_goals (try omega)
  · show vB m c t k y1 = arrB m c k (colOf t y1)
    unfold vB arrB colOf
    blk_point [iblk, V, idx t]
    all_goals (try omega)

/-- It is the reference's. -/
theorem res (c : Dev nD) : (dats m 0 c).arrAt 2 (cfgs 0).N = Cert.Reference7Ideal.Read.val_main_v3 (F := Ideal)
    (m ((c : Thread nD τ).loc main_arg0)) (m ((c : Thread nD τ).loc main_arg1)) := by
  refine (final m c).trans (funext fun y => ?_)
  refine Eq.trans ?_ (Cert.Reference7Ideal.Read.val_main_v3_apply (F := Ideal) _ _ _).symm
  refine Eq.trans ?_ (Cert.Reference7Ideal.Read.val_main_v2_apply _ _ _).symm
  refine Finset.sum_congr rfl fun k _ => (congrArg₂ (fun a b : EReal => a * b) ?_ ?_)
  · refine congrArg (m ((c : Thread nD τ).loc main_arg0)) (funext fun a => Fin.ext ?_)
    fin_cases a <;> rfl
  · refine congrArg (m ((c : Thread nD τ).loc main_arg1)) (funext fun a => Fin.ext ?_)
    fin_cases a <;> rfl

end Cert.Kernel7Ideal.Prod
-- ==== Proof.OutFwd.lean ====
module

public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal.Read
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.Kernel8Ideal.Prod

open Cert.Kernel8Ideal Cert.Kernel8Ideal.Gen

variable (m : (ℓ : Loc nD τ sig) → Buf (Elt Ideal) ℓ)

/-- The block of each window at a point. -/
theorem idx : ∀ t : Fin cfg0.N, win0_0.index t = ![t.val / 2, 0] ∧ win0_1.index t = ![0, t.val % 2] ∧ win0_2.index t = ![t.val / 2, t.val % 2] :=
  (by decide +kernel : ∀ t : Fin grid0.N, _)

theorem t_lt (t : Fin cfg0.N) : t.val < 4 := t.isLt

/-- The two factors, the merged rows and the weights: whole, and the block of each that a point reads. -/
def arrA (c : Dev nD) (r : Fin 2304) (x : Fin 2048) : EReal := (m ((c : Thread nD τ).loc main_arg0) : Vec Ideal S2304x2048 .bf16) (ix2 r x)
def arrB (c : Dev nD) (r : Fin 2048) (x : Fin 2048) : EReal := (m ((c : Thread nD τ).loc main_arg1) : Vec Ideal S2048x2048 .bf16) (ix2 r x)
def vA (c : Dev nD) (t : Fin cfg0.N) (i : Fin 1152) (j : Fin 2048) : EReal := iblk m c 0 t (ix2 i j)
def vB (c : Dev nD) (t : Fin cfg0.N) (i : Fin 2048) (j : Fin 1024) : EReal := iblk m c 1 t (ix2 i j)

/-- The row and the column of the result which a point's block has at `i` and `j`. -/
def rowOf (t : Fin cfg0.N) (i : Fin 1152) : Fin 2304 := ⟨1152 * (t.val / 2) + i.val, by have := t_lt t; omega⟩
def colOf (t : Fin cfg0.N) (j : Fin 1024) : Fin 2048 := ⟨1024 * (t.val % 2) + j.val, by omega⟩

/-- The array of the result after the last point. -/
theorem final (c : Dev nD) : (dats m 0 c).arrAt 2 (cfgs 0).N
    = fun y : S2304x2048.Idx => ∑ k : Fin 2048, arrA m c (y 0) k * arrB m c k (y 1) := by
  refine (dats m 0 c).arrAt_eq_of_covers 2 _ (by decide +kernel) fun t hf y => ?_
  have ht := t_lt t
  blk_simp [idx t]
  rw [after0_2]
  idx_vars y
  have e : ((View.whole main_v0).slice (win0_2.rect t)).emb (ix2 y0 y1) = (ix2 (rowOf t y0) (colOf t y1) : S2304x2048.Idx) := by
    unfold rowOf colOf
    blk_ext [idx t]
    all_goals (try omega)
  have o : outsAt0 m c t (ix2 y0 y1) = ∑ k : Fin 2048, vA m c t y0 k * vB m c t k y1 := by
    unfold outsAt0
    frame_out
    open_payloads
    pointwise
    simp only [vA, vB]
  rw [e]
  refine o.trans (Finset.sum_congr rfl fun k _ => congrArg₂ (fun a b : EReal => a * b) ?_ ?_)
  · show vA m c t y0 k = arrA m c (rowOf t y0) k
    unfold vA arrA rowOf
    blk_point [iblk, V, idx t]
    all_goals (try omega)
  · show vB m c t k y1 = arrB m c k (colOf t y1)
    unfold vB arrB colOf
    blk_point [iblk, V, idx t]
    all_goals (try omega)

/-- It is the reference's. -/
theorem res (c : Dev nD) : (dats m 0 c).arrAt 2 (cfgs 0).N = Cert.Reference8Ideal.Read.val_main_v2 (F := Ideal)
    (m ((c : Thread nD τ).loc main_arg0)) (m ((c : Thread nD τ).loc main_arg1)) := by
  refine (final m c).trans (funext fun y => ?_)
  refine Eq.trans ?_ (Cert.Reference8Ideal.Read.val_main_v2_apply _ _ _).symm
  refine Finset.sum_congr rfl fun k _ => (congrArg₂ (fun a b : EReal => a * b) ?_ ?_)
  · refine congrArg (m ((c : Thread nD τ).loc main_arg0)) (funext fun a => Fin.ext ?_)
    fin_cases a <;> rfl
  · refine congrArg (m ((c : Thread nD τ).loc main_arg1)) (funext fun a => Fin.ext ?_)
    fin_cases a <;> rfl

end Cert.Kernel8Ideal.Prod
-- ==== Proof.NaDw.lean ====
module

public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal.Read
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.Kernel9Ideal.Prod

open Cert.Kernel9Ideal Cert.Kernel9Ideal.Gen

variable (m : (ℓ : Loc nD τ sig) → Buf (Elt Ideal) ℓ)

/-- The block of each window at a point. -/
theorem idx : ∀ t : Fin cfg0.N, win0_0.index t = ![0, 0] ∧ win0_1.index t = ![0, t.val % 2] ∧ win0_2.index t = ![0, t.val % 2] :=
  (by decide +kernel : ∀ t : Fin grid0.N, _)

theorem t_lt (t : Fin cfg0.N) : t.val < 2 := t.isLt

/-- The two factors, the rows of the branch and the cotangents: whole, and the block of each that a point reads. -/
def arrA (c : Dev nD) (r : Fin 2304) (x : Fin 1024) : EReal := (m ((c : Thread nD τ).loc main_arg0) : Vec Ideal S2304x1024 .bf16) (ix2 r x)
def arrB (c : Dev nD) (r : Fin 2304) (x : Fin 2048) : EReal := (m ((c : Thread nD τ).loc main_arg1) : Vec Ideal S2304x2048 .bf16) (ix2 r x)
def vA (c : Dev nD) (t : Fin cfg0.N) (i : Fin 2304) (j : Fin 1024) : EReal := iblk m c 0 t (ix2 i j)
def vB (c : Dev nD) (t : Fin cfg0.N) (i : Fin 2304) (j : Fin 1024) : EReal := iblk m c 1 t (ix2 i j)

/-- The row and the column of the result which a point's block has at `i` and `j`. -/
def rowOf (t : Fin cfg0.N) (i : Fin 1024) : Fin 1024 := ⟨1024 * (0) + i.val, by have := t_lt t; omega⟩
def colOf (t : Fin cfg0.N) (j : Fin 1024) : Fin 2048 := ⟨1024 * (t.val % 2) + j.val, by omega⟩

/-- The array of the result after the last point. -/
theorem final (c : Dev nD) : (dats m 0 c).arrAt 2 (cfgs 0).N
    = fun y : S1024x2048.Idx => ∑ k : Fin 2304, arrA m c k (y 0) * arrB m c k (y 1) := by
  refine (dats m 0 c).arrAt_eq_of_covers 2 _ (by decide +kernel) fun t hf y => ?_
  have ht := t_lt t
  blk_simp [idx t]
  rw [after0_2]
  idx_vars y
  have e : ((View.whole main_v0).slice (win0_2.rect t)).emb (ix2 y0 y1) = (ix2 (rowOf t y0) (colOf t y1) : S1024x2048.Idx) := by
    unfold rowOf colOf
    blk_ext [idx t]
    all_goals (try omega)
  have o : outsAt0 m c t (ix2 y0 y1) = ∑ k : Fin 2304, vA m c t k y0 * vB m c t k y1 := by
    unfold outsAt0
    frame_out
    open_payloads
    pointwise
    simp only [vA, vB]
  rw [e]
  refine o.trans (Finset.sum_congr rfl fun k _ => congrArg₂ (fun a b : EReal => a * b) ?_ ?_)
  · show vA m c t k y0 = arrA m c k (rowOf t y0)
    unfold vA arrA rowOf
    blk_point [iblk, V, idx t]
    all_goals (try omega)
  · show vB m c t k y1 = arrB m c k (colOf t y1)
    unfold vB arrB colOf
    blk_point [iblk, V, idx t]
    all_goals (try omega)

/-- It is the reference's; there the factors of each term stand the other way round. -/
theorem res (c : Dev nD) : (dats m 0 c).arrAt 2 (cfgs 0).N = Cert.Reference9Ideal.Read.val_main_v6 (F := Ideal)
    (m ((c : Thread nD τ).loc main_arg0)) (m ((c : Thread nD τ).loc main_arg1)) := by
  refine (final m c).trans (funext fun y => ?_)
  refine Eq.trans ?_ (Cert.Reference9Ideal.Read.val_main_v6_apply (F := Ideal) _ _ _).symm
  refine Eq.trans ?_ (Cert.Reference9Ideal.Read.val_main_v5_apply (F := Ideal) _ _ _).symm
  refine Eq.trans ?_ (Cert.Reference9Ideal.Read.val_main_v4_apply _ _ _).symm
  refine Finset.sum_congr rfl fun k _ => (mul_comm _ _).trans (congrArg₂ (fun a b : EReal => a * b) ?_ ?_)
  · refine congrArg (m ((c : Thread nD τ).loc main_arg1)) (funext fun a => Fin.ext ?_)
    fin_cases a <;> rfl
  · refine congrArg (m ((c : Thread nD τ).loc main_arg0)) (funext fun a => Fin.ext ?_)
    fin_cases a <;> rfl

end Cert.Kernel9Ideal.Prod
-- ==== Proof.NaDa.lean ====
module

public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal.Read
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.Kernel10Ideal.Prod

open Cert.Kernel10Ideal Cert.Kernel10Ideal.Gen

variable (m : (ℓ : Loc nD τ sig) → Buf (Elt Ideal) ℓ)

/-- The block of each window at a point. -/
theorem idx : ∀ t : Fin cfg0.N, win0_0.index t = ![t.val / 1, 0] ∧ win0_1.index t = ![0, 0] ∧ win0_2.index t = ![t.val / 1, 0] :=
  (by decide +kernel : ∀ t : Fin grid0.N, _)

theorem t_lt (t : Fin cfg0.N) : t.val < 2 := t.isLt

/-- The two factors, the cotangents and the weights: whole, and the block of each that a point reads. -/
def arrA (c : Dev nD) (r : Fin 2304) (x : Fin 2048) : EReal := (m ((c : Thread nD τ).loc main_arg0) : Vec Ideal S2304x2048 .bf16) (ix2 r x)
def arrB (c : Dev nD) (r : Fin 1024) (x : Fin 2048) : EReal := (m ((c : Thread nD τ).loc main_arg1) : Vec Ideal S1024x2048 .bf16) (ix2 r x)
def vA (c : Dev nD) (t : Fin cfg0.N) (i : Fin 1152) (j : Fin 2048) : EReal := iblk m c 0 t (ix2 i j)
def vB (c : Dev nD) (t : Fin cfg0.N) (i : Fin 1024) (j : Fin 2048) : EReal := iblk m c 1 t (ix2 i j)

/-- The row and the column of the result which a point's block has at `i` and `j`. -/
def rowOf (t : Fin cfg0.N) (i : Fin 1152) : Fin 2304 := ⟨1152 * (t.val / 1) + i.val, by have := t_lt t; omega⟩
def colOf (t : Fin cfg0.N) (j : Fin 1024) : Fin 1024 := ⟨1024 * (0) + j.val, by omega⟩

/-- The array of the result after the last point. -/
theorem final (c : Dev nD) : (dats m 0 c).arrAt 2 (cfgs 0).N
    = fun y : S2304x1024.Idx => ∑ k : Fin 2048, arrA m c (y 0) k * arrB m c (y 1) k := by
  refine (dats m 0 c).arrAt_eq_of_covers 2 _ (by decide +kernel) fun t hf y => ?_
  have ht := t_lt t
  blk_simp [idx t]
  rw [after0_2]
  idx_vars y
  have e : ((View.whole main_v0).slice (win0_2.rect t)).emb (ix2 y0 y1) = (ix2 (rowOf t y0) (colOf t y1) : S2304x1024.Idx) := by
    unfold rowOf colOf
    blk_ext [idx t]
    all_goals (try omega)
  have o : outsAt0 m c t (ix2 y0 y1) = ∑ k : Fin 2048, vA m c t y0 k * vB m c t y1 k := by
    unfold outsAt0
    frame_out
    open_payloads
    pointwise
    simp only [vA, vB]
  rw [e]
  refine o.trans (Finset.sum_congr rfl fun k _ => congrArg₂ (fun a b : EReal => a * b) ?_ ?_)
  · show vA m c t y0 k = arrA m c (rowOf t y0) k
    unfold vA arrA rowOf
    blk_point [iblk, V, idx t]
    all_goals (try omega)
  · show vB m c t y1 k = arrB m c (colOf t y1) k
    unfold vB arrB colOf
    blk_point [iblk, V, idx t]
    all_goals (try omega)

/-- It is the reference's. -/
theorem res (c : Dev nD) : (dats m 0 c).arrAt 2 (cfgs 0).N = Cert.Reference10Ideal.Read.val_main_v5 (F := Ideal)
    (m ((c : Thread nD τ).loc main_arg0)) (m ((c : Thread nD τ).loc main_arg1)) := by
  refine (final m c).trans (funext fun y => ?_)
  refine Eq.trans ?_ (Cert.Reference10Ideal.Read.val_main_v5_apply (F := Ideal) _ _ _).symm
  refine Eq.trans ?_ (Cert.Reference10Ideal.Read.val_main_v4_apply _ _ _).symm
  refine Finset.sum_congr rfl fun k _ => (congrArg₂ (fun a b : EReal => a * b) ?_ ?_)
  · refine congrArg (m ((c : Thread nD τ).loc main_arg0)) (funext fun a => Fin.ext ?_)
    fin_cases a <;> rfl
  · refine congrArg (m ((c : Thread nD τ).loc main_arg1)) (funext fun a => Fin.ext ?_)
    fin_cases a <;> rfl

end Cert.Kernel10Ideal.Prod
-- ==== Proof.NaFwd.lean ====
module

public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal.Read
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.Kernel11Ideal.Prod

open Cert.Kernel11Ideal Cert.Kernel11Ideal.Gen

variable (m : (ℓ : Loc nD τ sig) → Buf (Elt Ideal) ℓ)

/-- The block of each window at a point. -/
theorem idx : ∀ t : Fin cfg0.N, win0_0.index t = ![t.val / 2, 0] ∧ win0_1.index t = ![0, t.val % 2] ∧ win0_2.index t = ![t.val / 2, t.val % 2] :=
  (by decide +kernel : ∀ t : Fin grid0.N, _)

theorem t_lt (t : Fin cfg0.N) : t.val < 4 := t.isLt

/-- The two factors, the rows of the branch and the weights: whole, and the block of each that a point reads. -/
def arrA (c : Dev nD) (r : Fin 2304) (x : Fin 1024) : EReal := (m ((c : Thread nD τ).loc main_arg0) : Vec Ideal S2304x1024 .bf16) (ix2 r x)
def arrB (c : Dev nD) (r : Fin 1024) (x : Fin 2048) : EReal := (m ((c : Thread nD τ).loc main_arg1) : Vec Ideal S1024x2048 .bf16) (ix2 r x)
def vA (c : Dev nD) (t : Fin cfg0.N) (i : Fin 1152) (j : Fin 1024) : EReal := iblk m c 0 t (ix2 i j)
def vB (c : Dev nD) (t : Fin cfg0.N) (i : Fin 1024) (j : Fin 1024) : EReal := iblk m c 1 t (ix2 i j)

/-- The row and the column of the result which a point's block has at `i` and `j`. -/
def rowOf (t : Fin cfg0.N) (i : Fin 1152) : Fin 2304 := ⟨1152 * (t.val / 2) + i.val, by have := t_lt t; omega⟩
def colOf (t : Fin cfg0.N) (j : Fin 1024) : Fin 2048 := ⟨1024 * (t.val % 2) + j.val, by omega⟩

/-- The array of the result after the last point. -/
theorem final (c : Dev nD) : (dats m 0 c).arrAt 2 (cfgs 0).N
    = fun y : S2304x2048.Idx => ∑ k : Fin 1024, arrA m c (y 0) k * arrB m c k (y 1) := by
  refine (dats m 0 c).arrAt_eq_of_covers 2 _ (by decide +kernel) fun t hf y => ?_
  have ht := t_lt t
  blk_simp [idx t]
  rw [after0_2]
  idx_vars y
  have e : ((View.whole main_v0).slice (win0_2.rect t)).emb (ix2 y0 y1) = (ix2 (rowOf t y0) (colOf t y1) : S2304x2048.Idx) := by
    unfold rowOf colOf
    blk_ext [idx t]
    all_goals (try omega)
  have o : outsAt0 m c t (ix2 y0 y1) = ∑ k : Fin 1024, vA m c t y0 k * vB m c t k y1 := by
    unfold outsAt0
    frame_out
    open_payloads
    pointwise
    simp only [vA, vB]
  rw [e]
  refine o.trans (Finset.sum_congr rfl fun k _ => congrArg₂ (fun a b : EReal => a * b) ?_ ?_)
  · show vA m c t y0 k = arrA m c (rowOf t y0) k
    unfold vA arrA rowOf
    blk_point [iblk, V, idx t]
    all_goals (try omega)
  · show vB m c t k y1 = arrB m c k (colOf t y1)
    unfold vB arrB colOf
    blk_point [iblk, V, idx t]
    all_goals (try omega)

/-- It is the reference's. -/
theorem res (c : Dev nD) : (dats m 0 c).arrAt 2 (cfgs 0).N = Cert.Reference11Ideal.Read.val_main_v3 (F := Ideal)
    (m ((c : Thread nD τ).loc main_arg0)) (m ((c : Thread nD τ).loc main_arg1)) := by
  refine (final m c).trans (funext fun y => ?_)
  refine Eq.trans ?_ (Cert.Reference11Ideal.Read.val_main_v3_apply (F := Ideal) _ _ _).symm
  refine Eq.trans ?_ (Cert.Reference11Ideal.Read.val_main_v2_apply _ _ _).symm
  refine Finset.sum_congr rfl fun k _ => (congrArg₂ (fun a b : EReal => a * b) ?_ ?_)
  · refine congrArg (m ((c : Thread nD τ).loc main_arg0)) (funext fun a => Fin.ext ?_)
    fin_cases a <;> rfl
  · refine congrArg (m ((c : Thread nD τ).loc main_arg1)) (funext fun a => Fin.ext ?_)
    fin_cases a <;> rfl

end Cert.Kernel11Ideal.Prod
-- ==== Proof.Logistic.lean ====
module

public import Idealize.ShloMosaic.Lib.IdealHost

@[expose] public section

noncomputable section

open Idealize.ShloMosaic

namespace Cert.Logistic

/-- The word of the number one. -/
abbrev one : EReal := Ideal.ofBits .f32 0x3F800000#32

/-- The logistic as the host writes it, with a negation, an exponential, a sum and a quotient. -/
theorem host_eq (x : EReal) : Ideal.div one (one + Ideal.exp (-x)) = Ideal.logistic x := by
  unfold one Ideal.logistic
  rw [Ideal.ofBits_one_f32]

end Cert.Logistic
-- ==== Proof.AdaBwd.lean ====
module

public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal.Read
public import proofs.«01_k».proof.Proof.Logistic
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Cert.Logistic
open scoped BigOperators

namespace Cert.Kernel12Ideal.Pointwise

open Cert.Kernel12Ideal

open Cert.Kernel12Ideal.Gen

/-- The gradient of the modulation's weight of one layer, at an entry. -/
theorem grad_w (c : S16x2048.Idx → EReal) (w : S2x2048x768.Idx → EReal) (g : S2x16x768.Idx → EReal) (l : Fin 2) (d : Fin 2048) (n : Fin 768) :
    Value.G3 (F := Ideal) c w g (ix3 l d n) = ∑ k : Fin 16, c (ix2 k d) * Ideal.logistic (c (ix2 k d)) * g (ix3 l k n) := by
  unfold Value.G3
  open_payloads
  canon_tiles
  · have e0 : l = 1 := Fin.ext (by have h : l.val = 1 + (x 0).val := h0; show l.val = 1; omega)
    have e1 : x 1 = d := Fin.ext h1.symm
    have e2 : x 2 = n := Fin.ext h2.symm
    pointwise
    rw [e0, e1, e2]
  · have e0 : l = 0 := Fin.ext (by have h : l.val = (x 0).val := h0; show l.val = 0; omega)
    have e1 : x 1 = d := Fin.ext h1.symm
    have e2 : x 2 = n := Fin.ext h2.symm
    pointwise
    rw [e0, e1, e2]

/-- The gradient of the activated conditions, summed over the two layers. -/
theorem grad_c (c : S16x2048.Idx → EReal) (w : S2x2048x768.Idx → EReal) (g : S2x16x768.Idx → EReal) (r : Fin 16) (d : Fin 2048) :
    Value.G4 (F := Ideal) c w g (ix2 r d) = (∑ n : Fin 768, g (ix3 0 r n) * w (ix3 0 d n)) + ∑ n : Fin 768, g (ix3 1 r n) * w (ix3 1 d n) := by
  unfold Value.G4
  open_payloads
  pointwise

theorem ref_c (w : S2x2048x768.Idx → EReal) (g : S2x16x768.Idx → EReal) (r : Fin 16) (d : Fin 2048) :
    Cert.Reference12Ideal.Read.val_main_v4 (F := Ideal) w g (ix2 r d) = (∑ n : Fin 768, g (ix3 0 r n) * w (ix3 0 d n)) + ∑ n : Fin 768, g (ix3 1 r n) * w (ix3 1 d n) := by
  unfold Cert.Reference12Ideal.Read.val_main_v4 Cert.Reference12Ideal.Read.val_main_v3
  pointwise
  exact Fin.sum_univ_two _

theorem ref_w (c : S16x2048.Idx → EReal) (g : S2x16x768.Idx → EReal) (l : Fin 2) (d : Fin 2048) (n : Fin 768) :
    Cert.Reference12Ideal.Read.val_main_v6 (F := Ideal) c g (ix3 l d n) = ∑ k : Fin 16, c (ix2 k d) * Ideal.logistic (c (ix2 k d)) * g (ix3 l k n) := by
  refine (Cert.Reference12Ideal.Read.val_main_v6_apply (F := Ideal) _ _ _).trans ((Cert.Reference12Ideal.Read.val_main_v5_apply _ _ _).trans ?_)
  refine Finset.sum_congr rfl fun k _ => (mul_comm _ _).trans (congrArg₂ (fun a b : EReal => a * b) ?_ ?_)
  · have e : Cert.Reference12Ideal.Read.ridx_main_v5 (Cert.Reference12Ideal.Read.idx_main_v6 (ix3 l d n)) k = ix2 k d := by
      funext a
      apply Fin.ext
      fin_cases a <;> rfl
    rw [e]
    exact congrArg (fun s : EReal => c (ix2 k d) * s) (host_eq _)
  · refine (Cert.Reference12Ideal.Read.val_main_v3_apply (F := Ideal) _ _).trans (congrArg g (funext fun a => Fin.ext ?_))
    fin_cases a <;> rfl

/-- Both results are the reference's. -/
theorem res_w (c : S16x2048.Idx → EReal) (w : S2x2048x768.Idx → EReal) (g : S2x16x768.Idx → EReal) :
    Value.G3 (F := Ideal) c w g = Cert.Reference12Ideal.Read.val_main_v6 (F := Ideal) c g := by
  funext y
  idx_vars y
  exact (grad_w c w g _ _ _).trans (ref_w c g _ _ _).symm

theorem res_c (c : S16x2048.Idx → EReal) (w : S2x2048x768.Idx → EReal) (g : S2x16x768.Idx → EReal) :
    Value.G4 (F := Ideal) c w g = Cert.Reference12Ideal.Read.val_main_v4 (F := Ideal) w g := by
  funext y
  idx_vars y
  exact (grad_c c w g _ _).trans (ref_c w g _ _).symm

end Cert.Kernel12Ideal.Pointwise
-- ==== Proof.AdamW.lean ====
module

public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal.Read
public import Idealize.ShloMosaic.Lib.Pipeline.ValueKit
public import Idealize.ShloMosaic.Lib.Pointwise
public import Idealize.ShloMosaic.Lib.IdealHost

@[expose] public section

set_option maxRecDepth 16384

noncomputable section

open Idealize.ShloMosaic Idealize.ShloMosaic.TcCoe Idealize.SL.Sem
open scoped BigOperators

namespace Cert.Kernel13Ideal.Pointwise

open Cert.Kernel13Ideal

/-- The decayed average of the gradient. -/
theorem new_m (g m : S4096x768.Idx → EReal) :
    Value.G5 (F := Ideal) g m = Cert.Reference13Ideal.Read.val_main_v4 (F := Ideal) g m := rfl

/-- The decayed average of its square. -/
theorem new_v (g v : S4096x768.Idx → EReal) :
    Value.G6 (F := Ideal) g v = Cert.Reference13Ideal.Read.val_main_v10 (F := Ideal) g v := rfl

/-- The step. -/
theorem delta (w g m v : S4096x768.Idx → EReal) :
    Value.G4 (F := Ideal) w g m v = Cert.Reference13Ideal.Read.val_main_v23 (F := Ideal) w g m v := rfl

end Cert.Kernel13Ideal.Pointwise
-- ==== Proof.GateNa.lean ====
module

public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal.Read
public import proofs.«01_k».proof.Proof.Logistic
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Cert.Logistic
open scoped BigOperators

namespace Cert.Kernel14Ideal.Pointwise

open Cert.Kernel14Ideal

open Cert.Reference14Ideal.Read

/-- The reference's gate column at an entry is the kernel's. -/
theorem z_eq (u : S2304x14336.Idx → EReal) (i : S2304x1024.Idx) : val_main_v1 (F := Ideal) u i = u (Value.inIdx3_0 i) := by
  refine (val_main_v0_apply (F := Ideal) u i).trans (congrArg u (funext fun a => Fin.ext ?_))
  match a with
  | ⟨0, _⟩ => rfl
  | ⟨1, _⟩ => exact Nat.add_comm _ _

/-- And so is its logistic. -/
theorem s_eq (u : S2304x14336.Idx → EReal) (i : S2304x1024.Idx) : val_main_v3_2 (F := Ideal) u i = Ideal.logistic (u (Value.inIdx3_0 i)) := by
  refine Eq.trans ?_ (host_eq _)
  exact congrArg (fun x : EReal => Ideal.div one (one + Ideal.exp (-x))) (z_eq u i)

/-- The gradient of the attention's output. -/
theorem d_o (u : S2304x14336.Idx → EReal) (da : S2304x1024.Idx → EReal) :
    Value.G3 (F := Ideal) u da = val_main_v9 (F := Ideal) u da := by
  funext i
  exact congrArg₂ (fun z s : EReal => da i * (z * s)) (z_eq u i).symm (s_eq u i).symm

/-- The gradient of the gate's argument. -/
theorem d_z (o : S2304x1024.Idx → EReal) (u : S2304x14336.Idx → EReal) (da : S2304x1024.Idx → EReal) :
    Value.G4 (F := Ideal) o u da = val_main_v10 (F := Ideal) o u da := by
  funext i
  exact congrArg₂ (fun z s : EReal => o i * da i * s + z * (o i * da i) * (s * (one - s))) (z_eq u i).symm (s_eq u i).symm

end Cert.Kernel14Ideal.Pointwise
-- ==== Proof.Merge.lean ====
module

public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal.Read
public import proofs.«01_k».proof.Proof.Logistic
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Cert.Logistic
open scoped BigOperators

namespace Cert.Kernel15Ideal.Pointwise

open Cert.Kernel15Ideal

open Cert.Reference15Ideal.Read

/-- The logistic of the attention's mixing column, as the reference and as the kernel reads it. -/
theorem na_eq (u : S2304x14336.Idx → EReal) (i : S2304x2048.Idx) : val_main_v11 (F := Ideal) u i = Ideal.logistic (u (Value.inIdx5_0 i)) := by
  refine Eq.trans ?_ (host_eq _)
  refine congrArg (fun x : EReal => Ideal.div one (one + Ideal.exp (-x))) ((val_main_v0_apply (F := Ideal) u i).trans (congrArg u (funext fun a => Fin.ext ?_)))
  match a with
  | ⟨0, _⟩ => rfl
  | ⟨1, _⟩ => exact Nat.add_comm _ _

/-- That of the retention's. -/
theorem ret_eq (u : S2304x14336.Idx → EReal) (i : S2304x2048.Idx) : val_main_v21 (F := Ideal) u i = Ideal.logistic (u (Value.inIdx6_0 i)) := by
  refine Eq.trans ?_ (host_eq _)
  refine congrArg (fun x : EReal => Ideal.div one (one + Ideal.exp (-x))) ((val_main_v2_apply (F := Ideal) u i).trans (congrArg u (funext fun a => Fin.ext ?_)))
  match a with
  | ⟨0, _⟩ => rfl
  | ⟨1, _⟩ => exact Nat.add_comm _ _

/-- The gradients of the two mixing columns. -/
theorem d_g_na (u : S2304x14336.Idx → EReal) (y d : S2304x2048.Idx → EReal) :
    Value.G5 (F := Ideal) u y d = val_main_v34 (F := Ideal) u y d := by
  funext i
  exact congrArg (fun s : EReal => d i * y i * (s * (one - s))) (na_eq u i).symm

theorem d_g_ret (u : S2304x14336.Idx → EReal) (y d : S2304x2048.Idx → EReal) :
    Value.G6 (F := Ideal) u y d = val_main_v35 (F := Ideal) u y d := by
  funext i
  exact congrArg (fun s : EReal => d i * y i * (s * (one - s))) (ret_eq u i).symm

/-- The gradients of the two branches. -/
theorem d_y_na (u : S2304x14336.Idx → EReal) (d : S2304x2048.Idx → EReal) :
    Value.G7 (F := Ideal) u d = val_main_v36 (F := Ideal) u d := by
  funext i
  exact congrArg (fun s : EReal => s * d i) (na_eq u i).symm

theorem d_y_ret (u : S2304x14336.Idx → EReal) (d : S2304x2048.Idx → EReal) :
    Value.G8 (F := Ideal) u d = val_main_v37 (F := Ideal) u d := by
  funext i
  exact congrArg (fun s : EReal => s * d i) (ret_eq u i).symm

end Cert.Kernel15Ideal.Pointwise
-- ==== Proof.Spec.lean ====
module

public import Idealize.ShloMosaic.Lib.Pointwise
public import Idealize.ShloMosaic.Lib.WordCmp
public import Idealize.ShloMosaic.Lib.IdealHost

@[expose] public section

/-! The gradient of one head of the retention, chunk by chunk, over the extended reals.

The sequence is cut into 18 chunks of 128 rows. In a chunk the decays depend on the log-decay `l` of the head alone:
`mM l i j` from row `j` to row `i`, `mQ l i` from the state to row `i`, `mK l j` from row `j` to the state after the
chunk, `mG l` over the whole chunk. -/

noncomputable section

open Idealize.ShloMosaic
open scoped BigOperators

namespace Cert.Spec

/-- Distance from row `j` to row `i`, zero above the diagonal. -/
def dist (i j : Fin 128) : EReal := (((i.val - j.val : ℕ) : ℝ) : EReal)
/-- Distance from the state before the chunk to row `i`. -/
def posQ (i : Fin 128) : EReal := (((i.val : ℕ) : ℝ) : EReal) + 1
/-- Distance from row `j` to the state after the chunk. -/
def posK (j : Fin 128) : EReal := Ideal.ofBits .f32 0x42FE0000#32 - (((j.val : ℕ) : ℝ) : EReal)
/-- Length of a chunk. -/
def lenG : EReal := Ideal.ofBits .f32 0x43000000#32

def mM (l : EReal) (i j : Fin 128) : EReal := if j ≤ i then Ideal.exp (dist i j * l) else 0
def mQ (l : EReal) (i : Fin 128) : EReal := Ideal.exp (posQ i * l)
def mK (l : EReal) (j : Fin 128) : EReal := Ideal.exp (posK j * l)
def mG (l : EReal) : EReal := Ideal.exp (lenG * l)

/-- Rows of queries or keys of one chunk of one head. -/
abbrev QK := Fin 128 → Fin 128 → EReal
/-- Rows of values, or of the output's cotangent, of one chunk of one head; also a state of one head. -/
abbrev VO := Fin 128 → Fin 256 → EReal

/-- Scores before the decay. -/
def fA (q k : QK) (i j : Fin 128) : EReal := ∑ d, q i d * k j d
/-- Cotangent of the decayed scores. -/
def fP (v o : VO) (i j : Fin 128) : EReal := ∑ e, o i e * v j e
/-- Cotangent of the queries against the state `s`, before the decay. -/
def fCQ (s o : VO) (i d : Fin 128) : EReal := ∑ e, o i e * s d e
/-- Cotangent of the keys through the state after the chunk, whose cotangent is `t`, before the decay. -/
def fCK (v t : VO) (j d : Fin 128) : EReal := ∑ e, v j e * t d e
/-- What a chunk adds to the state. -/
def fKV (l : EReal) (k : QK) (v : VO) (d : Fin 128) (e : Fin 256) : EReal := ∑ j, k j d * mK l j * v j e
/-- What a chunk adds to the cotangent of the state before it. -/
def fGS (l : EReal) (q : QK) (o : VO) (d : Fin 128) (e : Fin 256) : EReal := ∑ i, q i d * mQ l i * o i e

/-- Gradient of the queries. -/
def fDQ (l : EReal) (k : QK) (v s o : VO) (i d : Fin 128) : EReal :=
  (∑ j, fP v o i j * mM l i j * k j d) + fCQ s o i d * mQ l i
/-- Gradient of the keys. -/
def fDK (l : EReal) (q : QK) (v o t : VO) (j d : Fin 128) : EReal :=
  (∑ i, fP v o i j * mM l i j * q i d) + fCK v t j d * mK l j
/-- Gradient of the values. -/
def fDV (l : EReal) (q k : QK) (o t : VO) (j : Fin 128) (e : Fin 256) : EReal :=
  (∑ i, fA q k i j * mM l i j * o i e) + ∑ d, k j d * mK l j * t d e
/-- What a chunk adds to the gradient of the head's log-decay. -/
def fDL (l : EReal) (q k : QK) (v s o t : VO) : EReal :=
  ((∑ i, ∑ j, fP v o i j * mM l i j * fA q k i j * dist i j)
    + (∑ i, ∑ d, fCQ s o i d * q i d * (mQ l i * posQ i)))
  + (∑ j, ∑ d, fCK v t j d * k j d * (mK l j * posK j))
  + ∑ d, ∑ e, t d e * s d e * (mG l * lenG)

/-- The same, lane by lane: the two halves of a state's columns fall on the same lanes. -/
def fDLk (l : EReal) (q k : QK) (v s o t : VO) : EReal :=
  ∑ b : Fin 128, ∑ a : Fin 128,
    (fP v o a b * mM l a b * fA q k a b * dist a b
      + fCQ s o a b * q a b * (mQ l a * posQ a)
      + fCK v t a b * k a b * (mK l a * posK a)
      + t a ⟨b.val, by omega⟩ * s a ⟨b.val, by omega⟩ * (mG l * lenG)
      + t a ⟨128 + b.val, by omega⟩ * s a ⟨128 + b.val, by omega⟩ * (mG l * lenG))

theorem sum_halves (f : Fin 256 → EReal) :
    ∑ e, f e = (∑ b : Fin 128, f ⟨b.val, by omega⟩) + ∑ b : Fin 128, f ⟨128 + b.val, by omega⟩ :=
  (Fin.sum_univ_add (a := 128) (b := 128) f).trans (congrArg₂ (· + ·) rfl rfl)

theorem fDLk_eq (l : EReal) (q k : QK) (v s o t : VO) : fDLk l q k v s o t = fDL l q k v s o t := by
  unfold fDLk fDL
  rw [Finset.sum_comm]
  simp only [Finset.sum_add_distrib, sum_halves]
  simp only [add_assoc]

/-- The state before chunk `n`. -/
def St (l : EReal) (k : Fin 18 → QK) (v : Fin 18 → VO) : ℕ → VO
  | 0 => fun _ _ => 0
  | n + 1 => fun d e => St l k v n d e * mG l + fKV l (k (Fin.ofNat 18 n)) (v (Fin.ofNat 18 n)) d e

/-- The cotangent of the state after chunk `17 - t`: the last chunk's is zero. -/
def Dt (l : EReal) (q : Fin 18 → QK) (o : Fin 18 → VO) : ℕ → VO
  | 0 => fun _ _ => 0
  | t + 1 => fun d e => Dt l q o t d e * mG l + fGS l (q (Fin.ofNat 18 (17 - t))) (o (Fin.ofNat 18 (17 - t))) d e

/-! Words of the row numbers. -/

theorem toInt_row (i : Fin 128) : (BitVec.ofNat 32 i.val).toInt = (i.val : ℤ) := by
  have h := i.isLt
  rw [BitVec.toInt_eq_toNat_of_lt] <;> simp only [BitVec.toNat_ofNat] <;> omega

theorem sitofp_row (i : Fin 128) : (FloatOps.sitofp (F := Ideal) FTy.f32 (BitVec.ofNat 32 i.val) : EReal) = (((i.val : ℕ) : ℝ) : EReal) := by
  show (((BitVec.ofNat 32 i.val).toInt : ℝ) : EReal) = _
  rw [toInt_row]; norm_cast

theorem toInt_diff (i j : Fin 128) : (IntOp.subi (BitVec.ofNat 32 i.val) (BitVec.ofNat 32 j.val)).toInt = (i.val : ℤ) - (j.val : ℤ) := by
  have hi := i.isLt
  have hj := j.isLt
  show (BitVec.ofNat 32 i.val - BitVec.ofNat 32 j.val).toInt = _
  rw [BitVec.toInt_sub, toInt_row, toInt_row]
  exact Int.bmod_eq_of_le (by omega) (by omega)

theorem coe_max (a b : ℝ) : max (a : EReal) (b : EReal) = ((max a b : ℝ) : EReal) := (EReal.coe_strictMono.monotone.map_max).symm

theorem dist_word (i j : Fin 128) :
    max (FloatOps.sitofp (F := Ideal) FTy.f32 (IntOp.subi (BitVec.ofNat 32 i.val) (BitVec.ofNat 32 j.val)) : EReal) 0 = dist i j := by
  show max ((((IntOp.subi (BitVec.ofNat 32 i.val) (BitVec.ofNat 32 j.val)).toInt : ℝ) : EReal)) ((0 : ℝ) : EReal) = _
  rw [toInt_diff, coe_max, dist]
  congr 1
  rcases le_total j.val i.val with h | h
  · rw [max_eq_left (by push_cast; have : (j.val : ℝ) ≤ i.val := by exact_mod_cast h
                        linarith)]
    push_cast [Nat.cast_sub h]; ring
  · rw [max_eq_right (by push_cast; have : (i.val : ℝ) ≤ j.val := by exact_mod_cast h
                         linarith), Nat.sub_eq_zero_of_le h]
    simp

theorem sel_word (i j : Fin 128) (a : EReal) :
    Scalar.select (IntOp.cmpi CmpIPredicate.sge (IntOp.subi (BitVec.ofNat 32 i.val) (BitVec.ofNat 32 j.val)) 0#32) a 0 = if j ≤ i then a else 0 := by
  show Scalar.select (BitVec.ofBool (decide ((0#32 : BitVec 32).toInt ≤ (IntOp.subi (BitVec.ofNat 32 i.val) (BitVec.ofNat 32 j.val)).toInt))) a 0 = _
  rw [toInt_diff]
  by_cases h : j ≤ i
  · rw [if_pos h]
    have h' : (0#32 : BitVec 32).toInt ≤ (i.val : ℤ) - (j.val : ℤ) := by
      have : j.val ≤ i.val := h
      simp; omega
    rw [decide_eq_true h']; rfl
  · rw [if_neg h]
    have h' : ¬ (0#32 : BitVec 32).toInt ≤ (i.val : ℤ) - (j.val : ℤ) := by
      have : ¬ j.val ≤ i.val := h
      simp; omega
    rw [decide_eq_false h']; rfl

end Cert.Spec

end
-- ==== Proof.BodyDefs.lean ====
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import Idealize.ShloMosaic.Lib.Pipeline.ValueKit
public import Idealize.ShloMosaic.Lib.Pointwise
public import Idealize.ShloMosaic.Lib.Pipeline.ReadBack
public import proofs.«01_k».proof.Proof.Spec

@[expose] public section

set_option maxRecDepth 16384

noncomputable section

open Idealize.ShloMosaic Idealize.ShloMosaic.TcCoe Idealize.SL.Sem
open Idealize.ShloMosaic.Pipeline (Dat)
open scoped BigOperators

namespace Cert.KernelIdeal.Body

open Cert.KernelIdeal Cert.KernelIdeal.Gen Cert.Spec

variable (m : (ℓ : Loc nD τ sig) → Buf (Elt Ideal) ℓ)

/-- Column `d` of head `h` among 8 heads of 128 columns. -/
def colK (h : Fin 8) (d : Fin 128) : Fin 1024 := ⟨128 * h.val + d.val, by omega⟩
/-- Column `e` of head `h` among 8 heads of 256 columns. -/
def colV (h : Fin 8) (e : Fin 256) : Fin 2048 := ⟨256 * h.val + e.val, by omega⟩

theorem colK_0 (d : Fin 128) : colK 0 d = ⟨d.val, by omega⟩ := Fin.ext (by simp [colK])
theorem colK_1 (d : Fin 128) : colK 1 d = ⟨128 + d.val, by omega⟩ := Fin.ext (by simp [colK])
theorem colK_2 (d : Fin 128) : colK 2 d = ⟨256 + d.val, by omega⟩ := Fin.ext (by simp [colK])
theorem colK_3 (d : Fin 128) : colK 3 d = ⟨384 + d.val, by omega⟩ := Fin.ext (by simp [colK])
theorem colK_4 (d : Fin 128) : colK 4 d = ⟨512 + d.val, by omega⟩ := Fin.ext (by simp [colK])
theorem colK_5 (d : Fin 128) : colK 5 d = ⟨640 + d.val, by omega⟩ := Fin.ext (by simp [colK])
theorem colK_6 (d : Fin 128) : colK 6 d = ⟨768 + d.val, by omega⟩ := Fin.ext (by simp [colK])
theorem colK_7 (d : Fin 128) : colK 7 d = ⟨896 + d.val, by omega⟩ := Fin.ext (by simp [colK])
theorem colV_0 (d : Fin 256) : colV 0 d = ⟨d.val, by omega⟩ := Fin.ext (by simp [colV])
theorem colV_1 (d : Fin 256) : colV 1 d = ⟨256 + d.val, by omega⟩ := Fin.ext (by simp [colV])
theorem colV_2 (d : Fin 256) : colV 2 d = ⟨512 + d.val, by omega⟩ := Fin.ext (by simp [colV])
theorem colV_3 (d : Fin 256) : colV 3 d = ⟨768 + d.val, by omega⟩ := Fin.ext (by simp [colV])
theorem colV_4 (d : Fin 256) : colV 4 d = ⟨1024 + d.val, by omega⟩ := Fin.ext (by simp [colV])
theorem colV_5 (d : Fin 256) : colV 5 d = ⟨1280 + d.val, by omega⟩ := Fin.ext (by simp [colV])
theorem colV_6 (d : Fin 256) : colV 6 d = ⟨1536 + d.val, by omega⟩ := Fin.ext (by simp [colV])
theorem colV_7 (d : Fin 256) : colV 7 d = ⟨1792 + d.val, by omega⟩ := Fin.ext (by simp [colV])

/-- The log-decay of head `h`, as point `t` reads it. -/
def bl (c : Dev nD) (t : Fin cfg0.N) (h : Fin 8) : EReal := iblk m c 0 t (ix1 h)
/-- The blocks of point `t`, one head at a time. -/
def bq (c : Dev nD) (t : Fin cfg0.N) (h : Fin 8) : QK := fun i d => iblk m c 1 t (ix2 i (colK h d))
def bk (c : Dev nD) (t : Fin cfg0.N) (h : Fin 8) : QK := fun i d => iblk m c 2 t (ix2 i (colK h d))
def bv (c : Dev nD) (t : Fin cfg0.N) (h : Fin 8) : VO := fun i e => iblk m c 3 t (ix2 i (colV h e))
def bs (c : Dev nD) (t : Fin cfg0.N) (h : Fin 8) : VO := fun d e => iblk m c 4 t (ix4 h 0 d e)
def bo (c : Dev nD) (t : Fin cfg0.N) (h : Fin 8) : VO := fun i e => iblk m c 5 t (ix2 i (colV h e))
/-- What the carried cotangent of the state holds before point `t`, when it is not the first. -/
def bt (c : Dev nD) (t : Fin cfg0.N) (h : Fin 8) : VO := fun d e =>
  (outsAt0 m c (t.val - 1) (Nat.lt_of_le_of_lt (Nat.sub_le _ _) t.isLt)).2.2.2.2 (ix3 h d e)

theorem off_0 : ∀ t : Fin cfg0.N, k0_off1 (grid0.coords t) 0#32 0 = 0 := (by decide +kernel : ∀ t : Fin grid0.N, _)
theorem off_1 : ∀ t : Fin cfg0.N, k0_off1 (grid0.coords t) 1#32 0 = 1 := (by decide +kernel : ∀ t : Fin grid0.N, _)
theorem off_2 : ∀ t : Fin cfg0.N, k0_off1 (grid0.coords t) 2#32 0 = 2 := (by decide +kernel : ∀ t : Fin grid0.N, _)
theorem off_3 : ∀ t : Fin cfg0.N, k0_off1 (grid0.coords t) 3#32 0 = 3 := (by decide +kernel : ∀ t : Fin grid0.N, _)
theorem off_4 : ∀ t : Fin cfg0.N, k0_off1 (grid0.coords t) 4#32 0 = 4 := (by decide +kernel : ∀ t : Fin grid0.N, _)
theorem off_5 : ∀ t : Fin cfg0.N, k0_off1 (grid0.coords t) 5#32 0 = 5 := (by decide +kernel : ∀ t : Fin grid0.N, _)
theorem off_6 : ∀ t : Fin cfg0.N, k0_off1 (grid0.coords t) 6#32 0 = 6 := (by decide +kernel : ∀ t : Fin grid0.N, _)
theorem off_7 : ∀ t : Fin cfg0.N, k0_off1 (grid0.coords t) 7#32 0 = 7 := (by decide +kernel : ∀ t : Fin grid0.N, _)
theorem head_0 (p : 0 < 8) : (⟨0, p⟩ : Fin 8) = 0 := rfl
theorem head_1 (p : 1 < 8) : (⟨1, p⟩ : Fin 8) = 1 := rfl
theorem head_2 (p : 2 < 8) : (⟨2, p⟩ : Fin 8) = 2 := rfl
theorem head_3 (p : 3 < 8) : (⟨3, p⟩ : Fin 8) = 3 := rfl
theorem head_4 (p : 4 < 8) : (⟨4, p⟩ : Fin 8) = 4 := rfl
theorem head_5 (p : 5 < 8) : (⟨5, p⟩ : Fin 8) = 5 := rfl
theorem head_6 (p : 6 < 8) : (⟨6, p⟩ : Fin 8) = 6 := rfl
theorem head_7 (p : 7 < 8) : (⟨7, p⟩ : Fin 8) = 7 := rfl

end Cert.KernelIdeal.Body

end
-- ==== Proof.Heads.lean ====
module

public import proofs.«01_k».proof.Proof.Spec

@[expose] public section

/-! The gradients over the whole sequence, one head and one chunk at a time.

The arrays hold the 2048 rows of the latent sequence first and the 256 rows of the context after them; the retention
runs over the context first. `row n i` is the array row of row `i` of the `n`-th chunk the retention reads. -/

noncomputable section

open Idealize.ShloMosaic
open scoped BigOperators

namespace Cert.Spec

/-- The array row of row `i` of chunk `n`. -/
def row (n : Fin 18) (i : Fin 128) : Fin 2304 := ⟨(n.val + 16) % 18 * 128 + i.val, by omega⟩
/-- Columns of head `h` among the queries or keys, among the values, and among the columns of the input product. -/
def kcol (h : Fin 8) (d : Fin 128) : Fin 1024 := ⟨128 * h.val + d.val, by omega⟩
def vcol (h : Fin 8) (e : Fin 256) : Fin 2048 := ⟨256 * h.val + e.val, by omega⟩
def ucol (h : Fin 8) (e : Fin 256) : Fin 14336 := ⟨6144 + (256 * h.val + e.val), by omega⟩

/-- Chunks of queries or keys, of values, and of the output's cotangent. -/
def cK (x : Fin 2304 → Fin 1024 → EReal) (h : Fin 8) (n : Fin 18) : QK := fun i d => x (row n i) (kcol h d)
def cU (u : Fin 2304 → Fin 14336 → EReal) (h : Fin 8) (n : Fin 18) : VO := fun i e => u (row n i) (ucol h e)
def cO (o : Fin 2304 → Fin 2048 → EReal) (h : Fin 8) (n : Fin 18) : VO := fun i e => o (row n i) (vcol h e)

section
variable (l : Fin 8 → EReal) (q k : Fin 2304 → Fin 1024 → EReal) (u : Fin 2304 → Fin 14336 → EReal) (o : Fin 2304 → Fin 2048 → EReal)

/-- The state before chunk `n` of head `h`. -/
def sN (h : Fin 8) (n : ℕ) : VO := St (l h) (cK k h) (cU u h) n
/-- The cotangent of the state after chunk `17 - t` of head `h`. -/
def tN (h : Fin 8) (t : ℕ) : VO := Dt (l h) (cK q h) (cO o h) t

/-- The gradients of the queries, the keys, the values and the log-decay. -/
def gQ (h : Fin 8) (n : Fin 18) (i d : Fin 128) : EReal :=
  fDQ (l h) (cK k h n) (cU u h n) (sN l k u h n.val) (cO o h n) i d
def gK (h : Fin 8) (n : Fin 18) (j d : Fin 128) : EReal :=
  fDK (l h) (cK q h n) (cU u h n) (cO o h n) (tN l q o h (17 - n.val)) j d
def gV (h : Fin 8) (n : Fin 18) (j : Fin 128) (e : Fin 256) : EReal :=
  fDV (l h) (cK q h n) (cK k h n) (cO o h n) (tN l q o h (17 - n.val)) j e
def gL (h : Fin 8) : EReal :=
  ∑ n : Fin 18, fDL (l h) (cK q h n) (cK k h n) (cU u h n) (sN l k u h n.val) (cO o h n) (tN l q o h (17 - n.val))
end

theorem row_surj (r : Fin 2304) : ∃ n i, r = row n i :=
  ⟨⟨(r.val / 128 + 2) % 18, by omega⟩, ⟨r.val % 128, by omega⟩, Fin.ext (by simp only [row]; omega)⟩
theorem kcol_surj (x : Fin 1024) : ∃ h d, x = kcol h d :=
  ⟨⟨x.val / 128, by omega⟩, ⟨x.val % 128, by omega⟩, Fin.ext (by simp only [kcol]; omega)⟩
theorem vcol_surj (x : Fin 2048) : ∃ h e, x = vcol h e :=
  ⟨⟨x.val / 256, by omega⟩, ⟨x.val % 256, by omega⟩, Fin.ext (by simp only [vcol]; omega)⟩

end Cert.Spec

end
-- ==== Proof.Host.lean ====
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import Idealize.ShloMosaic.Lib.Pipeline.ValueKit
public import Idealize.ShloMosaic.Lib.Pointwise
public import Idealize.ShloMosaic.Lib.Pipeline.ReadBack
public import proofs.«01_k».proof.Proof.BodyDefs
public import proofs.«01_k».proof.Proof.Heads
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)
open scoped BigOperators
namespace Cert.KernelIdeal.Host

open Cert.KernelIdeal Cert.KernelIdeal.Gen Cert.Spec
open Idealize.ShloMosaic.StableHlo (after)

variable (m : (ℓ : Loc nD τ sig) → Buf (Elt Ideal) ℓ) (σ : Valuation τ sig (Elt Ideal))

/-- The host's lines before the launch: the log-decay's, then the states'. -/
theorem V_split (c : Dev nD) (r : Ref sig .tc) : V m c r = after hostOps0_1 (after hostOps0 (fun b => m (c, b))) r := by
  show after ([hostOps0, hostOps0_1].flatten) _ _ = _
  rw [List.flatten_cons, List.flatten_cons, List.flatten_nil, List.append_nil]
  exact congrFun (StableHlo.after_append _ _ _) _

abbrev W (r : Ref sig .tc) := after (hostOps0_1 (F := Ideal)) σ r

/-- The log-decay and the arrays as the second line reads them. -/
def el (h : Fin 8) : EReal := (σ main_v0 : Vec Ideal S8 .f32) (ix1 h)
def ek (r : Fin 2304) (x : Fin 1024) : EReal := (σ main_arg1 : Vec Ideal S2304x1024 .bf16) (ix2 r x)
def eu (r : Fin 2304) (x : Fin 14336) : EReal := (σ main_arg2 : Vec Ideal S2304x14336 .bf16) (ix2 r x)

/-- Rows and columns as the host's reshapes write them. -/
theorem col_k (h : Fin 8) (d : Fin 128) (p : h.val * 128 + d.val < 1024) : (⟨h.val * 128 + d.val, p⟩ : Fin 1024) = kcol h d :=
  Fin.ext (by simp only [kcol]; omega)
theorem col_u (h : Fin 8) (e : Fin 256) (p : 6144 + (h.val * 256 + e.val) < 14336) : (⟨6144 + (h.val * 256 + e.val), p⟩ : Fin 14336) = ucol h e :=
  Fin.ext (by simp only [ucol]; omega)
theorem row_0 (x : Fin 128) (p : 2048 + x.val < 2304) : (⟨2048 + x.val, p⟩ : Fin 2304) = row 0 x := Fin.ext (by simp [row])
theorem row_1 (x : Fin 128) (p : 2176 + x.val < 2304) : (⟨2176 + x.val, p⟩ : Fin 2304) = row 1 x := Fin.ext (by simp [row])
theorem row_2 (x : Fin 128) (p : x.val < 2304) : (⟨x.val, p⟩ : Fin 2304) = row 2 x := Fin.ext (by simp [row])
theorem row_3 (x : Fin 128) (p : 128 + x.val < 2304) : (⟨128 + x.val, p⟩ : Fin 2304) = row 3 x := Fin.ext (by simp [row])
theorem row_4 (x : Fin 128) (p : 256 + x.val < 2304) : (⟨256 + x.val, p⟩ : Fin 2304) = row 4 x := Fin.ext (by simp [row])
theorem row_5 (x : Fin 128) (p : 384 + x.val < 2304) : (⟨384 + x.val, p⟩ : Fin 2304) = row 5 x := Fin.ext (by simp [row])
theorem row_6 (x : Fin 128) (p : 512 + x.val < 2304) : (⟨512 + x.val, p⟩ : Fin 2304) = row 6 x := Fin.ext (by simp [row])
theorem row_7 (x : Fin 128) (p : 640 + x.val < 2304) : (⟨640 + x.val, p⟩ : Fin 2304) = row 7 x := Fin.ext (by simp [row])
theorem row_8 (x : Fin 128) (p : 768 + x.val < 2304) : (⟨768 + x.val, p⟩ : Fin 2304) = row 8 x := Fin.ext (by simp [row])
theorem row_9 (x : Fin 128) (p : 896 + x.val < 2304) : (⟨896 + x.val, p⟩ : Fin 2304) = row 9 x := Fin.ext (by simp [row])
theorem row_10 (x : Fin 128) (p : 1024 + x.val < 2304) : (⟨1024 + x.val, p⟩ : Fin 2304) = row 10 x := Fin.ext (by simp [row])
theorem row_11 (x : Fin 128) (p : 1152 + x.val < 2304) : (⟨1152 + x.val, p⟩ : Fin 2304) = row 11 x := Fin.ext (by simp [row])
theorem row_12 (x : Fin 128) (p : 1280 + x.val < 2304) : (⟨1280 + x.val, p⟩ : Fin 2304) = row 12 x := Fin.ext (by simp [row])
theorem row_13 (x : Fin 128) (p : 1408 + x.val < 2304) : (⟨1408 + x.val, p⟩ : Fin 2304) = row 13 x := Fin.ext (by simp [row])
theorem row_14 (x : Fin 128) (p : 1536 + x.val < 2304) : (⟨1536 + x.val, p⟩ : Fin 2304) = row 14 x := Fin.ext (by simp [row])
theorem row_15 (x : Fin 128) (p : 1664 + x.val < 2304) : (⟨1664 + x.val, p⟩ : Fin 2304) = row 15 x := Fin.ext (by simp [row])
theorem row_16 (x : Fin 128) (p : 1792 + x.val < 2304) : (⟨1792 + x.val, p⟩ : Fin 2304) = row 16 x := Fin.ext (by simp [row])
theorem row_17 (x : Fin 128) (p : 1920 + x.val < 2304) : (⟨1920 + x.val, p⟩ : Fin 2304) = row 17 x := Fin.ext (by simp [row])

set_option maxHeartbeats 6400000 in
theorem state_0 (h : Fin 8) (d : Fin 128) (e : Fin 256) :
    @Eq EReal ((W σ main_v80 : Vec Ideal S8x18x128x256 .f32) (ix4 h 0 d e)) (sN (el σ) (ek σ) (eu σ) h 0 d e) := by
  after_reads_simp
  pointwise
  after_reads_simp
  pointwise
  rfl

set_option maxHeartbeats 6400000 in
theorem state_1 (h : Fin 8) (d : Fin 128) (e : Fin 256) :
    @Eq EReal ((W σ main_v80 : Vec Ideal S8x18x128x256 .f32) (ix4 h 1 d e)) (sN (el σ) (ek σ) (eu σ) h 1 d e) := by
  after_reads_simp
  pointwise
  after_reads_simp
  pointwise
  simp only [sitofp_row, row_0, col_k, col_u]
  rfl

set_option maxHeartbeats 6400000 in
theorem state_2 (h : Fin 8) (d : Fin 128) (e : Fin 256) :
    @Eq EReal ((W σ main_v80 : Vec Ideal S8x18x128x256 .f32) (ix4 h 2 d e)) (sN (el σ) (ek σ) (eu σ) h 2 d e) := by
  after_reads_simp
  pointwise
  after_reads_simp
  pointwise
  simp only [sitofp_row, row_0, row_1, col_k, col_u]
  rfl

set_option maxHeartbeats 6400000 in
theorem state_3 (h : Fin 8) (d : Fin 128) (e : Fin 256) :
    @Eq EReal ((W σ main_v80 : Vec Ideal S8x18x128x256 .f32) (ix4 h 3 d e)) (sN (el σ) (ek σ) (eu σ) h 3 d e) := by
  after_reads_simp
  pointwise
  after_reads_simp
  pointwise
  simp only [sitofp_row, row_0, row_1, row_2, col_k, col_u]
  rfl

set_option maxHeartbeats 6400000 in
theorem state_4 (h : Fin 8) (d : Fin 128) (e : Fin 256) :
    @Eq EReal ((W σ main_v80 : Vec Ideal S8x18x128x256 .f32) (ix4 h 4 d e)) (sN (el σ) (ek σ) (eu σ) h 4 d e) := by
  after_reads_simp
  pointwise
  after_reads_simp
  pointwise
  simp only [sitofp_row, row_0, row_1, row_2, row_3, col_k, col_u]
  rfl

set_option maxHeartbeats 6400000 in
theorem state_5 (h : Fin 8) (d : Fin 128) (e : Fin 256) :
    @Eq EReal ((W σ main_v80 : Vec Ideal S8x18x128x256 .f32) (ix4 h 5 d e)) (sN (el σ) (ek σ) (eu σ) h 5 d e) := by
  after_reads_simp
  pointwise
  after_reads_simp
  pointwise
  simp only [sitofp_row, row_0, row_1, row_2, row_3, row_4, col_k, col_u]
  rfl

set_option maxHeartbeats 6400000 in
theorem state_6 (h : Fin 8) (d : Fin 128) (e : Fin 256) :
    @Eq EReal ((W σ main_v80 : Vec Ideal S8x18x128x256 .f32) (ix4 h 6 d e)) (sN (el σ) (ek σ) (eu σ) h 6 d e) := by
  after_reads_simp
  pointwise
  after_reads_simp
  pointwise
  simp only [sitofp_row, row_0, row_1, row_2, row_3, row_4, row_5, col_k, col_u]
  rfl

set_option maxHeartbeats 6400000 in
theorem state_7 (h : Fin 8) (d : Fin 128) (e : Fin 256) :
    @Eq EReal ((W σ main_v80 : Vec Ideal S8x18x128x256 .f32) (ix4 h 7 d e)) (sN (el σ) (ek σ) (eu σ) h 7 d e) := by
  after_reads_simp
  pointwise
  after_reads_simp
  pointwise
  simp only [sitofp_row, row_0, row_1, row_2, row_3, row_4, row_5, row_6, col_k, col_u]
  rfl

set_option maxHeartbeats 6400000 in
theorem state_8 (h : Fin 8) (d : Fin 128) (e : Fin 256) :
    @Eq EReal ((W σ main_v80 : Vec Ideal S8x18x128x256 .f32) (ix4 h 8 d e)) (sN (el σ) (ek σ) (eu σ) h 8 d e) := by
  after_reads_simp
  pointwise
  after_reads_simp
  pointwise
  simp only [sitofp_row, row_0, row_1, row_2, row_3, row_4, row_5, row_6, row_7, col_k, col_u]
  rfl

set_option maxHeartbeats 6400000 in
theorem state_9 (h : Fin 8) (d : Fin 128) (e : Fin 256) :
    @Eq EReal ((W σ main_v80 : Vec Ideal S8x18x128x256 .f32) (ix4 h 9 d e)) (sN (el σ) (ek σ) (eu σ) h 9 d e) := by
  after_reads_simp
  pointwise
  after_reads_simp
  pointwise
  simp only [sitofp_row, row_0, row_1, row_2, row_3, row_4, row_5, row_6, row_7, row_8, col_k, col_u]
  rfl

set_option maxHeartbeats 6400000 in
theorem state_10 (h : Fin 8) (d : Fin 128) (e : Fin 256) :
    @Eq EReal ((W σ main_v80 : Vec Ideal S8x18x128x256 .f32) (ix4 h 10 d e)) (sN (el σ) (ek σ) (eu σ) h 10 d e) := by
  after_reads_simp
  pointwise
  after_reads_simp
  pointwise
  simp only [sitofp_row, row_0, row_1, row_2, row_3, row_4, row_5, row_6, row_7, row_8, row_9, col_k, col_u]
  rfl

set_option maxHeartbeats 6400000 in
theorem state_11 (h : Fin 8) (d : Fin 128) (e : Fin 256) :
    @Eq EReal ((W σ main_v80 : Vec Ideal S8x18x128x256 .f32) (ix4 h 11 d e)) (sN (el σ) (ek σ) (eu σ) h 11 d e) := by
  after_reads_simp
  pointwise
  after_reads_simp
  pointwise
  simp only [sitofp_row, row_0, row_1, row_2, row_3, row_4, row_5, row_6, row_7, row_8, row_9, row_10, col_k, col_u]
  rfl

set_option maxHeartbeats 6400000 in
theorem state_12 (h : Fin 8) (d : Fin 128) (e : Fin 256) :
    @Eq EReal ((W σ main_v80 : Vec Ideal S8x18x128x256 .f32) (ix4 h 12 d e)) (sN (el σ) (ek σ) (eu σ) h 12 d e) := by
  after_reads_simp
  pointwise
  after_reads_simp
  pointwise
  simp only [sitofp_row, row_0, row_1, row_2, row_3, row_4, row_5, row_6, row_7, row_8, row_9, row_10, row_11, col_k, col_u]
  rfl

set_option maxHeartbeats 6400000 in
theorem state_13 (h : Fin 8) (d : Fin 128) (e : Fin 256) :
    @Eq EReal ((W σ main_v80 : Vec Ideal S8x18x128x256 .f32) (ix4 h 13 d e)) (sN (el σ) (ek σ) (eu σ) h 13 d e) := by
  after_reads_simp
  pointwise
  after_reads_simp
  pointwise
  simp only [sitofp_row, row_0, row_1, row_2, row_3, row_4, row_5, row_6, row_7, row_8, row_9, row_10, row_11, row_12, col_k, col_u]
  rfl

set_option maxHeartbeats 6400000 in
theorem state_14 (h : Fin 8) (d : Fin 128) (e : Fin 256) :
    @Eq EReal ((W σ main_v80 : Vec Ideal S8x18x128x256 .f32) (ix4 h 14 d e)) (sN (el σ) (ek σ) (eu σ) h 14 d e) := by
  after_reads_simp
  pointwise
  after_reads_simp
  pointwise
  simp only [sitofp_row, row_0, row_1, row_2, row_3, row_4, row_5, row_6, row_7, row_8, row_9, row_10, row_11, row_12, row_13, col_k, col_u]
  rfl

set_option maxHeartbeats 6400000 in
theorem state_15 (h : Fin 8) (d : Fin 128) (e : Fin 256) :
    @Eq EReal ((W σ main_v80 : Vec Ideal S8x18x128x256 .f32) (ix4 h 15 d e)) (sN (el σ) (ek σ) (eu σ) h 15 d e) := by
  after_reads_simp
  pointwise
  after_reads_simp
  pointwise
  simp only [sitofp_row, row_0, row_1, row_2, row_3, row_4, row_5, row_6, row_7, row_8, row_9, row_10, row_11, row_12, row_13, row_14, col_k, col_u]
  rfl

set_option maxHeartbeats 6400000 in
theorem state_16 (h : Fin 8) (d : Fin 128) (e : Fin 256) :
    @Eq EReal ((W σ main_v80 : Vec Ideal S8x18x128x256 .f32) (ix4 h 16 d e)) (sN (el σ) (ek σ) (eu σ) h 16 d e) := by
  after_reads_simp
  pointwise
  after_reads_simp
  pointwise
  simp only [sitofp_row, row_0, row_1, row_2, row_3, row_4, row_5, row_6, row_7, row_8, row_9, row_10, row_11, row_12, row_13, row_14, row_15, col_k, col_u]
  rfl

set_option maxHeartbeats 6400000 in
theorem state_17 (h : Fin 8) (d : Fin 128) (e : Fin 256) :
    @Eq EReal ((W σ main_v80 : Vec Ideal S8x18x128x256 .f32) (ix4 h 17 d e)) (sN (el σ) (ek σ) (eu σ) h 17 d e) := by
  after_reads_simp
  pointwise
  after_reads_simp
  pointwise
  simp only [sitofp_row, row_0, row_1, row_2, row_3, row_4, row_5, row_6, row_7, row_8, row_9, row_10, row_11, row_12, row_13, row_14, row_15, row_16, col_k, col_u]
  rfl

end Cert.KernelIdeal.Host

end
-- ==== Proof.Blocks.lean ====
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import Idealize.ShloMosaic.Lib.Pipeline.ValueKit
public import Idealize.ShloMosaic.Lib.Pointwise
public import Idealize.ShloMosaic.Lib.Pipeline.ReadBack
public import proofs.«01_k».proof.Proof.BodyDefs
public import proofs.«01_k».proof.Proof.Heads
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)
open scoped BigOperators
namespace Cert.KernelIdeal.Blocks

open Cert.KernelIdeal Cert.KernelIdeal.Gen Cert.KernelIdeal.Body Cert.Spec

variable (m : (ℓ : Loc nD τ sig) → Buf (Elt Ideal) ℓ)

/-- The arrays the launch reads. -/
def al (c : Dev nD) (h : Fin 8) : EReal := (V m c main_v0 : Vec Ideal S8 .f32) (ix1 h)
def ast (c : Dev nD) (h : Fin 8) (n : Fin 18) : VO := fun d e => (V m c main_v80 : Vec Ideal S8x18x128x256 .f32) (ix4 h n d e)
def aq (c : Dev nD) (r : Fin 2304) (x : Fin 1024) : EReal := (m ((c : Thread nD τ).loc main_arg0) : Vec Ideal S2304x1024 .bf16) (ix2 r x)
def ak (c : Dev nD) (r : Fin 2304) (x : Fin 1024) : EReal := (m ((c : Thread nD τ).loc main_arg1) : Vec Ideal S2304x1024 .bf16) (ix2 r x)
def au (c : Dev nD) (r : Fin 2304) (x : Fin 14336) : EReal := (m ((c : Thread nD τ).loc main_arg2) : Vec Ideal S2304x14336 .bf16) (ix2 r x)
def ao (c : Dev nD) (r : Fin 2304) (x : Fin 2048) : EReal := (m ((c : Thread nD τ).loc main_arg4) : Vec Ideal S2304x2048 .bf16) (ix2 r x)

/-- The block of each window at a point. -/
theorem idx : ∀ t : Fin cfg0.N, win0_0.index t = ![0]
    ∧ win0_1.index t = ![(33 - t.val) % 18, 0]
    ∧ win0_2.index t = ![(33 - t.val) % 18, 0]
    ∧ win0_3.index t = ![(33 - t.val) % 18, 3]
    ∧ win0_4.index t = ![0, 17 - t.val, 0, 0]
    ∧ win0_5.index t = ![(33 - t.val) % 18, 0]
    ∧ win0_6.index t = ![(33 - t.val) % 18, 0]
    ∧ win0_7.index t = ![(33 - t.val) % 18, 0]
    ∧ win0_8.index t = ![(33 - t.val) % 18, 0]
    ∧ win0_9.index t = ![0, 0, 0] :=
  (by decide +kernel : ∀ t : Fin grid0.N, _)

theorem t_lt (t : Fin cfg0.N) : t.val < 18 := t.isLt

/-- The chunk of a point: the last first. -/
def nOf (t : Fin cfg0.N) : Fin 18 := ⟨17 - t.val, by omega⟩

theorem bl_eq (c : Dev nD) (t : Fin cfg0.N) (h : Fin 8) : bl m c t h = al m c h := by
  unfold bl al
  blk_point [iblk, idx t]

theorem bq_eq (c : Dev nD) (t : Fin cfg0.N) (h : Fin 8) : bq m c t h = cK (aq m c) h (nOf t) := by
  funext i d
  have ht := t_lt t
  unfold bq aq cK
  blk_point [iblk, V, idx t]
  all_goals (simp only [row, nOf, colK, kcol, colV, vcol, ucol]; try omega)
theorem bk_eq (c : Dev nD) (t : Fin cfg0.N) (h : Fin 8) : bk m c t h = cK (ak m c) h (nOf t) := by
  funext i d
  have ht := t_lt t
  unfold bk ak cK
  blk_point [iblk, V, idx t]
  all_goals (simp only [row, nOf, colK, kcol, colV, vcol, ucol]; try omega)
theorem bv_eq (c : Dev nD) (t : Fin cfg0.N) (h : Fin 8) : bv m c t h = cU (au m c) h (nOf t) := by
  funext i d
  have ht := t_lt t
  unfold bv au cU
  blk_point [iblk, V, idx t]
  all_goals (simp only [row, nOf, colK, kcol, colV, vcol, ucol]; try omega)
theorem bo_eq (c : Dev nD) (t : Fin cfg0.N) (h : Fin 8) : bo m c t h = cO (ao m c) h (nOf t) := by
  funext i d
  have ht := t_lt t
  unfold bo ao cO
  blk_point [iblk, V, idx t]
  all_goals (simp only [row, nOf, colK, kcol, colV, vcol, ucol]; try omega)
theorem bs_eq (c : Dev nD) (t : Fin cfg0.N) (h : Fin 8) : bs m c t h = ast m c h (nOf t) := by
  funext d e
  have ht := t_lt t
  unfold bs ast
  blk_point [iblk, idx t]
  all_goals (simp only [row, nOf, colK, kcol, colV, vcol, ucol]; try omega)

end Cert.KernelIdeal.Blocks

end
-- ==== Proof.BodyDqA.lean ====
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import Idealize.ShloMosaic.Lib.Pipeline.ValueKit
public import Idealize.ShloMosaic.Lib.Pointwise
public import Idealize.ShloMosaic.Lib.Pipeline.ReadBack
public import proofs.«01_k».proof.Proof.BodyDefs

@[expose] public section

set_option maxRecDepth 16384

noncomputable section

open Idealize.ShloMosaic Idealize.ShloMosaic.TcCoe Idealize.SL.Sem
open Idealize.ShloMosaic.Pipeline (Dat)
open scoped BigOperators

namespace Cert.KernelIdeal.Body

open Cert.KernelIdeal Cert.KernelIdeal.Gen Cert.Spec

variable (m : (ℓ : Loc nD τ sig) → Buf (Elt Ideal) ℓ)

set_option maxHeartbeats 6400000 in
theorem dq_A (c : Dev nD) (t : Fin cfg0.N) (h0 : t.val % 18 = 0) (r : Fin 128) (h : Fin 8) (d : Fin 128) :
    (outsAt0 m c t.val t.isLt).1 (ix2 r (colK h d)) = fDQ (bl m c t h) (bk m c t h) (bv m c t h) (bs m c t h) (bo m c t h) r d := by
  rw [outsAt0_A m c t h0]
  frame_out
  canon_tiles x hx
  all_goals clear h0
  case piece7 =>
    idx_vars x
    obtain ⟨rfl, rfl⟩ : h = 0 ∧ d = x1 := by
      have e : 128 * h.val + d.val = 0 + x1.val := (show _ = _ from hx1).trans (Nat.zero_add _).symm
      exact ⟨Fin.ext (by show h.val = 0; omega), Fin.ext (by omega)⟩
    obtain rfl : r = x0 := Fin.ext hx0
    open_payloads
    pointwise
    simp only [off_0 t, off_1 t, off_2 t, off_3 t, off_4 t, off_5 t, off_6 t, off_7 t, head_0, head_1, head_2, head_3, head_4, head_5, head_6, head_7, sel_word, dist_word, sitofp_row, read_unread_whole]
    simp only [fDQ, fP, fA, fCQ, fCK, fGS, mM, mQ, mK, mG, posQ, posK, lenG, bl, bq, bk, bv, bs, bo, bt, mul_ite, ite_mul, mul_zero, zero_mul, colK_0, colK_1, colK_2, colK_3, colK_4, colK_5, colK_6, colK_7, colV_0, colV_1, colV_2, colV_3, colV_4, colV_5, colV_6, colV_7]
  case piece6 =>
    idx_vars x
    obtain ⟨rfl, rfl⟩ : h = 1 ∧ d = x1 := by
      have e : 128 * h.val + d.val = 128 + x1.val := hx1
      exact ⟨Fin.ext (by show h.val = 1; omega), Fin.ext (by omega)⟩
    obtain rfl : r = x0 := Fin.ext hx0
    open_payloads
    pointwise
    simp only [off_0 t, off_1 t, off_2 t, off_3 t, off_4 t, off_5 t, off_6 t, off_7 t, head_0, head_1, head_2, head_3, head_4, head_5, head_6, head_7, sel_word, dist_word, sitofp_row, read_unread_whole]
    simp only [fDQ, fP, fA, fCQ, fCK, fGS, mM, mQ, mK, mG, posQ, posK, lenG, bl, bq, bk, bv, bs, bo, bt, mul_ite, ite_mul, mul_zero, zero_mul, colK_0, colK_1, colK_2, colK_3, colK_4, colK_5, colK_6, colK_7, colV_0, colV_1, colV_2, colV_3, colV_4, colV_5, colV_6, colV_7]
  case piece5 =>
    idx_vars x
    obtain ⟨rfl, rfl⟩ : h = 2 ∧ d = x1 := by
      have e : 128 * h.val + d.val = 256 + x1.val := hx1
      exact ⟨Fin.ext (by show h.val = 2; omega), Fin.ext (by omega)⟩
    obtain rfl : r = x0 := Fin.ext hx0
    open_payloads
    pointwise
    simp only [off_0 t, off_1 t, off_2 t, off_3 t, off_4 t, off_5 t, off_6 t, off_7 t, head_0, head_1, head_2, head_3, head_4, head_5, head_6, head_7, sel_word, dist_word, sitofp_row, read_unread_whole]
    simp only [fDQ, fP, fA, fCQ, fCK, fGS, mM, mQ, mK, mG, posQ, posK, lenG, bl, bq, bk, bv, bs, bo, bt, mul_ite, ite_mul, mul_zero, zero_mul, colK_0, colK_1, colK_2, colK_3, colK_4, colK_5, colK_6, colK_7, colV_0, colV_1, colV_2, colV_3, colV_4, colV_5, colV_6, colV_7]
  case piece4 =>
    idx_vars x
    obtain ⟨rfl, rfl⟩ : h = 3 ∧ d = x1 := by
      have e : 128 * h.val + d.val = 384 + x1.val := hx1
      exact ⟨Fin.ext (by show h.val = 3; omega), Fin.ext (by omega)⟩
    obtain rfl : r = x0 := Fin.ext hx0
    open_payloads
    pointwise
    simp only [off_0 t, off_1 t, off_2 t, off_3 t, off_4 t, off_5 t, off_6 t, off_7 t, head_0, head_1, head_2, head_3, head_4, head_5, head_6, head_7, sel_word, dist_word, sitofp_row, read_unread_whole]
    simp only [fDQ, fP, fA, fCQ, fCK, fGS, mM, mQ, mK, mG, posQ, posK, lenG, bl, bq, bk, bv, bs, bo, bt, mul_ite, ite_mul, mul_zero, zero_mul, colK_0, colK_1, colK_2, colK_3, colK_4, colK_5, colK_6, colK_7, colV_0, colV_1, colV_2, colV_3, colV_4, colV_5, colV_6, colV_7]
  case piece3 =>
    idx_vars x
    obtain ⟨rfl, rfl⟩ : h = 4 ∧ d = x1 := by
      have e : 128 * h.val + d.val = 512 + x1.val := hx1
      exact ⟨Fin.ext (by show h.val = 4; omega), Fin.ext (by omega)⟩
    obtain rfl : r = x0 := Fin.ext hx0
    open_payloads
    pointwise
    simp only [off_0 t, off_1 t, off_2 t, off_3 t, off_4 t, off_5 t, off_6 t, off_7 t, head_0, head_1, head_2, head_3, head_4, head_5, head_6, head_7, sel_word, dist_word, sitofp_row, read_unread_whole]
    simp only [fDQ, fP, fA, fCQ, fCK, fGS, mM, mQ, mK, mG, posQ, posK, lenG, bl, bq, bk, bv, bs, bo, bt, mul_ite, ite_mul, mul_zero, zero_mul, colK_0, colK_1, colK_2, colK_3, colK_4, colK_5, colK_6, colK_7, colV_0, colV_1, colV_2, colV_3, colV_4, colV_5, colV_6, colV_7]
  case piece2 =>
    idx_vars x
    obtain ⟨rfl, rfl⟩ : h = 5 ∧ d = x1 := by
      have e : 128 * h.val + d.val = 640 + x1.val := hx1
      exact ⟨Fin.ext (by show h.val = 5; omega), Fin.ext (by omega)⟩
    obtain rfl : r = x0 := Fin.ext hx0
    open_payloads
    pointwise
    simp only [off_0 t, off_1 t, off_2 t, off_3 t, off_4 t, off_5 t, off_6 t, off_7 t, head_0, head_1, head_2, head_3, head_4, head_5, head_6, head_7, sel_word, dist_word, sitofp_row, read_unread_whole]
    simp only [fDQ, fP, fA, fCQ, fCK, fGS, mM, mQ, mK, mG, posQ, posK, lenG, bl, bq, bk, bv, bs, bo, bt, mul_ite, ite_mul, mul_zero, zero_mul, colK_0, colK_1, colK_2, colK_3, colK_4, colK_5, colK_6, colK_7, colV_0, colV_1, colV_2, colV_3, colV_4, colV_5, colV_6, colV_7]
  case piece1 =>
    idx_vars x
    obtain ⟨rfl, rfl⟩ : h = 6 ∧ d = x1 := by
      have e : 128 * h.val + d.val = 768 + x1.val := hx1
      exact ⟨Fin.ext (by show h.val = 6; omega), Fin.ext (by omega)⟩
    obtain rfl : r = x0 := Fin.ext hx0
    open_payloads
    pointwise
    simp only [off_0 t, off_1 t, off_2 t, off_3 t, off_4 t, off_5 t, off_6 t, off_7 t, head_0, head_1, head_2, head_3, head_4, head_5, head_6, head_7, sel_word, dist_word, sitofp_row, read_unread_whole]
    simp only [fDQ, fP, fA, fCQ, fCK, fGS, mM, mQ, mK, mG, posQ, posK, lenG, bl, bq, bk, bv, bs, bo, bt, mul_ite, ite_mul, mul_zero, zero_mul, colK_0, colK_1, colK_2, colK_3, colK_4, colK_5, colK_6, colK_7, colV_0, colV_1, colV_2, colV_3, colV_4, colV_5, colV_6, colV_7]
  case piece0 =>
    idx_vars x
    obtain ⟨rfl, rfl⟩ : h = 7 ∧ d = x1 := by
      have e : 128 * h.val + d.val = 896 + x1.val := hx1
      exact ⟨Fin.ext (by show h.val = 7; omega), Fin.ext (by omega)⟩
    obtain rfl : r = x0 := Fin.ext hx0
    open_payloads
    pointwise
    simp only [off_0 t, off_1 t, off_2 t, off_3 t, off_4 t, off_5 t, off_6 t, off_7 t, head_0, head_1, head_2, head_3, head_4, head_5, head_6, head_7, sel_word, dist_word, sitofp_row, read_unread_whole]
    simp only [fDQ, fP, fA, fCQ, fCK, fGS, mM, mQ, mK, mG, posQ, posK, lenG, bl, bq, bk, bv, bs, bo, bt, mul_ite, ite_mul, mul_zero, zero_mul, colK_0, colK_1, colK_2, colK_3, colK_4, colK_5, colK_6, colK_7, colV_0, colV_1, colV_2, colV_3, colV_4, colV_5, colV_6, colV_7]

end Cert.KernelIdeal.Body

end
-- ==== Proof.BodyDqB.lean ====
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import Idealize.ShloMosaic.Lib.Pipeline.ValueKit
public import Idealize.ShloMosaic.Lib.Pointwise
public import Idealize.ShloMosaic.Lib.Pipeline.ReadBack
public import proofs.«01_k».proof.Proof.BodyDefs

@[expose] public section

set_option maxRecDepth 16384

noncomputable section

open Idealize.ShloMosaic Idealize.ShloMosaic.TcCoe Idealize.SL.Sem
open Idealize.ShloMosaic.Pipeline (Dat)
open scoped BigOperators

namespace Cert.KernelIdeal.Body

open Cert.KernelIdeal Cert.KernelIdeal.Gen Cert.Spec

variable (m : (ℓ : Loc nD τ sig) → Buf (Elt Ideal) ℓ)

set_option maxHeartbeats 6400000 in
theorem dq_B (c : Dev nD) (t : Fin cfg0.N) (h0 : ¬ t.val % 18 = 0) (r : Fin 128) (h : Fin 8) (d : Fin 128) :
    (outsAt0 m c t.val t.isLt).1 (ix2 r (colK h d)) = fDQ (bl m c t h) (bk m c t h) (bv m c t h) (bs m c t h) (bo m c t h) r d := by
  rw [outsAt0_B m c t h0]
  frame_out
  canon_tiles x hx
  all_goals clear h0
  case piece7 =>
    idx_vars x
    obtain ⟨rfl, rfl⟩ : h = 0 ∧ d = x1 := by
      have e : 128 * h.val + d.val = 0 + x1.val := (show _ = _ from hx1).trans (Nat.zero_add _).symm
      exact ⟨Fin.ext (by show h.val = 0; omega), Fin.ext (by omega)⟩
    obtain rfl : r = x0 := Fin.ext hx0
    open_payloads
    pointwise
    simp only [off_0 t, off_1 t, off_2 t, off_3 t, off_4 t, off_5 t, off_6 t, off_7 t, head_0, head_1, head_2, head_3, head_4, head_5, head_6, head_7, sel_word, dist_word, sitofp_row, read_unread_whole]
    simp only [fDQ, fP, fA, fCQ, fCK, fGS, mM, mQ, mK, mG, posQ, posK, lenG, bl, bq, bk, bv, bs, bo, bt, mul_ite, ite_mul, mul_zero, zero_mul, colK_0, colK_1, colK_2, colK_3, colK_4, colK_5, colK_6, colK_7, colV_0, colV_1, colV_2, colV_3, colV_4, colV_5, colV_6, colV_7]
  case piece6 =>
    idx_vars x
    obtain ⟨rfl, rfl⟩ : h = 1 ∧ d = x1 := by
      have e : 128 * h.val + d.val = 128 + x1.val := hx1
      exact ⟨Fin.ext (by show h.val = 1; omega), Fin.ext (by omega)⟩
    obtain rfl : r = x0 := Fin.ext hx0
    open_payloads
    pointwise
    simp only [off_0 t, off_1 t, off_2 t, off_3 t, off_4 t, off_5 t, off_6 t, off_7 t, head_0, head_1, head_2, head_3, head_4, head_5, head_6, head_7, sel_word, dist_word, sitofp_row, read_unread_whole]
    simp only [fDQ, fP, fA, fCQ, fCK, fGS, mM, mQ, mK, mG, posQ, posK, lenG, bl, bq, bk, bv, bs, bo, bt, mul_ite, ite_mul, mul_zero, zero_mul, colK_0, colK_1, colK_2, colK_3, colK_4, colK_5, colK_6, colK_7, colV_0, colV_1, colV_2, colV_3, colV_4, colV_5, colV_6, colV_7]
  case piece5 =>
    idx_vars x
    obtain ⟨rfl, rfl⟩ : h = 2 ∧ d = x1 := by
      have e : 128 * h.val + d.val = 256 + x1.val := hx1
      exact ⟨Fin.ext (by show h.val = 2; omega), Fin.ext (by omega)⟩
    obtain rfl : r = x0 := Fin.ext hx0
    open_payloads
    pointwise
    simp only [off_0 t, off_1 t, off_2 t, off_3 t, off_4 t, off_5 t, off_6 t, off_7 t, head_0, head_1, head_2, head_3, head_4, head_5, head_6, head_7, sel_word, dist_word, sitofp_row, read_unread_whole]
    simp only [fDQ, fP, fA, fCQ, fCK, fGS, mM, mQ, mK, mG, posQ, posK, lenG, bl, bq, bk, bv, bs, bo, bt, mul_ite, ite_mul, mul_zero, zero_mul, colK_0, colK_1, colK_2, colK_3, colK_4, colK_5, colK_6, colK_7, colV_0, colV_1, colV_2, colV_3, colV_4, colV_5, colV_6, colV_7]
  case piece4 =>
    idx_vars x
    obtain ⟨rfl, rfl⟩ : h = 3 ∧ d = x1 := by
      have e : 128 * h.val + d.val = 384 + x1.val := hx1
      exact ⟨Fin.ext (by show h.val = 3; omega), Fin.ext (by omega)⟩
    obtain rfl : r = x0 := Fin.ext hx0
    open_payloads
    pointwise
    simp only [off_0 t, off_1 t, off_2 t, off_3 t, off_4 t, off_5 t, off_6 t, off_7 t, head_0, head_1, head_2, head_3, head_4, head_5, head_6, head_7, sel_word, dist_word, sitofp_row, read_unread_whole]
    simp only [fDQ, fP, fA, fCQ, fCK, fGS, mM, mQ, mK, mG, posQ, posK, lenG, bl, bq, bk, bv, bs, bo, bt, mul_ite, ite_mul, mul_zero, zero_mul, colK_0, colK_1, colK_2, colK_3, colK_4, colK_5, colK_6, colK_7, colV_0, colV_1, colV_2, colV_3, colV_4, colV_5, colV_6, colV_7]
  case piece3 =>
    idx_vars x
    obtain ⟨rfl, rfl⟩ : h = 4 ∧ d = x1 := by
      have e : 128 * h.val + d.val = 512 + x1.val := hx1
      exact ⟨Fin.ext (by show h.val = 4; omega), Fin.ext (by omega)⟩
    obtain rfl : r = x0 := Fin.ext hx0
    open_payloads
    pointwise
    simp only [off_0 t, off_1 t, off_2 t, off_3 t, off_4 t, off_5 t, off_6 t, off_7 t, head_0, head_1, head_2, head_3, head_4, head_5, head_6, head_7, sel_word, dist_word, sitofp_row, read_unread_whole]
    simp only [fDQ, fP, fA, fCQ, fCK, fGS, mM, mQ, mK, mG, posQ, posK, lenG, bl, bq, bk, bv, bs, bo, bt, mul_ite, ite_mul, mul_zero, zero_mul, colK_0, colK_1, colK_2, colK_3, colK_4, colK_5, colK_6, colK_7, colV_0, colV_1, colV_2, colV_3, colV_4, colV_5, colV_6, colV_7]
  case piece2 =>
    idx_vars x
    obtain ⟨rfl, rfl⟩ : h = 5 ∧ d = x1 := by
      have e : 128 * h.val + d.val = 640 + x1.val := hx1
      exact ⟨Fin.ext (by show h.val = 5; omega), Fin.ext (by omega)⟩
    obtain rfl : r = x0 := Fin.ext hx0
    open_payloads
    pointwise
    simp only [off_0 t, off_1 t, off_2 t, off_3 t, off_4 t, off_5 t, off_6 t, off_7 t, head_0, head_1, head_2, head_3, head_4, head_5, head_6, head_7, sel_word, dist_word, sitofp_row, read_unread_whole]
    simp only [fDQ, fP, fA, fCQ, fCK, fGS, mM, mQ, mK, mG, posQ, posK, lenG, bl, bq, bk, bv, bs, bo, bt, mul_ite, ite_mul, mul_zero, zero_mul, colK_0, colK_1, colK_2, colK_3, colK_4, colK_5, colK_6, colK_7, colV_0, colV_1, colV_2, colV_3, colV_4, colV_5, colV_6, colV_7]
  case piece1 =>
    idx_vars x
    obtain ⟨rfl, rfl⟩ : h = 6 ∧ d = x1 := by
      have e : 128 * h.val + d.val = 768 + x1.val := hx1
      exact ⟨Fin.ext (by show h.val = 6; omega), Fin.ext (by omega)⟩
    obtain rfl : r = x0 := Fin.ext hx0
    open_payloads
    pointwise
    simp only [off_0 t, off_1 t, off_2 t, off_3 t, off_4 t, off_5 t, off_6 t, off_7 t, head_0, head_1, head_2, head_3, head_4, head_5, head_6, head_7, sel_word, dist_word, sitofp_row, read_unread_whole]
    simp only [fDQ, fP, fA, fCQ, fCK, fGS, mM, mQ, mK, mG, posQ, posK, lenG, bl, bq, bk, bv, bs, bo, bt, mul_ite, ite_mul, mul_zero, zero_mul, colK_0, colK_1, colK_2, colK_3, colK_4, colK_5, colK_6, colK_7, colV_0, colV_1, colV_2, colV_3, colV_4, colV_5, colV_6, colV_7]
  case piece0 =>
    idx_vars x
    obtain ⟨rfl, rfl⟩ : h = 7 ∧ d = x1 := by
      have e : 128 * h.val + d.val = 896 + x1.val := hx1
      exact ⟨Fin.ext (by show h.val = 7; omega), Fin.ext (by omega)⟩
    obtain rfl : r = x0 := Fin.ext hx0
    open_payloads
    pointwise
    simp only [off_0 t, off_1 t, off_2 t, off_3 t, off_4 t, off_5 t, off_6 t, off_7 t, head_0, head_1, head_2, head_3, head_4, head_5, head_6, head_7, sel_word, dist_word, sitofp_row, read_unread_whole]
    simp only [fDQ, fP, fA, fCQ, fCK, fGS, mM, mQ, mK, mG, posQ, posK, lenG, bl, bq, bk, bv, bs, bo, bt, mul_ite, ite_mul, mul_zero, zero_mul, colK_0, colK_1, colK_2, colK_3, colK_4, colK_5, colK_6, colK_7, colV_0, colV_1, colV_2, colV_3, colV_4, colV_5, colV_6, colV_7]

end Cert.KernelIdeal.Body

end
-- ==== Proof.BodyDkA.lean ====
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import Idealize.ShloMosaic.Lib.Pipeline.ValueKit
public import Idealize.ShloMosaic.Lib.Pointwise
public import Idealize.ShloMosaic.Lib.Pipeline.ReadBack
public import proofs.«01_k».proof.Proof.BodyDefs

@[expose] public section

set_option maxRecDepth 16384

noncomputable section

open Idealize.ShloMosaic Idealize.ShloMosaic.TcCoe Idealize.SL.Sem
open Idealize.ShloMosaic.Pipeline (Dat)
open scoped BigOperators

namespace Cert.KernelIdeal.Body

open Cert.KernelIdeal Cert.KernelIdeal.Gen Cert.Spec

variable (m : (ℓ : Loc nD τ sig) → Buf (Elt Ideal) ℓ)

set_option maxHeartbeats 6400000 in
theorem dk_A (c : Dev nD) (t : Fin cfg0.N) (h0 : t.val % 18 = 0) (r : Fin 128) (h : Fin 8) (d : Fin 128) :
    (outsAt0 m c t.val t.isLt).2.1 (ix2 r (colK h d)) = fDK (bl m c t h) (bq m c t h) (bv m c t h) (bo m c t h) (fun _ _ => 0) r d := by
  rw [outsAt0_A m c t h0]
  frame_out
  canon_tiles x hx
  all_goals clear h0
  case piece7 =>
    idx_vars x
    obtain ⟨rfl, rfl⟩ : h = 0 ∧ d = x1 := by
      have e : 128 * h.val + d.val = 0 + x1.val := (show _ = _ from hx1).trans (Nat.zero_add _).symm
      exact ⟨Fin.ext (by show h.val = 0; omega), Fin.ext (by omega)⟩
    obtain rfl : r = x0 := Fin.ext hx0
    simp (disch := decide) only [↓View.readCov_skip, ↓View.readCov_fill]
    open_payloads
    pointwise
    simp only [off_0 t, off_1 t, off_2 t, off_3 t, off_4 t, off_5 t, off_6 t, off_7 t, head_0, head_1, head_2, head_3, head_4, head_5, head_6, head_7, sel_word, dist_word, sitofp_row, read_unread_whole]
    simp only [fDK, fP, fA, fCQ, fCK, fGS, mM, mQ, mK, mG, posQ, posK, lenG, bl, bq, bk, bv, bs, bo, bt, mul_ite, ite_mul, mul_zero, zero_mul, colK_0, colK_1, colK_2, colK_3, colK_4, colK_5, colK_6, colK_7, colV_0, colV_1, colV_2, colV_3, colV_4, colV_5, colV_6, colV_7]
  case piece6 =>
    idx_vars x
    obtain ⟨rfl, rfl⟩ : h = 1 ∧ d = x1 := by
      have e : 128 * h.val + d.val = 128 + x1.val := hx1
      exact ⟨Fin.ext (by show h.val = 1; omega), Fin.ext (by omega)⟩
    obtain rfl : r = x0 := Fin.ext hx0
    simp (disch := decide) only [↓View.readCov_skip, ↓View.readCov_fill]
    open_payloads
    pointwise
    simp only [off_0 t, off_1 t, off_2 t, off_3 t, off_4 t, off_5 t, off_6 t, off_7 t, head_0, head_1, head_2, head_3, head_4, head_5, head_6, head_7, sel_word, dist_word, sitofp_row, read_unread_whole]
    simp only [fDK, fP, fA, fCQ, fCK, fGS, mM, mQ, mK, mG, posQ, posK, lenG, bl, bq, bk, bv, bs, bo, bt, mul_ite, ite_mul, mul_zero, zero_mul, colK_0, colK_1, colK_2, colK_3, colK_4, colK_5, colK_6, colK_7, colV_0, colV_1, colV_2, colV_3, colV_4, colV_5, colV_6, colV_7]
  case piece5 =>
    idx_vars x
    obtain ⟨rfl, rfl⟩ : h = 2 ∧ d = x1 := by
      have e : 128 * h.val + d.val = 256 + x1.val := hx1
      exact ⟨Fin.ext (by show h.val = 2; omega), Fin.ext (by omega)⟩
    obtain rfl : r = x0 := Fin.ext hx0
    simp (disch := decide) only [↓View.readCov_skip, ↓View.readCov_fill]
    open_payloads
    pointwise
    simp only [off_0 t, off_1 t, off_2 t, off_3 t, off_4 t, off_5 t, off_6 t, off_7 t, head_0, head_1, head_2, head_3, head_4, head_5, head_6, head_7, sel_word, dist_word, sitofp_row, read_unread_whole]
    simp only [fDK, fP, fA, fCQ, fCK, fGS, mM, mQ, mK, mG, posQ, posK, lenG, bl, bq, bk, bv, bs, bo, bt, mul_ite, ite_mul, mul_zero, zero_mul, colK_0, colK_1, colK_2, colK_3, colK_4, colK_5, colK_6, colK_7, colV_0, colV_1, colV_2, colV_3, colV_4, colV_5, colV_6, colV_7]
  case piece4 =>
    idx_vars x
    obtain ⟨rfl, rfl⟩ : h = 3 ∧ d = x1 := by
      have e : 128 * h.val + d.val = 384 + x1.val := hx1
      exact ⟨Fin.ext (by show h.val = 3; omega), Fin.ext (by omega)⟩
    obtain rfl : r = x0 := Fin.ext hx0
    simp (disch := decide) only [↓View.readCov_skip, ↓View.readCov_fill]
    open_payloads
    pointwise
    simp only [off_0 t, off_1 t, off_2 t, off_3 t, off_4 t, off_5 t, off_6 t, off_7 t, head_0, head_1, head_2, head_3, head_4, head_5, head_6, head_7, sel_word, dist_word, sitofp_row, read_unread_whole]
    simp only [fDK, fP, fA, fCQ, fCK, fGS, mM, mQ, mK, mG, posQ, posK, lenG, bl, bq, bk, bv, bs, bo, bt, mul_ite, ite_mul, mul_zero, zero_mul, colK_0, colK_1, colK_2, colK_3, colK_4, colK_5, colK_6, colK_7, colV_0, colV_1, colV_2, colV_3, colV_4, colV_5, colV_6, colV_7]
  case piece3 =>
    idx_vars x
    obtain ⟨rfl, rfl⟩ : h = 4 ∧ d = x1 := by
      have e : 128 * h.val + d.val = 512 + x1.val := hx1
      exact ⟨Fin.ext (by show h.val = 4; omega), Fin.ext (by omega)⟩
    obtain rfl : r = x0 := Fin.ext hx0
    simp (disch := decide) only [↓View.readCov_skip, ↓View.readCov_fill]
    open_payloads
    pointwise
    simp only [off_0 t, off_1 t, off_2 t, off_3 t, off_4 t, off_5 t, off_6 t, off_7 t, head_0, head_1, head_2, head_3, head_4, head_5, head_6, head_7, sel_word, dist_word, sitofp_row, read_unread_whole]
    simp only [fDK, fP, fA, fCQ, fCK, fGS, mM, mQ, mK, mG, posQ, posK, lenG, bl, bq, bk, bv, bs, bo, bt, mul_ite, ite_mul, mul_zero, zero_mul, colK_0, colK_1, colK_2, colK_3, colK_4, colK_5, colK_6, colK_7, colV_0, colV_1, colV_2, colV_3, colV_4, colV_5, colV_6, colV_7]
  case piece2 =>
    idx_vars x
    obtain ⟨rfl, rfl⟩ : h = 5 ∧ d = x1 := by
      have e : 128 * h.val + d.val = 640 + x1.val := hx1
      exact ⟨Fin.ext (by show h.val = 5; omega), Fin.ext (by omega)⟩
    obtain rfl : r = x0 := Fin.ext hx0
    simp (disch := decide) only [↓View.readCov_skip, ↓View.readCov_fill]
    open_payloads
    pointwise
    simp only [off_0 t, off_1 t, off_2 t, off_3 t, off_4 t, off_5 t, off_6 t, off_7 t, head_0, head_1, head_2, head_3, head_4, head_5, head_6, head_7, sel_word, dist_word, sitofp_row, read_unread_whole]
    simp only [fDK, fP, fA, fCQ, fCK, fGS, mM, mQ, mK, mG, posQ, posK, lenG, bl, bq, bk, bv, bs, bo, bt, mul_ite, ite_mul, mul_zero, zero_mul, colK_0, colK_1, colK_2, colK_3, colK_4, colK_5, colK_6, colK_7, colV_0, colV_1, colV_2, colV_3, colV_4, colV_5, colV_6, colV_7]
  case piece1 =>
    idx_vars x
    obtain ⟨rfl, rfl⟩ : h = 6 ∧ d = x1 := by
      have e : 128 * h.val + d.val = 768 + x1.val := hx1
      exact ⟨Fin.ext (by show h.val = 6; omega), Fin.ext (by omega)⟩
    obtain rfl : r = x0 := Fin.ext hx0
    simp (disch := decide) only [↓View.readCov_skip, ↓View.readCov_fill]
    open_payloads
    pointwise
    simp only [off_0 t, off_1 t, off_2 t, off_3 t, off_4 t, off_5 t, off_6 t, off_7 t, head_0, head_1, head_2, head_3, head_4, head_5, head_6, head_7, sel_word, dist_word, sitofp_row, read_unread_whole]
    simp only [fDK, fP, fA, fCQ, fCK, fGS, mM, mQ, mK, mG, posQ, posK, lenG, bl, bq, bk, bv, bs, bo, bt, mul_ite, ite_mul, mul_zero, zero_mul, colK_0, colK_1, colK_2, colK_3, colK_4, colK_5, colK_6, colK_7, colV_0, colV_1, colV_2, colV_3, colV_4, colV_5, colV_6, colV_7]
  case piece0 =>
    idx_vars x
    obtain ⟨rfl, rfl⟩ : h = 7 ∧ d = x1 := by
      have e : 128 * h.val + d.val = 896 + x1.val := hx1
      exact ⟨Fin.ext (by show h.val = 7; omega), Fin.ext (by omega)⟩
    obtain rfl : r = x0 := Fin.ext hx0
    simp (disch := decide) only [↓View.readCov_skip, ↓View.readCov_fill]
    open_payloads
    pointwise
    simp only [off_0 t, off_1 t, off_2 t, off_3 t, off_4 t, off_5 t, off_6 t, off_7 t, head_0, head_1, head_2, head_3, head_4, head_5, head_6, head_7, sel_word, dist_word, sitofp_row, read_unread_whole]
    simp only [fDK, fP, fA, fCQ, fCK, fGS, mM, mQ, mK, mG, posQ, posK, lenG, bl, bq, bk, bv, bs, bo, bt, mul_ite, ite_mul, mul_zero, zero_mul, colK_0, colK_1, colK_2, colK_3, colK_4, colK_5, colK_6, colK_7, colV_0, colV_1, colV_2, colV_3, colV_4, colV_5, colV_6, colV_7]

end Cert.KernelIdeal.Body

end
-- ==== Proof.BodyDkB.lean ====
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import Idealize.ShloMosaic.Lib.Pipeline.ValueKit
public import Idealize.ShloMosaic.Lib.Pointwise
public import Idealize.ShloMosaic.Lib.Pipeline.ReadBack
public import proofs.«01_k».proof.Proof.BodyDefs

@[expose] public section

set_option maxRecDepth 16384

noncomputable section

open Idealize.ShloMosaic Idealize.ShloMosaic.TcCoe Idealize.SL.Sem
open Idealize.ShloMosaic.Pipeline (Dat)
open scoped BigOperators

namespace Cert.KernelIdeal.Body

open Cert.KernelIdeal Cert.KernelIdeal.Gen Cert.Spec

variable (m : (ℓ : Loc nD τ sig) → Buf (Elt Ideal) ℓ)

set_option maxHeartbeats 6400000 in
theorem dk_B (c : Dev nD) (t : Fin cfg0.N) (h0 : ¬ t.val % 18 = 0) (r : Fin 128) (h : Fin 8) (d : Fin 128) :
    (outsAt0 m c t.val t.isLt).2.1 (ix2 r (colK h d)) = fDK (bl m c t h) (bq m c t h) (bv m c t h) (bo m c t h) (bt m c t h) r d := by
  rw [outsAt0_B m c t h0]
  frame_out
  canon_tiles x hx
  all_goals clear h0
  case piece7 =>
    idx_vars x
    obtain ⟨rfl, rfl⟩ : h = 0 ∧ d = x1 := by
      have e : 128 * h.val + d.val = 0 + x1.val := (show _ = _ from hx1).trans (Nat.zero_add _).symm
      exact ⟨Fin.ext (by show h.val = 0; omega), Fin.ext (by omega)⟩
    obtain rfl : r = x0 := Fin.ext hx0
    open_payloads
    pointwise
    simp only [off_0 t, off_1 t, off_2 t, off_3 t, off_4 t, off_5 t, off_6 t, off_7 t, head_0, head_1, head_2, head_3, head_4, head_5, head_6, head_7, sel_word, dist_word, sitofp_row, read_unread_whole]
    simp only [fDK, fP, fA, fCQ, fCK, fGS, mM, mQ, mK, mG, posQ, posK, lenG, bl, bq, bk, bv, bs, bo, bt, mul_ite, ite_mul, mul_zero, zero_mul, colK_0, colK_1, colK_2, colK_3, colK_4, colK_5, colK_6, colK_7, colV_0, colV_1, colV_2, colV_3, colV_4, colV_5, colV_6, colV_7]
  case piece6 =>
    idx_vars x
    obtain ⟨rfl, rfl⟩ : h = 1 ∧ d = x1 := by
      have e : 128 * h.val + d.val = 128 + x1.val := hx1
      exact ⟨Fin.ext (by show h.val = 1; omega), Fin.ext (by omega)⟩
    obtain rfl : r = x0 := Fin.ext hx0
    open_payloads
    pointwise
    simp only [off_0 t, off_1 t, off_2 t, off_3 t, off_4 t, off_5 t, off_6 t, off_7 t, head_0, head_1, head_2, head_3, head_4, head_5, head_6, head_7, sel_word, dist_word, sitofp_row, read_unread_whole]
    simp only [fDK, fP, fA, fCQ, fCK, fGS, mM, mQ, mK, mG, posQ, posK, lenG, bl, bq, bk, bv, bs, bo, bt, mul_ite, ite_mul, mul_zero, zero_mul, colK_0, colK_1, colK_2, colK_3, colK_4, colK_5, colK_6, colK_7, colV_0, colV_1, colV_2, colV_3, colV_4, colV_5, colV_6, colV_7]
  case piece5 =>
    idx_vars x
    obtain ⟨rfl, rfl⟩ : h = 2 ∧ d = x1 := by
      have e : 128 * h.val + d.val = 256 + x1.val := hx1
      exact ⟨Fin.ext (by show h.val = 2; omega), Fin.ext (by omega)⟩
    obtain rfl : r = x0 := Fin.ext hx0
    open_payloads
    pointwise
    simp only [off_0 t, off_1 t, off_2 t, off_3 t, off_4 t, off_5 t, off_6 t, off_7 t, head_0, head_1, head_2, head_3, head_4, head_5, head_6, head_7, sel_word, dist_word, sitofp_row, read_unread_whole]
    simp only [fDK, fP, fA, fCQ, fCK, fGS, mM, mQ, mK, mG, posQ, posK, lenG, bl, bq, bk, bv, bs, bo, bt, mul_ite, ite_mul, mul_zero, zero_mul, colK_0, colK_1, colK_2, colK_3, colK_4, colK_5, colK_6, colK_7, colV_0, colV_1, colV_2, colV_3, colV_4, colV_5, colV_6, colV_7]
  case piece4 =>
    idx_vars x
    obtain ⟨rfl, rfl⟩ : h = 3 ∧ d = x1 := by
      have e : 128 * h.val + d.val = 384 + x1.val := hx1
      exact ⟨Fin.ext (by show h.val = 3; omega), Fin.ext (by omega)⟩
    obtain rfl : r = x0 := Fin.ext hx0
    open_payloads
    pointwise
    simp only [off_0 t, off_1 t, off_2 t, off_3 t, off_4 t, off_5 t, off_6 t, off_7 t, head_0, head_1, head_2, head_3, head_4, head_5, head_6, head_7, sel_word, dist_word, sitofp_row, read_unread_whole]
    simp only [fDK, fP, fA, fCQ, fCK, fGS, mM, mQ, mK, mG, posQ, posK, lenG, bl, bq, bk, bv, bs, bo, bt, mul_ite, ite_mul, mul_zero, zero_mul, colK_0, colK_1, colK_2, colK_3, colK_4, colK_5, colK_6, colK_7, colV_0, colV_1, colV_2, colV_3, colV_4, colV_5, colV_6, colV_7]
  case piece3 =>
    idx_vars x
    obtain ⟨rfl, rfl⟩ : h = 4 ∧ d = x1 := by
      have e : 128 * h.val + d.val = 512 + x1.val := hx1
      exact ⟨Fin.ext (by show h.val = 4; omega), Fin.ext (by omega)⟩
    obtain rfl : r = x0 := Fin.ext hx0
    open_payloads
    pointwise
    simp only [off_0 t, off_1 t, off_2 t, off_3 t, off_4 t, off_5 t, off_6 t, off_7 t, head_0, head_1, head_2, head_3, head_4, head_5, head_6, head_7, sel_word, dist_word, sitofp_row, read_unread_whole]
    simp only [fDK, fP, fA, fCQ, fCK, fGS, mM, mQ, mK, mG, posQ, posK, lenG, bl, bq, bk, bv, bs, bo, bt, mul_ite, ite_mul, mul_zero, zero_mul, colK_0, colK_1, colK_2, colK_3, colK_4, colK_5, colK_6, colK_7, colV_0, colV_1, colV_2, colV_3, colV_4, colV_5, colV_6, colV_7]
  case piece2 =>
    idx_vars x
    obtain ⟨rfl, rfl⟩ : h = 5 ∧ d = x1 := by
      have e : 128 * h.val + d.val = 640 + x1.val := hx1
      exact ⟨Fin.ext (by show h.val = 5; omega), Fin.ext (by omega)⟩
    obtain rfl : r = x0 := Fin.ext hx0
    open_payloads
    pointwise
    simp only [off_0 t, off_1 t, off_2 t, off_3 t, off_4 t, off_5 t, off_6 t, off_7 t, head_0, head_1, head_2, head_3, head_4, head_5, head_6, head_7, sel_word, dist_word, sitofp_row, read_unread_whole]
    simp only [fDK, fP, fA, fCQ, fCK, fGS, mM, mQ, mK, mG, posQ, posK, lenG, bl, bq, bk, bv, bs, bo, bt, mul_ite, ite_mul, mul_zero, zero_mul, colK_0, colK_1, colK_2, colK_3, colK_4, colK_5, colK_6, colK_7, colV_0, colV_1, colV_2, colV_3, colV_4, colV_5, colV_6, colV_7]
  case piece1 =>
    idx_vars x
    obtain ⟨rfl, rfl⟩ : h = 6 ∧ d = x1 := by
      have e : 128 * h.val + d.val = 768 + x1.val := hx1
      exact ⟨Fin.ext (by show h.val = 6; omega), Fin.ext (by omega)⟩
    obtain rfl : r = x0 := Fin.ext hx0
    open_payloads
    pointwise
    simp only [off_0 t, off_1 t, off_2 t, off_3 t, off_4 t, off_5 t, off_6 t, off_7 t, head_0, head_1, head_2, head_3, head_4, head_5, head_6, head_7, sel_word, dist_word, sitofp_row, read_unread_whole]
    simp only [fDK, fP, fA, fCQ, fCK, fGS, mM, mQ, mK, mG, posQ, posK, lenG, bl, bq, bk, bv, bs, bo, bt, mul_ite, ite_mul, mul_zero, zero_mul, colK_0, colK_1, colK_2, colK_3, colK_4, colK_5, colK_6, colK_7, colV_0, colV_1, colV_2, colV_3, colV_4, colV_5, colV_6, colV_7]
  case piece0 =>
    idx_vars x
    obtain ⟨rfl, rfl⟩ : h = 7 ∧ d = x1 := by
      have e : 128 * h.val + d.val = 896 + x1.val := hx1
      exact ⟨Fin.ext (by show h.val = 7; omega), Fin.ext (by omega)⟩
    obtain rfl : r = x0 := Fin.ext hx0
    open_payloads
    pointwise
    simp only [off_0 t, off_1 t, off_2 t, off_3 t, off_4 t, off_5 t, off_6 t, off_7 t, head_0, head_1, head_2, head_3, head_4, head_5, head_6, head_7, sel_word, dist_word, sitofp_row, read_unread_whole]
    simp only [fDK, fP, fA, fCQ, fCK, fGS, mM, mQ, mK, mG, posQ, posK, lenG, bl, bq, bk, bv, bs, bo, bt, mul_ite, ite_mul, mul_zero, zero_mul, colK_0, colK_1, colK_2, colK_3, colK_4, colK_5, colK_6, colK_7, colV_0, colV_1, colV_2, colV_3, colV_4, colV_5, colV_6, colV_7]

end Cert.KernelIdeal.Body

end
-- ==== Proof.BodyDvA.lean ====
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import Idealize.ShloMosaic.Lib.Pipeline.ValueKit
public import Idealize.ShloMosaic.Lib.Pointwise
public import Idealize.ShloMosaic.Lib.Pipeline.ReadBack
public import proofs.«01_k».proof.Proof.BodyDefs

@[expose] public section

set_option maxRecDepth 16384

noncomputable section

open Idealize.ShloMosaic Idealize.ShloMosaic.TcCoe Idealize.SL.Sem
open Idealize.ShloMosaic.Pipeline (Dat)
open scoped BigOperators

namespace Cert.KernelIdeal.Body

open Cert.KernelIdeal Cert.KernelIdeal.Gen Cert.Spec

variable (m : (ℓ : Loc nD τ sig) → Buf (Elt Ideal) ℓ)

set_option maxHeartbeats 6400000 in
theorem dv_A (c : Dev nD) (t : Fin cfg0.N) (h0 : t.val % 18 = 0) (r : Fin 128) (h : Fin 8) (d : Fin 256) :
    (outsAt0 m c t.val t.isLt).2.2.1 (ix2 r (colV h d)) = fDV (bl m c t h) (bq m c t h) (bk m c t h) (bo m c t h) (fun _ _ => 0) r d := by
  rw [outsAt0_A m c t h0]
  frame_out
  canon_tiles x hx
  all_goals clear h0
  case piece7 =>
    idx_vars x
    obtain ⟨rfl, rfl⟩ : h = 0 ∧ d = x1 := by
      have e : 256 * h.val + d.val = 0 + x1.val := (show _ = _ from hx1).trans (Nat.zero_add _).symm
      exact ⟨Fin.ext (by show h.val = 0; omega), Fin.ext (by omega)⟩
    obtain rfl : r = x0 := Fin.ext hx0
    simp (disch := decide) only [↓View.readCov_skip, ↓View.readCov_fill]
    open_payloads
    pointwise
    simp only [off_0 t, off_1 t, off_2 t, off_3 t, off_4 t, off_5 t, off_6 t, off_7 t, head_0, head_1, head_2, head_3, head_4, head_5, head_6, head_7, sel_word, dist_word, sitofp_row, read_unread_whole]
    simp only [fDV, fP, fA, fCQ, fCK, fGS, mM, mQ, mK, mG, posQ, posK, lenG, bl, bq, bk, bv, bs, bo, bt, mul_ite, ite_mul, mul_zero, zero_mul, colK_0, colK_1, colK_2, colK_3, colK_4, colK_5, colK_6, colK_7, colV_0, colV_1, colV_2, colV_3, colV_4, colV_5, colV_6, colV_7]
  case piece6 =>
    idx_vars x
    obtain ⟨rfl, rfl⟩ : h = 1 ∧ d = x1 := by
      have e : 256 * h.val + d.val = 256 + x1.val := hx1
      exact ⟨Fin.ext (by show h.val = 1; omega), Fin.ext (by omega)⟩
    obtain rfl : r = x0 := Fin.ext hx0
    simp (disch := decide) only [↓View.readCov_skip, ↓View.readCov_fill]
    open_payloads
    pointwise
    simp only [off_0 t, off_1 t, off_2 t, off_3 t, off_4 t, off_5 t, off_6 t, off_7 t, head_0, head_1, head_2, head_3, head_4, head_5, head_6, head_7, sel_word, dist_word, sitofp_row, read_unread_whole]
    simp only [fDV, fP, fA, fCQ, fCK, fGS, mM, mQ, mK, mG, posQ, posK, lenG, bl, bq, bk, bv, bs, bo, bt, mul_ite, ite_mul, mul_zero, zero_mul, colK_0, colK_1, colK_2, colK_3, colK_4, colK_5, colK_6, colK_7, colV_0, colV_1, colV_2, colV_3, colV_4, colV_5, colV_6, colV_7]
  case piece5 =>
    idx_vars x
    obtain ⟨rfl, rfl⟩ : h = 2 ∧ d = x1 := by
      have e : 256 * h.val + d.val = 512 + x1.val := hx1
      exact ⟨Fin.ext (by show h.val = 2; omega), Fin.ext (by omega)⟩
    obtain rfl : r = x0 := Fin.ext hx0
    simp (disch := decide) only [↓View.readCov_skip, ↓View.readCov_fill]
    open_payloads
    pointwise
    simp only [off_0 t, off_1 t, off_2 t, off_3 t, off_4 t, off_5 t, off_6 t, off_7 t, head_0, head_1, head_2, head_3, head_4, head_5, head_6, head_7, sel_word, dist_word, sitofp_row, read_unread_whole]
    simp only [fDV, fP, fA, fCQ, fCK, fGS, mM, mQ, mK, mG, posQ, posK, lenG, bl, bq, bk, bv, bs, bo, bt, mul_ite, ite_mul, mul_zero, zero_mul, colK_0, colK_1, colK_2, colK_3, colK_4, colK_5, colK_6, colK_7, colV_0, colV_1, colV_2, colV_3, colV_4, colV_5, colV_6, colV_7]
  case piece4 =>
    idx_vars x
    obtain ⟨rfl, rfl⟩ : h = 3 ∧ d = x1 := by
      have e : 256 * h.val + d.val = 768 + x1.val := hx1
      exact ⟨Fin.ext (by show h.val = 3; omega), Fin.ext (by omega)⟩
    obtain rfl : r = x0 := Fin.ext hx0
    simp (disch := decide) only [↓View.readCov_skip, ↓View.readCov_fill]
    open_payloads
    pointwise
    simp only [off_0 t, off_1 t, off_2 t, off_3 t, off_4 t, off_5 t, off_6 t, off_7 t, head_0, head_1, head_2, head_3, head_4, head_5, head_6, head_7, sel_word, dist_word, sitofp_row, read_unread_whole]
    simp only [fDV, fP, fA, fCQ, fCK, fGS, mM, mQ, mK, mG, posQ, posK, lenG, bl, bq, bk, bv, bs, bo, bt, mul_ite, ite_mul, mul_zero, zero_mul, colK_0, colK_1, colK_2, colK_3, colK_4, colK_5, colK_6, colK_7, colV_0, colV_1, colV_2, colV_3, colV_4, colV_5, colV_6, colV_7]
  case piece3 =>
    idx_vars x
    obtain ⟨rfl, rfl⟩ : h = 4 ∧ d = x1 := by
      have e : 256 * h.val + d.val = 1024 + x1.val := hx1
      exact ⟨Fin.ext (by show h.val = 4; omega), Fin.ext (by omega)⟩
    obtain rfl : r = x0 := Fin.ext hx0
    simp (disch := decide) only [↓View.readCov_skip, ↓View.readCov_fill]
    open_payloads
    pointwise
    simp only [off_0 t, off_1 t, off_2 t, off_3 t, off_4 t, off_5 t, off_6 t, off_7 t, head_0, head_1, head_2, head_3, head_4, head_5, head_6, head_7, sel_word, dist_word, sitofp_row, read_unread_whole]
    simp only [fDV, fP, fA, fCQ, fCK, fGS, mM, mQ, mK, mG, posQ, posK, lenG, bl, bq, bk, bv, bs, bo, bt, mul_ite, ite_mul, mul_zero, zero_mul, colK_0, colK_1, colK_2, colK_3, colK_4, colK_5, colK_6, colK_7, colV_0, colV_1, colV_2, colV_3, colV_4, colV_5, colV_6, colV_7]
  case piece2 =>
    idx_vars x
    obtain ⟨rfl, rfl⟩ : h = 5 ∧ d = x1 := by
      have e : 256 * h.val + d.val = 1280 + x1.val := hx1
      exact ⟨Fin.ext (by show h.val = 5; omega), Fin.ext (by omega)⟩
    obtain rfl : r = x0 := Fin.ext hx0
    simp (disch := decide) only [↓View.readCov_skip, ↓View.readCov_fill]
    open_payloads
    pointwise
    simp only [off_0 t, off_1 t, off_2 t, off_3 t, off_4 t, off_5 t, off_6 t, off_7 t, head_0, head_1, head_2, head_3, head_4, head_5, head_6, head_7, sel_word, dist_word, sitofp_row, read_unread_whole]
    simp only [fDV, fP, fA, fCQ, fCK, fGS, mM, mQ, mK, mG, posQ, posK, lenG, bl, bq, bk, bv, bs, bo, bt, mul_ite, ite_mul, mul_zero, zero_mul, colK_0, colK_1, colK_2, colK_3, colK_4, colK_5, colK_6, colK_7, colV_0, colV_1, colV_2, colV_3, colV_4, colV_5, colV_6, colV_7]
  case piece1 =>
    idx_vars x
    obtain ⟨rfl, rfl⟩ : h = 6 ∧ d = x1 := by
      have e : 256 * h.val + d.val = 1536 + x1.val := hx1
      exact ⟨Fin.ext (by show h.val = 6; omega), Fin.ext (by omega)⟩
    obtain rfl : r = x0 := Fin.ext hx0
    simp (disch := decide) only [↓View.readCov_skip, ↓View.readCov_fill]
    open_payloads
    pointwise
    simp only [off_0 t, off_1 t, off_2 t, off_3 t, off_4 t, off_5 t, off_6 t, off_7 t, head_0, head_1, head_2, head_3, head_4, head_5, head_6, head_7, sel_word, dist_word, sitofp_row, read_unread_whole]
    simp only [fDV, fP, fA, fCQ, fCK, fGS, mM, mQ, mK, mG, posQ, posK, lenG, bl, bq, bk, bv, bs, bo, bt, mul_ite, ite_mul, mul_zero, zero_mul, colK_0, colK_1, colK_2, colK_3, colK_4, colK_5, colK_6, colK_7, colV_0, colV_1, colV_2, colV_3, colV_4, colV_5, colV_6, colV_7]
  case piece0 =>
    idx_vars x
    obtain ⟨rfl, rfl⟩ : h = 7 ∧ d = x1 := by
      have e : 256 * h.val + d.val = 1792 + x1.val := hx1
      exact ⟨Fin.ext (by show h.val = 7; omega), Fin.ext (by omega)⟩
    obtain rfl : r = x0 := Fin.ext hx0
    simp (disch := decide) only [↓View.readCov_skip, ↓View.readCov_fill]
    open_payloads
    pointwise
    simp only [off_0 t, off_1 t, off_2 t, off_3 t, off_4 t, off_5 t, off_6 t, off_7 t, head_0, head_1, head_2, head_3, head_4, head_5, head_6, head_7, sel_word, dist_word, sitofp_row, read_unread_whole]
    simp only [fDV, fP, fA, fCQ, fCK, fGS, mM, mQ, mK, mG, posQ, posK, lenG, bl, bq, bk, bv, bs, bo, bt, mul_ite, ite_mul, mul_zero, zero_mul, colK_0, colK_1, colK_2, colK_3, colK_4, colK_5, colK_6, colK_7, colV_0, colV_1, colV_2, colV_3, colV_4, colV_5, colV_6, colV_7]

end Cert.KernelIdeal.Body

end
-- ==== Proof.BodyDvB.lean ====
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import Idealize.ShloMosaic.Lib.Pipeline.ValueKit
public import Idealize.ShloMosaic.Lib.Pointwise
public import Idealize.ShloMosaic.Lib.Pipeline.ReadBack
public import proofs.«01_k».proof.Proof.BodyDefs

@[expose] public section

set_option maxRecDepth 16384

noncomputable section

open Idealize.ShloMosaic Idealize.ShloMosaic.TcCoe Idealize.SL.Sem
open Idealize.ShloMosaic.Pipeline (Dat)
open scoped BigOperators

namespace Cert.KernelIdeal.Body

open Cert.KernelIdeal Cert.KernelIdeal.Gen Cert.Spec

variable (m : (ℓ : Loc nD τ sig) → Buf (Elt Ideal) ℓ)

set_option maxHeartbeats 6400000 in
theorem dv_B (c : Dev nD) (t : Fin cfg0.N) (h0 : ¬ t.val % 18 = 0) (r : Fin 128) (h : Fin 8) (d : Fin 256) :
    (outsAt0 m c t.val t.isLt).2.2.1 (ix2 r (colV h d)) = fDV (bl m c t h) (bq m c t h) (bk m c t h) (bo m c t h) (bt m c t h) r d := by
  rw [outsAt0_B m c t h0]
  frame_out
  canon_tiles x hx
  all_goals clear h0
  case piece7 =>
    idx_vars x
    obtain ⟨rfl, rfl⟩ : h = 0 ∧ d = x1 := by
      have e : 256 * h.val + d.val = 0 + x1.val := (show _ = _ from hx1).trans (Nat.zero_add _).symm
      exact ⟨Fin.ext (by show h.val = 0; omega), Fin.ext (by omega)⟩
    obtain rfl : r = x0 := Fin.ext hx0
    open_payloads
    pointwise
    simp only [off_0 t, off_1 t, off_2 t, off_3 t, off_4 t, off_5 t, off_6 t, off_7 t, head_0, head_1, head_2, head_3, head_4, head_5, head_6, head_7, sel_word, dist_word, sitofp_row, read_unread_whole]
    simp only [fDV, fP, fA, fCQ, fCK, fGS, mM, mQ, mK, mG, posQ, posK, lenG, bl, bq, bk, bv, bs, bo, bt, mul_ite, ite_mul, mul_zero, zero_mul, colK_0, colK_1, colK_2, colK_3, colK_4, colK_5, colK_6, colK_7, colV_0, colV_1, colV_2, colV_3, colV_4, colV_5, colV_6, colV_7]
  case piece6 =>
    idx_vars x
    obtain ⟨rfl, rfl⟩ : h = 1 ∧ d = x1 := by
      have e : 256 * h.val + d.val = 256 + x1.val := hx1
      exact ⟨Fin.ext (by show h.val = 1; omega), Fin.ext (by omega)⟩
    obtain rfl : r = x0 := Fin.ext hx0
    open_payloads
    pointwise
    simp only [off_0 t, off_1 t, off_2 t, off_3 t, off_4 t, off_5 t, off_6 t, off_7 t, head_0, head_1, head_2, head_3, head_4, head_5, head_6, head_7, sel_word, dist_word, sitofp_row, read_unread_whole]
    simp only [fDV, fP, fA, fCQ, fCK, fGS, mM, mQ, mK, mG, posQ, posK, lenG, bl, bq, bk, bv, bs, bo, bt, mul_ite, ite_mul, mul_zero, zero_mul, colK_0, colK_1, colK_2, colK_3, colK_4, colK_5, colK_6, colK_7, colV_0, colV_1, colV_2, colV_3, colV_4, colV_5, colV_6, colV_7]
  case piece5 =>
    idx_vars x
    obtain ⟨rfl, rfl⟩ : h = 2 ∧ d = x1 := by
      have e : 256 * h.val + d.val = 512 + x1.val := hx1
      exact ⟨Fin.ext (by show h.val = 2; omega), Fin.ext (by omega)⟩
    obtain rfl : r = x0 := Fin.ext hx0
    open_payloads
    pointwise
    simp only [off_0 t, off_1 t, off_2 t, off_3 t, off_4 t, off_5 t, off_6 t, off_7 t, head_0, head_1, head_2, head_3, head_4, head_5, head_6, head_7, sel_word, dist_word, sitofp_row, read_unread_whole]
    simp only [fDV, fP, fA, fCQ, fCK, fGS, mM, mQ, mK, mG, posQ, posK, lenG, bl, bq, bk, bv, bs, bo, bt, mul_ite, ite_mul, mul_zero, zero_mul, colK_0, colK_1, colK_2, colK_3, colK_4, colK_5, colK_6, colK_7, colV_0, colV_1, colV_2, colV_3, colV_4, colV_5, colV_6, colV_7]
  case piece4 =>
    idx_vars x
    obtain ⟨rfl, rfl⟩ : h = 3 ∧ d = x1 := by
      have e : 256 * h.val + d.val = 768 + x1.val := hx1
      exact ⟨Fin.ext (by show h.val = 3; omega), Fin.ext (by omega)⟩
    obtain rfl : r = x0 := Fin.ext hx0
    open_payloads
    pointwise
    simp only [off_0 t, off_1 t, off_2 t, off_3 t, off_4 t, off_5 t, off_6 t, off_7 t, head_0, head_1, head_2, head_3, head_4, head_5, head_6, head_7, sel_word, dist_word, sitofp_row, read_unread_whole]
    simp only [fDV, fP, fA, fCQ, fCK, fGS, mM, mQ, mK, mG, posQ, posK, lenG, bl, bq, bk, bv, bs, bo, bt, mul_ite, ite_mul, mul_zero, zero_mul, colK_0, colK_1, colK_2, colK_3, colK_4, colK_5, colK_6, colK_7, colV_0, colV_1, colV_2, colV_3, colV_4, colV_5, colV_6, colV_7]
  case piece3 =>
    idx_vars x
    obtain ⟨rfl, rfl⟩ : h = 4 ∧ d = x1 := by
      have e : 256 * h.val + d.val = 1024 + x1.val := hx1
      exact ⟨Fin.ext (by show h.val = 4; omega), Fin.ext (by omega)⟩
    obtain rfl : r = x0 := Fin.ext hx0
    open_payloads
    pointwise
    simp only [off_0 t, off_1 t, off_2 t, off_3 t, off_4 t, off_5 t, off_6 t, off_7 t, head_0, head_1, head_2, head_3, head_4, head_5, head_6, head_7, sel_word, dist_word, sitofp_row, read_unread_whole]
    simp only [fDV, fP, fA, fCQ, fCK, fGS, mM, mQ, mK, mG, posQ, posK, lenG, bl, bq, bk, bv, bs, bo, bt, mul_ite, ite_mul, mul_zero, zero_mul, colK_0, colK_1, colK_2, colK_3, colK_4, colK_5, colK_6, colK_7, colV_0, colV_1, colV_2, colV_3, colV_4, colV_5, colV_6, colV_7]
  case piece2 =>
    idx_vars x
    obtain ⟨rfl, rfl⟩ : h = 5 ∧ d = x1 := by
      have e : 256 * h.val + d.val = 1280 + x1.val := hx1
      exact ⟨Fin.ext (by show h.val = 5; omega), Fin.ext (by omega)⟩
    obtain rfl : r = x0 := Fin.ext hx0
    open_payloads
    pointwise
    simp only [off_0 t, off_1 t, off_2 t, off_3 t, off_4 t, off_5 t, off_6 t, off_7 t, head_0, head_1, head_2, head_3, head_4, head_5, head_6, head_7, sel_word, dist_word, sitofp_row, read_unread_whole]
    simp only [fDV, fP, fA, fCQ, fCK, fGS, mM, mQ, mK, mG, posQ, posK, lenG, bl, bq, bk, bv, bs, bo, bt, mul_ite, ite_mul, mul_zero, zero_mul, colK_0, colK_1, colK_2, colK_3, colK_4, colK_5, colK_6, colK_7, colV_0, colV_1, colV_2, colV_3, colV_4, colV_5, colV_6, colV_7]
  case piece1 =>
    idx_vars x
    obtain ⟨rfl, rfl⟩ : h = 6 ∧ d = x1 := by
      have e : 256 * h.val + d.val = 1536 + x1.val := hx1
      exact ⟨Fin.ext (by show h.val = 6; omega), Fin.ext (by omega)⟩
    obtain rfl : r = x0 := Fin.ext hx0
    open_payloads
    pointwise
    simp only [off_0 t, off_1 t, off_2 t, off_3 t, off_4 t, off_5 t, off_6 t, off_7 t, head_0, head_1, head_2, head_3, head_4, head_5, head_6, head_7, sel_word, dist_word, sitofp_row, read_unread_whole]
    simp only [fDV, fP, fA, fCQ, fCK, fGS, mM, mQ, mK, mG, posQ, posK, lenG, bl, bq, bk, bv, bs, bo, bt, mul_ite, ite_mul, mul_zero, zero_mul, colK_0, colK_1, colK_2, colK_3, colK_4, colK_5, colK_6, colK_7, colV_0, colV_1, colV_2, colV_3, colV_4, colV_5, colV_6, colV_7]
  case piece0 =>
    idx_vars x
    obtain ⟨rfl, rfl⟩ : h = 7 ∧ d = x1 := by
      have e : 256 * h.val + d.val = 1792 + x1.val := hx1
      exact ⟨Fin.ext (by show h.val = 7; omega), Fin.ext (by omega)⟩
    obtain rfl : r = x0 := Fin.ext hx0
    open_payloads
    pointwise
    simp only [off_0 t, off_1 t, off_2 t, off_3 t, off_4 t, off_5 t, off_6 t, off_7 t, head_0, head_1, head_2, head_3, head_4, head_5, head_6, head_7, sel_word, dist_word, sitofp_row, read_unread_whole]
    simp only [fDV, fP, fA, fCQ, fCK, fGS, mM, mQ, mK, mG, posQ, posK, lenG, bl, bq, bk, bv, bs, bo, bt, mul_ite, ite_mul, mul_zero, zero_mul, colK_0, colK_1, colK_2, colK_3, colK_4, colK_5, colK_6, colK_7, colV_0, colV_1, colV_2, colV_3, colV_4, colV_5, colV_6, colV_7]

end Cert.KernelIdeal.Body

end
-- ==== Proof.BodyDsA.lean ====
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import Idealize.ShloMosaic.Lib.Pipeline.ValueKit
public import Idealize.ShloMosaic.Lib.Pointwise
public import Idealize.ShloMosaic.Lib.Pipeline.ReadBack
public import proofs.«01_k».proof.Proof.BodyDefs

@[expose] public section

set_option maxRecDepth 16384

noncomputable section

open Idealize.ShloMosaic Idealize.ShloMosaic.TcCoe Idealize.SL.Sem
open Idealize.ShloMosaic.Pipeline (Dat)
open scoped BigOperators

namespace Cert.KernelIdeal.Body

open Cert.KernelIdeal Cert.KernelIdeal.Gen Cert.Spec

variable (m : (ℓ : Loc nD τ sig) → Buf (Elt Ideal) ℓ)

/-- Later stores which cover an index decide its contents: the earlier store behind them is not read there. -/
theorem canon_covered_DsA {s : Shape} {e : EltTy} [∀ e, Nonempty (Elt Ideal e)] (L L' : List (View.Piece (Elt Ideal) s e)) (y : s.Idx)
    (hc : ∃ p ∈ L, y ∈ p.1.set) : View.canon (L ++ L') y = View.canon L y := by
  induction L with
  | nil => obtain ⟨p, hp, _⟩ := hc; exact absurd hp List.not_mem_nil
  | cons p L ih =>
    by_cases hm : y ∈ p.1.set
    · obtain ⟨x, rfl⟩ := p.1.exists_idx_of_mem hm
      rw [show p.1.idx x = p.1.emb x from rfl, List.cons_append, View.canon_cons_emb, View.canon_cons_emb]
    · rw [List.cons_append, View.canon_cons_of_not_mem _ _ hm, View.canon_cons_of_not_mem _ _ hm]
      refine ih ?_
      obtain ⟨q, hq, hyq⟩ := hc
      rcases List.mem_cons.mp hq with rfl | hq'
      · exact absurd hyq hm
      · exact ⟨q, hq', hyq⟩

set_option maxHeartbeats 6400000 in
theorem ds_A (c : Dev nD) (t : Fin cfg0.N) (h0 : t.val % 18 = 0) (r : Fin 128) (h : Fin 8) (d : Fin 256) :
    (outsAt0 m c t.val t.isLt).2.2.2.2 (ix3 h r d) = 0 * mG (bl m c t h) + fGS (bl m c t h) (bq m c t h) (bo m c t h) r d := by
  rw [outsAt0_A m c t h0]
  frame_out
  refine (canon_covered_DsA [_, _, _, _, _, _, _, _] [_] _ (View.cover_of_tiled_head _ _ _ (by sl_kernel_rfl) _)).trans ?_
  canon_tiles x hx
  all_goals clear h0
  case piece7 =>
    idx_vars x
    obtain rfl : h = 0 := Fin.ext (by show h.val = 0; have e : h.val = 0 + x0.val := (show _ = _ from hx0).trans (Nat.zero_add _).symm; omega)
    obtain rfl : r = x1 := Fin.ext hx1
    obtain rfl : d = x2 := Fin.ext hx2
    simp (disch := decide) only [↓View.readCov_skip, ↓View.readCov_fill]
    open_payloads
    pointwise
    simp only [off_0 t, off_1 t, off_2 t, off_3 t, off_4 t, off_5 t, off_6 t, off_7 t, head_0, head_1, head_2, head_3, head_4, head_5, head_6, head_7, sel_word, dist_word, sitofp_row, read_unread_whole]
    simp only [fGS, fP, fA, fCQ, fCK, fGS, mM, mQ, mK, mG, posQ, posK, lenG, bl, bq, bk, bv, bs, bo, bt, mul_ite, ite_mul, mul_zero, zero_mul, colK_0, colK_1, colK_2, colK_3, colK_4, colK_5, colK_6, colK_7, colV_0, colV_1, colV_2, colV_3, colV_4, colV_5, colV_6, colV_7]
  case piece6 =>
    idx_vars x
    obtain rfl : h = 1 := Fin.ext (by show h.val = 1; have e : h.val = 1 + x0.val := hx0; omega)
    obtain rfl : r = x1 := Fin.ext hx1
    obtain rfl : d = x2 := Fin.ext hx2
    simp (disch := decide) only [↓View.readCov_skip, ↓View.readCov_fill]
    open_payloads
    pointwise
    simp only [off_0 t, off_1 t, off_2 t, off_3 t, off_4 t, off_5 t, off_6 t, off_7 t, head_0, head_1, head_2, head_3, head_4, head_5, head_6, head_7, sel_word, dist_word, sitofp_row, read_unread_whole]
    simp only [fGS, fP, fA, fCQ, fCK, fGS, mM, mQ, mK, mG, posQ, posK, lenG, bl, bq, bk, bv, bs, bo, bt, mul_ite, ite_mul, mul_zero, zero_mul, colK_0, colK_1, colK_2, colK_3, colK_4, colK_5, colK_6, colK_7, colV_0, colV_1, colV_2, colV_3, colV_4, colV_5, colV_6, colV_7]
  case piece5 =>
    idx_vars x
    obtain rfl : h = 2 := Fin.ext (by show h.val = 2; have e : h.val = 2 + x0.val := hx0; omega)
    obtain rfl : r = x1 := Fin.ext hx1
    obtain rfl : d = x2 := Fin.ext hx2
    simp (disch := decide) only [↓View.readCov_skip, ↓View.readCov_fill]
    open_payloads
    pointwise
    simp only [off_0 t, off_1 t, off_2 t, off_3 t, off_4 t, off_5 t, off_6 t, off_7 t, head_0, head_1, head_2, head_3, head_4, head_5, head_6, head_7, sel_word, dist_word, sitofp_row, read_unread_whole]
    simp only [fGS, fP, fA, fCQ, fCK, fGS, mM, mQ, mK, mG, posQ, posK, lenG, bl, bq, bk, bv, bs, bo, bt, mul_ite, ite_mul, mul_zero, zero_mul, colK_0, colK_1, colK_2, colK_3, colK_4, colK_5, colK_6, colK_7, colV_0, colV_1, colV_2, colV_3, colV_4, colV_5, colV_6, colV_7]
  case piece4 =>
    idx_vars x
    obtain rfl : h = 3 := Fin.ext (by show h.val = 3; have e : h.val = 3 + x0.val := hx0; omega)
    obtain rfl : r = x1 := Fin.ext hx1
    obtain rfl : d = x2 := Fin.ext hx2
    simp (disch := decide) only [↓View.readCov_skip, ↓View.readCov_fill]
    open_payloads
    pointwise
    simp only [off_0 t, off_1 t, off_2 t, off_3 t, off_4 t, off_5 t, off_6 t, off_7 t, head_0, head_1, head_2, head_3, head_4, head_5, head_6, head_7, sel_word, dist_word, sitofp_row, read_unread_whole]
    simp only [fGS, fP, fA, fCQ, fCK, fGS, mM, mQ, mK, mG, posQ, posK, lenG, bl, bq, bk, bv, bs, bo, bt, mul_ite, ite_mul, mul_zero, zero_mul, colK_0, colK_1, colK_2, colK_3, colK_4, colK_5, colK_6, colK_7, colV_0, colV_1, colV_2, colV_3, colV_4, colV_5, colV_6, colV_7]
  case piece3 =>
    idx_vars x
    obtain rfl : h = 4 := Fin.ext (by show h.val = 4; have e : h.val = 4 + x0.val := hx0; omega)
    obtain rfl : r = x1 := Fin.ext hx1
    obtain rfl : d = x2 := Fin.ext hx2
    simp (disch := decide) only [↓View.readCov_skip, ↓View.readCov_fill]
    open_payloads
    pointwise
    simp only [off_0 t, off_1 t, off_2 t, off_3 t, off_4 t, off_5 t, off_6 t, off_7 t, head_0, head_1, head_2, head_3, head_4, head_5, head_6, head_7, sel_word, dist_word, sitofp_row, read_unread_whole]
    simp only [fGS, fP, fA, fCQ, fCK, fGS, mM, mQ, mK, mG, posQ, posK, lenG, bl, bq, bk, bv, bs, bo, bt, mul_ite, ite_mul, mul_zero, zero_mul, colK_0, colK_1, colK_2, colK_3, colK_4, colK_5, colK_6, colK_7, colV_0, colV_1, colV_2, colV_3, colV_4, colV_5, colV_6, colV_7]
  case piece2 =>
    idx_vars x
    obtain rfl : h = 5 := Fin.ext (by show h.val = 5; have e : h.val = 5 + x0.val := hx0; omega)
    obtain rfl : r = x1 := Fin.ext hx1
    obtain rfl : d = x2 := Fin.ext hx2
    simp (disch := decide) only [↓View.readCov_skip, ↓View.readCov_fill]
    open_payloads
    pointwise
    simp only [off_0 t, off_1 t, off_2 t, off_3 t, off_4 t, off_5 t, off_6 t, off_7 t, head_0, head_1, head_2, head_3, head_4, head_5, head_6, head_7, sel_word, dist_word, sitofp_row, read_unread_whole]
    simp only [fGS, fP, fA, fCQ, fCK, fGS, mM, mQ, mK, mG, posQ, posK, lenG, bl, bq, bk, bv, bs, bo, bt, mul_ite, ite_mul, mul_zero, zero_mul, colK_0, colK_1, colK_2, colK_3, colK_4, colK_5, colK_6, colK_7, colV_0, colV_1, colV_2, colV_3, colV_4, colV_5, colV_6, colV_7]
  case piece1 =>
    idx_vars x
    obtain rfl : h = 6 := Fin.ext (by show h.val = 6; have e : h.val = 6 + x0.val := hx0; omega)
    obtain rfl : r = x1 := Fin.ext hx1
    obtain rfl : d = x2 := Fin.ext hx2
    simp (disch := decide) only [↓View.readCov_skip, ↓View.readCov_fill]
    open_payloads
    pointwise
    simp only [off_0 t, off_1 t, off_2 t, off_3 t, off_4 t, off_5 t, off_6 t, off_7 t, head_0, head_1, head_2, head_3, head_4, head_5, head_6, head_7, sel_word, dist_word, sitofp_row, read_unread_whole]
    simp only [fGS, fP, fA, fCQ, fCK, fGS, mM, mQ, mK, mG, posQ, posK, lenG, bl, bq, bk, bv, bs, bo, bt, mul_ite, ite_mul, mul_zero, zero_mul, colK_0, colK_1, colK_2, colK_3, colK_4, colK_5, colK_6, colK_7, colV_0, colV_1, colV_2, colV_3, colV_4, colV_5, colV_6, colV_7]
  case piece0 =>
    idx_vars x
    obtain rfl : h = 7 := Fin.ext (by show h.val = 7; have e : h.val = 7 + x0.val := hx0; omega)
    obtain rfl : r = x1 := Fin.ext hx1
    obtain rfl : d = x2 := Fin.ext hx2
    simp (disch := decide) only [↓View.readCov_skip, ↓View.readCov_fill]
    open_payloads
    pointwise
    simp only [off_0 t, off_1 t, off_2 t, off_3 t, off_4 t, off_5 t, off_6 t, off_7 t, head_0, head_1, head_2, head_3, head_4, head_5, head_6, head_7, sel_word, dist_word, sitofp_row, read_unread_whole]
    simp only [fGS, fP, fA, fCQ, fCK, fGS, mM, mQ, mK, mG, posQ, posK, lenG, bl, bq, bk, bv, bs, bo, bt, mul_ite, ite_mul, mul_zero, zero_mul, colK_0, colK_1, colK_2, colK_3, colK_4, colK_5, colK_6, colK_7, colV_0, colV_1, colV_2, colV_3, colV_4, colV_5, colV_6, colV_7]

end Cert.KernelIdeal.Body

end
-- ==== Proof.BodyDsB.lean ====
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import Idealize.ShloMosaic.Lib.Pipeline.ValueKit
public import Idealize.ShloMosaic.Lib.Pointwise
public import Idealize.ShloMosaic.Lib.Pipeline.ReadBack
public import proofs.«01_k».proof.Proof.BodyDefs

@[expose] public section

set_option maxRecDepth 16384

noncomputable section

open Idealize.ShloMosaic Idealize.ShloMosaic.TcCoe Idealize.SL.Sem
open Idealize.ShloMosaic.Pipeline (Dat)
open scoped BigOperators

namespace Cert.KernelIdeal.Body

open Cert.KernelIdeal Cert.KernelIdeal.Gen Cert.Spec

variable (m : (ℓ : Loc nD τ sig) → Buf (Elt Ideal) ℓ)

set_option maxHeartbeats 6400000 in
theorem ds_B (c : Dev nD) (t : Fin cfg0.N) (h0 : ¬ t.val % 18 = 0) (r : Fin 128) (h : Fin 8) (d : Fin 256) :
    (outsAt0 m c t.val t.isLt).2.2.2.2 (ix3 h r d) = bt m c t h r d * mG (bl m c t h) + fGS (bl m c t h) (bq m c t h) (bo m c t h) r d := by
  rw [outsAt0_B m c t h0]
  frame_out
  canon_tiles x hx
  all_goals clear h0
  case piece7 =>
    idx_vars x
    obtain rfl : h = 0 := Fin.ext (by show h.val = 0; have e : h.val = 0 + x0.val := (show _ = _ from hx0).trans (Nat.zero_add _).symm; omega)
    obtain rfl : r = x1 := Fin.ext hx1
    obtain rfl : d = x2 := Fin.ext hx2
    open_payloads
    pointwise
    simp only [off_0 t, off_1 t, off_2 t, off_3 t, off_4 t, off_5 t, off_6 t, off_7 t, head_0, head_1, head_2, head_3, head_4, head_5, head_6, head_7, sel_word, dist_word, sitofp_row, read_unread_whole]
    simp only [fGS, fP, fA, fCQ, fCK, fGS, mM, mQ, mK, mG, posQ, posK, lenG, bl, bq, bk, bv, bs, bo, bt, mul_ite, ite_mul, mul_zero, zero_mul, colK_0, colK_1, colK_2, colK_3, colK_4, colK_5, colK_6, colK_7, colV_0, colV_1, colV_2, colV_3, colV_4, colV_5, colV_6, colV_7]
  case piece6 =>
    idx_vars x
    obtain rfl : h = 1 := Fin.ext (by show h.val = 1; have e : h.val = 1 + x0.val := hx0; omega)
    obtain rfl : r = x1 := Fin.ext hx1
    obtain rfl : d = x2 := Fin.ext hx2
    open_payloads
    pointwise
    simp only [off_0 t, off_1 t, off_2 t, off_3 t, off_4 t, off_5 t, off_6 t, off_7 t, head_0, head_1, head_2, head_3, head_4, head_5, head_6, head_7, sel_word, dist_word, sitofp_row, read_unread_whole]
    simp only [fGS, fP, fA, fCQ, fCK, fGS, mM, mQ, mK, mG, posQ, posK, lenG, bl, bq, bk, bv, bs, bo, bt, mul_ite, ite_mul, mul_zero, zero_mul, colK_0, colK_1, colK_2, colK_3, colK_4, colK_5, colK_6, colK_7, colV_0, colV_1, colV_2, colV_3, colV_4, colV_5, colV_6, colV_7]
  case piece5 =>
    idx_vars x
    obtain rfl : h = 2 := Fin.ext (by show h.val = 2; have e : h.val = 2 + x0.val := hx0; omega)
    obtain rfl : r = x1 := Fin.ext hx1
    obtain rfl : d = x2 := Fin.ext hx2
    open_payloads
    pointwise
    simp only [off_0 t, off_1 t, off_2 t, off_3 t, off_4 t, off_5 t, off_6 t, off_7 t, head_0, head_1, head_2, head_3, head_4, head_5, head_6, head_7, sel_word, dist_word, sitofp_row, read_unread_whole]
    simp only [fGS, fP, fA, fCQ, fCK, fGS, mM, mQ, mK, mG, posQ, posK, lenG, bl, bq, bk, bv, bs, bo, bt, mul_ite, ite_mul, mul_zero, zero_mul, colK_0, colK_1, colK_2, colK_3, colK_4, colK_5, colK_6, colK_7, colV_0, colV_1, colV_2, colV_3, colV_4, colV_5, colV_6, colV_7]
  case piece4 =>
    idx_vars x
    obtain rfl : h = 3 := Fin.ext (by show h.val = 3; have e : h.val = 3 + x0.val := hx0; omega)
    obtain rfl : r = x1 := Fin.ext hx1
    obtain rfl : d = x2 := Fin.ext hx2
    open_payloads
    pointwise
    simp only [off_0 t, off_1 t, off_2 t, off_3 t, off_4 t, off_5 t, off_6 t, off_7 t, head_0, head_1, head_2, head_3, head_4, head_5, head_6, head_7, sel_word, dist_word, sitofp_row, read_unread_whole]
    simp only [fGS, fP, fA, fCQ, fCK, fGS, mM, mQ, mK, mG, posQ, posK, lenG, bl, bq, bk, bv, bs, bo, bt, mul_ite, ite_mul, mul_zero, zero_mul, colK_0, colK_1, colK_2, colK_3, colK_4, colK_5, colK_6, colK_7, colV_0, colV_1, colV_2, colV_3, colV_4, colV_5, colV_6, colV_7]
  case piece3 =>
    idx_vars x
    obtain rfl : h = 4 := Fin.ext (by show h.val = 4; have e : h.val = 4 + x0.val := hx0; omega)
    obtain rfl : r = x1 := Fin.ext hx1
    obtain rfl : d = x2 := Fin.ext hx2
    open_payloads
    pointwise
    simp only [off_0 t, off_1 t, off_2 t, off_3 t, off_4 t, off_5 t, off_6 t, off_7 t, head_0, head_1, head_2, head_3, head_4, head_5, head_6, head_7, sel_word, dist_word, sitofp_row, read_unread_whole]
    simp only [fGS, fP, fA, fCQ, fCK, fGS, mM, mQ, mK, mG, posQ, posK, lenG, bl, bq, bk, bv, bs, bo, bt, mul_ite, ite_mul, mul_zero, zero_mul, colK_0, colK_1, colK_2, colK_3, colK_4, colK_5, colK_6, colK_7, colV_0, colV_1, colV_2, colV_3, colV_4, colV_5, colV_6, colV_7]
  case piece2 =>
    idx_vars x
    obtain rfl : h = 5 := Fin.ext (by show h.val = 5; have e : h.val = 5 + x0.val := hx0; omega)
    obtain rfl : r = x1 := Fin.ext hx1
    obtain rfl : d = x2 := Fin.ext hx2
    open_payloads
    pointwise
    simp only [off_0 t, off_1 t, off_2 t, off_3 t, off_4 t, off_5 t, off_6 t, off_7 t, head_0, head_1, head_2, head_3, head_4, head_5, head_6, head_7, sel_word, dist_word, sitofp_row, read_unread_whole]
    simp only [fGS, fP, fA, fCQ, fCK, fGS, mM, mQ, mK, mG, posQ, posK, lenG, bl, bq, bk, bv, bs, bo, bt, mul_ite, ite_mul, mul_zero, zero_mul, colK_0, colK_1, colK_2, colK_3, colK_4, colK_5, colK_6, colK_7, colV_0, colV_1, colV_2, colV_3, colV_4, colV_5, colV_6, colV_7]
  case piece1 =>
    idx_vars x
    obtain rfl : h = 6 := Fin.ext (by show h.val = 6; have e : h.val = 6 + x0.val := hx0; omega)
    obtain rfl : r = x1 := Fin.ext hx1
    obtain rfl : d = x2 := Fin.ext hx2
    open_payloads
    pointwise
    simp only [off_0 t, off_1 t, off_2 t, off_3 t, off_4 t, off_5 t, off_6 t, off_7 t, head_0, head_1, head_2, head_3, head_4, head_5, head_6, head_7, sel_word, dist_word, sitofp_row, read_unread_whole]
    simp only [fGS, fP, fA, fCQ, fCK, fGS, mM, mQ, mK, mG, posQ, posK, lenG, bl, bq, bk, bv, bs, bo, bt, mul_ite, ite_mul, mul_zero, zero_mul, colK_0, colK_1, colK_2, colK_3, colK_4, colK_5, colK_6, colK_7, colV_0, colV_1, colV_2, colV_3, colV_4, colV_5, colV_6, colV_7]
  case piece0 =>
    idx_vars x
    obtain rfl : h = 7 := Fin.ext (by show h.val = 7; have e : h.val = 7 + x0.val := hx0; omega)
    obtain rfl : r = x1 := Fin.ext hx1
    obtain rfl : d = x2 := Fin.ext hx2
    open_payloads
    pointwise
    simp only [off_0 t, off_1 t, off_2 t, off_3 t, off_4 t, off_5 t, off_6 t, off_7 t, head_0, head_1, head_2, head_3, head_4, head_5, head_6, head_7, sel_word, dist_word, sitofp_row, read_unread_whole]
    simp only [fGS, fP, fA, fCQ, fCK, fGS, mM, mQ, mK, mG, posQ, posK, lenG, bl, bq, bk, bv, bs, bo, bt, mul_ite, ite_mul, mul_zero, zero_mul, colK_0, colK_1, colK_2, colK_3, colK_4, colK_5, colK_6, colK_7, colV_0, colV_1, colV_2, colV_3, colV_4, colV_5, colV_6, colV_7]

end Cert.KernelIdeal.Body

end
-- ==== Proof.BodyDlA.lean ====
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import Idealize.ShloMosaic.Lib.Pipeline.ValueKit
public import Idealize.ShloMosaic.Lib.Pointwise
public import Idealize.ShloMosaic.Lib.Pipeline.ReadBack
public import proofs.«01_k».proof.Proof.BodyDefs

@[expose] public section

set_option maxRecDepth 16384

noncomputable section

open Idealize.ShloMosaic Idealize.ShloMosaic.TcCoe Idealize.SL.Sem
open Idealize.ShloMosaic.Pipeline (Dat)
open scoped BigOperators

namespace Cert.KernelIdeal.Body

open Cert.KernelIdeal Cert.KernelIdeal.Gen Cert.Spec

variable (m : (ℓ : Loc nD τ sig) → Buf (Elt Ideal) ℓ)

/-- Later stores which cover an index decide its contents: the earlier store behind them is not read there. -/
theorem canon_covered_DlA {s : Shape} {e : EltTy} [∀ e, Nonempty (Elt Ideal e)] (L L' : List (View.Piece (Elt Ideal) s e)) (y : s.Idx)
    (hc : ∃ p ∈ L, y ∈ p.1.set) : View.canon (L ++ L') y = View.canon L y := by
  induction L with
  | nil => obtain ⟨p, hp, _⟩ := hc; exact absurd hp List.not_mem_nil
  | cons p L ih =>
    by_cases hm : y ∈ p.1.set
    · obtain ⟨x, rfl⟩ := p.1.exists_idx_of_mem hm
      rw [show p.1.idx x = p.1.emb x from rfl, List.cons_append, View.canon_cons_emb, View.canon_cons_emb]
    · rw [List.cons_append, View.canon_cons_of_not_mem _ _ hm, View.canon_cons_of_not_mem _ _ hm]
      refine ih ?_
      obtain ⟨q, hq, hyq⟩ := hc
      rcases List.mem_cons.mp hq with rfl | hq'
      · exact absurd hyq hm
      · exact ⟨q, hq', hyq⟩

set_option maxHeartbeats 6400000 in
theorem dl_A (c : Dev nD) (t : Fin cfg0.N) (h0 : t.val % 18 = 0) (r : Fin 8) (h : Fin 8) (d : Fin 128) :
    (outsAt0 m c t.val t.isLt).2.2.2.1 (ix3 h r d) = (show EReal from 0 + fDLk (bl m c t h) (bq m c t h) (bk m c t h) (bv m c t h) (bs m c t h) (bo m c t h) (fun _ _ => 0)) := by
  rw [outsAt0_A m c t h0]
  frame_out
  refine (canon_covered_DlA [_, _, _, _, _, _, _, _] [_] _ (View.cover_of_tiled_head _ _ _ (by sl_kernel_rfl) _)).trans ?_
  canon_tiles x hx
  all_goals clear h0
  case piece7 =>
    idx_vars x
    obtain rfl : h = 0 := Fin.ext (by show h.val = 0; have e : h.val = 0 + x0.val := (show _ = _ from hx0).trans (Nat.zero_add _).symm; omega)
    obtain rfl : r = x1 := Fin.ext hx1
    obtain rfl : d = x2 := Fin.ext hx2
    simp (disch := decide) only [↓View.readCov_skip, ↓View.readCov_fill]
    open_payloads
    pointwise
    simp only [off_0 t, off_1 t, off_2 t, off_3 t, off_4 t, off_5 t, off_6 t, off_7 t, head_0, head_1, head_2, head_3, head_4, head_5, head_6, head_7, sel_word, dist_word, sitofp_row, read_unread_whole]
    simp only [fDLk, fP, fA, fCQ, fCK, fGS, mM, mQ, mK, mG, posQ, posK, lenG, bl, bq, bk, bv, bs, bo, bt, mul_ite, ite_mul, mul_zero, zero_mul, colK_0, colK_1, colK_2, colK_3, colK_4, colK_5, colK_6, colK_7, colV_0, colV_1, colV_2, colV_3, colV_4, colV_5, colV_6, colV_7]
  case piece6 =>
    idx_vars x
    obtain rfl : h = 1 := Fin.ext (by show h.val = 1; have e : h.val = 1 + x0.val := hx0; omega)
    obtain rfl : r = x1 := Fin.ext hx1
    obtain rfl : d = x2 := Fin.ext hx2
    simp (disch := decide) only [↓View.readCov_skip, ↓View.readCov_fill]
    open_payloads
    pointwise
    simp only [off_0 t, off_1 t, off_2 t, off_3 t, off_4 t, off_5 t, off_6 t, off_7 t, head_0, head_1, head_2, head_3, head_4, head_5, head_6, head_7, sel_word, dist_word, sitofp_row, read_unread_whole]
    simp only [fDLk, fP, fA, fCQ, fCK, fGS, mM, mQ, mK, mG, posQ, posK, lenG, bl, bq, bk, bv, bs, bo, bt, mul_ite, ite_mul, mul_zero, zero_mul, colK_0, colK_1, colK_2, colK_3, colK_4, colK_5, colK_6, colK_7, colV_0, colV_1, colV_2, colV_3, colV_4, colV_5, colV_6, colV_7]
  case piece5 =>
    idx_vars x
    obtain rfl : h = 2 := Fin.ext (by show h.val = 2; have e : h.val = 2 + x0.val := hx0; omega)
    obtain rfl : r = x1 := Fin.ext hx1
    obtain rfl : d = x2 := Fin.ext hx2
    simp (disch := decide) only [↓View.readCov_skip, ↓View.readCov_fill]
    open_payloads
    pointwise
    simp only [off_0 t, off_1 t, off_2 t, off_3 t, off_4 t, off_5 t, off_6 t, off_7 t, head_0, head_1, head_2, head_3, head_4, head_5, head_6, head_7, sel_word, dist_word, sitofp_row, read_unread_whole]
    simp only [fDLk, fP, fA, fCQ, fCK, fGS, mM, mQ, mK, mG, posQ, posK, lenG, bl, bq, bk, bv, bs, bo, bt, mul_ite, ite_mul, mul_zero, zero_mul, colK_0, colK_1, colK_2, colK_3, colK_4, colK_5, colK_6, colK_7, colV_0, colV_1, colV_2, colV_3, colV_4, colV_5, colV_6, colV_7]
  case piece4 =>
    idx_vars x
    obtain rfl : h = 3 := Fin.ext (by show h.val = 3; have e : h.val = 3 + x0.val := hx0; omega)
    obtain rfl : r = x1 := Fin.ext hx1
    obtain rfl : d = x2 := Fin.ext hx2
    simp (disch := decide) only [↓View.readCov_skip, ↓View.readCov_fill]
    open_payloads
    pointwise
    simp only [off_0 t, off_1 t, off_2 t, off_3 t, off_4 t, off_5 t, off_6 t, off_7 t, head_0, head_1, head_2, head_3, head_4, head_5, head_6, head_7, sel_word, dist_word, sitofp_row, read_unread_whole]
    simp only [fDLk, fP, fA, fCQ, fCK, fGS, mM, mQ, mK, mG, posQ, posK, lenG, bl, bq, bk, bv, bs, bo, bt, mul_ite, ite_mul, mul_zero, zero_mul, colK_0, colK_1, colK_2, colK_3, colK_4, colK_5, colK_6, colK_7, colV_0, colV_1, colV_2, colV_3, colV_4, colV_5, colV_6, colV_7]
  case piece3 =>
    idx_vars x
    obtain rfl : h = 4 := Fin.ext (by show h.val = 4; have e : h.val = 4 + x0.val := hx0; omega)
    obtain rfl : r = x1 := Fin.ext hx1
    obtain rfl : d = x2 := Fin.ext hx2
    simp (disch := decide) only [↓View.readCov_skip, ↓View.readCov_fill]
    open_payloads
    pointwise
    simp only [off_0 t, off_1 t, off_2 t, off_3 t, off_4 t, off_5 t, off_6 t, off_7 t, head_0, head_1, head_2, head_3, head_4, head_5, head_6, head_7, sel_word, dist_word, sitofp_row, read_unread_whole]
    simp only [fDLk, fP, fA, fCQ, fCK, fGS, mM, mQ, mK, mG, posQ, posK, lenG, bl, bq, bk, bv, bs, bo, bt, mul_ite, ite_mul, mul_zero, zero_mul, colK_0, colK_1, colK_2, colK_3, colK_4, colK_5, colK_6, colK_7, colV_0, colV_1, colV_2, colV_3, colV_4, colV_5, colV_6, colV_7]
  case piece2 =>
    idx_vars x
    obtain rfl : h = 5 := Fin.ext (by show h.val = 5; have e : h.val = 5 + x0.val := hx0; omega)
    obtain rfl : r = x1 := Fin.ext hx1
    obtain rfl : d = x2 := Fin.ext hx2
    simp (disch := decide) only [↓View.readCov_skip, ↓View.readCov_fill]
    open_payloads
    pointwise
    simp only [off_0 t, off_1 t, off_2 t, off_3 t, off_4 t, off_5 t, off_6 t, off_7 t, head_0, head_1, head_2, head_3, head_4, head_5, head_6, head_7, sel_word, dist_word, sitofp_row, read_unread_whole]
    simp only [fDLk, fP, fA, fCQ, fCK, fGS, mM, mQ, mK, mG, posQ, posK, lenG, bl, bq, bk, bv, bs, bo, bt, mul_ite, ite_mul, mul_zero, zero_mul, colK_0, colK_1, colK_2, colK_3, colK_4, colK_5, colK_6, colK_7, colV_0, colV_1, colV_2, colV_3, colV_4, colV_5, colV_6, colV_7]
  case piece1 =>
    idx_vars x
    obtain rfl : h = 6 := Fin.ext (by show h.val = 6; have e : h.val = 6 + x0.val := hx0; omega)
    obtain rfl : r = x1 := Fin.ext hx1
    obtain rfl : d = x2 := Fin.ext hx2
    simp (disch := decide) only [↓View.readCov_skip, ↓View.readCov_fill]
    open_payloads
    pointwise
    simp only [off_0 t, off_1 t, off_2 t, off_3 t, off_4 t, off_5 t, off_6 t, off_7 t, head_0, head_1, head_2, head_3, head_4, head_5, head_6, head_7, sel_word, dist_word, sitofp_row, read_unread_whole]
    simp only [fDLk, fP, fA, fCQ, fCK, fGS, mM, mQ, mK, mG, posQ, posK, lenG, bl, bq, bk, bv, bs, bo, bt, mul_ite, ite_mul, mul_zero, zero_mul, colK_0, colK_1, colK_2, colK_3, colK_4, colK_5, colK_6, colK_7, colV_0, colV_1, colV_2, colV_3, colV_4, colV_5, colV_6, colV_7]
  case piece0 =>
    idx_vars x
    obtain rfl : h = 7 := Fin.ext (by show h.val = 7; have e : h.val = 7 + x0.val := hx0; omega)
    obtain rfl : r = x1 := Fin.ext hx1
    obtain rfl : d = x2 := Fin.ext hx2
    simp (disch := decide) only [↓View.readCov_skip, ↓View.readCov_fill]
    open_payloads
    pointwise
    simp only [off_0 t, off_1 t, off_2 t, off_3 t, off_4 t, off_5 t, off_6 t, off_7 t, head_0, head_1, head_2, head_3, head_4, head_5, head_6, head_7, sel_word, dist_word, sitofp_row, read_unread_whole]
    simp only [fDLk, fP, fA, fCQ, fCK, fGS, mM, mQ, mK, mG, posQ, posK, lenG, bl, bq, bk, bv, bs, bo, bt, mul_ite, ite_mul, mul_zero, zero_mul, colK_0, colK_1, colK_2, colK_3, colK_4, colK_5, colK_6, colK_7, colV_0, colV_1, colV_2, colV_3, colV_4, colV_5, colV_6, colV_7]

end Cert.KernelIdeal.Body

end
-- ==== Proof.BodyDlB.lean ====
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import Idealize.ShloMosaic.Lib.Pipeline.ValueKit
public import Idealize.ShloMosaic.Lib.Pointwise
public import Idealize.ShloMosaic.Lib.Pipeline.ReadBack
public import proofs.«01_k».proof.Proof.BodyDefs

@[expose] public section

set_option maxRecDepth 16384

noncomputable section

open Idealize.ShloMosaic Idealize.ShloMosaic.TcCoe Idealize.SL.Sem
open Idealize.ShloMosaic.Pipeline (Dat)
open scoped BigOperators

namespace Cert.KernelIdeal.Body

open Cert.KernelIdeal Cert.KernelIdeal.Gen Cert.Spec

variable (m : (ℓ : Loc nD τ sig) → Buf (Elt Ideal) ℓ)

set_option maxHeartbeats 6400000 in
theorem dl_B (c : Dev nD) (t : Fin cfg0.N) (h0 : ¬ t.val % 18 = 0) (r : Fin 8) (h : Fin 8) (d : Fin 128) :
    (outsAt0 m c t.val t.isLt).2.2.2.1 (ix3 h r d) = (show EReal from (outsAt0 m c (t.val - 1) (Nat.lt_of_le_of_lt (Nat.sub_le _ _) t.isLt)).2.2.2.1 (ix3 h r d) + fDLk (bl m c t h) (bq m c t h) (bk m c t h) (bv m c t h) (bs m c t h) (bo m c t h) (bt m c t h)) := by
  rw [outsAt0_B m c t h0]
  frame_out
  canon_tiles x hx
  all_goals clear h0
  case piece7 =>
    idx_vars x
    obtain rfl : h = 0 := Fin.ext (by show h.val = 0; have e : h.val = 0 + x0.val := (show _ = _ from hx0).trans (Nat.zero_add _).symm; omega)
    obtain rfl : r = x1 := Fin.ext hx1
    obtain rfl : d = x2 := Fin.ext hx2
    open_payloads
    pointwise
    simp only [off_0 t, off_1 t, off_2 t, off_3 t, off_4 t, off_5 t, off_6 t, off_7 t, head_0, head_1, head_2, head_3, head_4, head_5, head_6, head_7, sel_word, dist_word, sitofp_row, read_unread_whole]
    simp only [fDLk, fP, fA, fCQ, fCK, fGS, mM, mQ, mK, mG, posQ, posK, lenG, bl, bq, bk, bv, bs, bo, bt, mul_ite, ite_mul, mul_zero, zero_mul, colK_0, colK_1, colK_2, colK_3, colK_4, colK_5, colK_6, colK_7, colV_0, colV_1, colV_2, colV_3, colV_4, colV_5, colV_6, colV_7]
  case piece6 =>
    idx_vars x
    obtain rfl : h = 1 := Fin.ext (by show h.val = 1; have e : h.val = 1 + x0.val := hx0; omega)
    obtain rfl : r = x1 := Fin.ext hx1
    obtain rfl : d = x2 := Fin.ext hx2
    open_payloads
    pointwise
    simp only [off_0 t, off_1 t, off_2 t, off_3 t, off_4 t, off_5 t, off_6 t, off_7 t, head_0, head_1, head_2, head_3, head_4, head_5, head_6, head_7, sel_word, dist_word, sitofp_row, read_unread_whole]
    simp only [fDLk, fP, fA, fCQ, fCK, fGS, mM, mQ, mK, mG, posQ, posK, lenG, bl, bq, bk, bv, bs, bo, bt, mul_ite, ite_mul, mul_zero, zero_mul, colK_0, colK_1, colK_2, colK_3, colK_4, colK_5, colK_6, colK_7, colV_0, colV_1, colV_2, colV_3, colV_4, colV_5, colV_6, colV_7]
  case piece5 =>
    idx_vars x
    obtain rfl : h = 2 := Fin.ext (by show h.val = 2; have e : h.val = 2 + x0.val := hx0; omega)
    obtain rfl : r = x1 := Fin.ext hx1
    obtain rfl : d = x2 := Fin.ext hx2
    open_payloads
    pointwise
    simp only [off_0 t, off_1 t, off_2 t, off_3 t, off_4 t, off_5 t, off_6 t, off_7 t, head_0, head_1, head_2, head_3, head_4, head_5, head_6, head_7, sel_word, dist_word, sitofp_row, read_unread_whole]
    simp only [fDLk, fP, fA, fCQ, fCK, fGS, mM, mQ, mK, mG, posQ, posK, lenG, bl, bq, bk, bv, bs, bo, bt, mul_ite, ite_mul, mul_zero, zero_mul, colK_0, colK_1, colK_2, colK_3, colK_4, colK_5, colK_6, colK_7, colV_0, colV_1, colV_2, colV_3, colV_4, colV_5, colV_6, colV_7]
  case piece4 =>
    idx_vars x
    obtain rfl : h = 3 := Fin.ext (by show h.val = 3; have e : h.val = 3 + x0.val := hx0; omega)
    obtain rfl : r = x1 := Fin.ext hx1
    obtain rfl : d = x2 := Fin.ext hx2
    open_payloads
    pointwise
    simp only [off_0 t, off_1 t, off_2 t, off_3 t, off_4 t, off_5 t, off_6 t, off_7 t, head_0, head_1, head_2, head_3, head_4, head_5, head_6, head_7, sel_word, dist_word, sitofp_row, read_unread_whole]
    simp only [fDLk, fP, fA, fCQ, fCK, fGS, mM, mQ, mK, mG, posQ, posK, lenG, bl, bq, bk, bv, bs, bo, bt, mul_ite, ite_mul, mul_zero, zero_mul, colK_0, colK_1, colK_2, colK_3, colK_4, colK_5, colK_6, colK_7, colV_0, colV_1, colV_2, colV_3, colV_4, colV_5, colV_6, colV_7]
  case piece3 =>
    idx_vars x
    obtain rfl : h = 4 := Fin.ext (by show h.val = 4; have e : h.val = 4 + x0.val := hx0; omega)
    obtain rfl : r = x1 := Fin.ext hx1
    obtain rfl : d = x2 := Fin.ext hx2
    open_payloads
    pointwise
    simp only [off_0 t, off_1 t, off_2 t, off_3 t, off_4 t, off_5 t, off_6 t, off_7 t, head_0, head_1, head_2, head_3, head_4, head_5, head_6, head_7, sel_word, dist_word, sitofp_row, read_unread_whole]
    simp only [fDLk, fP, fA, fCQ, fCK, fGS, mM, mQ, mK, mG, posQ, posK, lenG, bl, bq, bk, bv, bs, bo, bt, mul_ite, ite_mul, mul_zero, zero_mul, colK_0, colK_1, colK_2, colK_3, colK_4, colK_5, colK_6, colK_7, colV_0, colV_1, colV_2, colV_3, colV_4, colV_5, colV_6, colV_7]
  case piece2 =>
    idx_vars x
    obtain rfl : h = 5 := Fin.ext (by show h.val = 5; have e : h.val = 5 + x0.val := hx0; omega)
    obtain rfl : r = x1 := Fin.ext hx1
    obtain rfl : d = x2 := Fin.ext hx2
    open_payloads
    pointwise
    simp only [off_0 t, off_1 t, off_2 t, off_3 t, off_4 t, off_5 t, off_6 t, off_7 t, head_0, head_1, head_2, head_3, head_4, head_5, head_6, head_7, sel_word, dist_word, sitofp_row, read_unread_whole]
    simp only [fDLk, fP, fA, fCQ, fCK, fGS, mM, mQ, mK, mG, posQ, posK, lenG, bl, bq, bk, bv, bs, bo, bt, mul_ite, ite_mul, mul_zero, zero_mul, colK_0, colK_1, colK_2, colK_3, colK_4, colK_5, colK_6, colK_7, colV_0, colV_1, colV_2, colV_3, colV_4, colV_5, colV_6, colV_7]
  case piece1 =>
    idx_vars x
    obtain rfl : h = 6 := Fin.ext (by show h.val = 6; have e : h.val = 6 + x0.val := hx0; omega)
    obtain rfl : r = x1 := Fin.ext hx1
    obtain rfl : d = x2 := Fin.ext hx2
    open_payloads
    pointwise
    simp only [off_0 t, off_1 t, off_2 t, off_3 t, off_4 t, off_5 t, off_6 t, off_7 t, head_0, head_1, head_2, head_3, head_4, head_5, head_6, head_7, sel_word, dist_word, sitofp_row, read_unread_whole]
    simp only [fDLk, fP, fA, fCQ, fCK, fGS, mM, mQ, mK, mG, posQ, posK, lenG, bl, bq, bk, bv, bs, bo, bt, mul_ite, ite_mul, mul_zero, zero_mul, colK_0, colK_1, colK_2, colK_3, colK_4, colK_5, colK_6, colK_7, colV_0, colV_1, colV_2, colV_3, colV_4, colV_5, colV_6, colV_7]
  case piece0 =>
    idx_vars x
    obtain rfl : h = 7 := Fin.ext (by show h.val = 7; have e : h.val = 7 + x0.val := hx0; omega)
    obtain rfl : r = x1 := Fin.ext hx1
    obtain rfl : d = x2 := Fin.ext hx2
    open_payloads
    pointwise
    simp only [off_0 t, off_1 t, off_2 t, off_3 t, off_4 t, off_5 t, off_6 t, off_7 t, head_0, head_1, head_2, head_3, head_4, head_5, head_6, head_7, sel_word, dist_word, sitofp_row, read_unread_whole]
    simp only [fDLk, fP, fA, fCQ, fCK, fGS, mM, mQ, mK, mG, posQ, posK, lenG, bl, bq, bk, bv, bs, bo, bt, mul_ite, ite_mul, mul_zero, zero_mul, colK_0, colK_1, colK_2, colK_3, colK_4, colK_5, colK_6, colK_7, colV_0, colV_1, colV_2, colV_3, colV_4, colV_5, colV_6, colV_7]

end Cert.KernelIdeal.Body

end
-- ==== Proof.Results.lean ====
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import Idealize.ShloMosaic.Lib.Pipeline.ValueKit
public import Idealize.ShloMosaic.Lib.Pointwise
public import Idealize.ShloMosaic.Lib.Pipeline.ReadBack
public import proofs.«01_k».proof.Proof.BodyDefs
public import proofs.«01_k».proof.Proof.Host
public import proofs.«01_k».proof.Proof.Blocks
public import proofs.«01_k».proof.Proof.BodyDqA
public import proofs.«01_k».proof.Proof.BodyDqB
public import proofs.«01_k».proof.Proof.BodyDkA
public import proofs.«01_k».proof.Proof.BodyDkB
public import proofs.«01_k».proof.Proof.BodyDvA
public import proofs.«01_k».proof.Proof.BodyDvB
public import proofs.«01_k».proof.Proof.BodyDsA
public import proofs.«01_k».proof.Proof.BodyDsB
public import proofs.«01_k».proof.Proof.BodyDlA
public import proofs.«01_k».proof.Proof.BodyDlB
public import proofs.«01_k».proof.Proof.Heads
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)
open scoped BigOperators
namespace Cert.KernelIdeal.Results

open Cert.KernelIdeal Cert.KernelIdeal.Gen Cert.KernelIdeal.Body Cert.KernelIdeal.Blocks Cert.KernelIdeal.Host Cert.Spec
open Idealize.ShloMosaic.StableHlo (after)

variable (m : (ℓ : Loc nD τ sig) → Buf (Elt Ideal) ℓ)

/-- The contents between the host's two lines. -/
abbrev mid (c : Dev nD) : Valuation τ sig (Elt Ideal) := after (hostOps0 (F := Ideal)) (fun b => m (c, b))

theorem el_mid (c : Dev nD) : el (mid m c) = al m c := by
  funext h
  unfold el al
  rw [V_split]
  refine congrFun ?_ (ix1 h)
  exact (StableHlo.after_of_forall_not_mem _ _ (by decide)).symm
theorem ek_mid (c : Dev nD) : ek (mid m c) = ak m c := by
  funext r x
  unfold ek ak
  refine congrFun ?_ (ix2 r x)
  exact StableHlo.after_of_forall_not_mem _ _ (by decide)
theorem eu_mid (c : Dev nD) : eu (mid m c) = au m c := by
  funext r x
  unfold eu au
  refine congrFun ?_ (ix2 r x)
  exact StableHlo.after_of_forall_not_mem _ _ (by decide)

/-- The states the launch reads. -/
theorem ast_eq (c : Dev nD) (h : Fin 8) (n : Fin 18) : ast m c h n = sN (al m c) (ak m c) (au m c) h n.val := by
  funext d e
  unfold ast
  rw [V_split, ← el_mid, ← ek_mid, ← eu_mid]
  match n with
  | ⟨0, _⟩ => exact state_0 (mid m c) h d e
  | ⟨1, _⟩ => exact state_1 (mid m c) h d e
  | ⟨2, _⟩ => exact state_2 (mid m c) h d e
  | ⟨3, _⟩ => exact state_3 (mid m c) h d e
  | ⟨4, _⟩ => exact state_4 (mid m c) h d e
  | ⟨5, _⟩ => exact state_5 (mid m c) h d e
  | ⟨6, _⟩ => exact state_6 (mid m c) h d e
  | ⟨7, _⟩ => exact state_7 (mid m c) h d e
  | ⟨8, _⟩ => exact state_8 (mid m c) h d e
  | ⟨9, _⟩ => exact state_9 (mid m c) h d e
  | ⟨10, _⟩ => exact state_10 (mid m c) h d e
  | ⟨11, _⟩ => exact state_11 (mid m c) h d e
  | ⟨12, _⟩ => exact state_12 (mid m c) h d e
  | ⟨13, _⟩ => exact state_13 (mid m c) h d e
  | ⟨14, _⟩ => exact state_14 (mid m c) h d e
  | ⟨15, _⟩ => exact state_15 (mid m c) h d e
  | ⟨16, _⟩ => exact state_16 (mid m c) h d e
  | ⟨17, _⟩ => exact state_17 (mid m c) h d e
  | ⟨n + 18, hn⟩ => exact absurd hn (by omega)

theorem nOf_eq (t : Fin cfg0.N) : nOf t = Fin.ofNat 18 (17 - t.val) := by
  have ht := t_lt t
  exact Fin.ext (by simp [nOf, Fin.ofNat]; omega)

theorem tN_succ (c : Dev nD) (t : Fin cfg0.N) (h : Fin 8) (r : Fin 128) (d : Fin 256) :
    tN (al m c) (aq m c) (ao m c) h (t.val + 1) r d
      = tN (al m c) (aq m c) (ao m c) h t.val r d * mG (al m c h) + fGS (al m c h) (cK (aq m c) h (nOf t)) (cO (ao m c) h (nOf t)) r d := by
  rw [nOf_eq]; rfl

/-- The state's cotangent, as each point leaves it. -/
theorem scr (c : Dev nD) : ∀ (n : ℕ) (hn : n < cfg0.N) (h : Fin 8) (r : Fin 128) (d : Fin 256),
    (outsAt0 m c n hn).2.2.2.2 (ix3 h r d) = tN (al m c) (aq m c) (ao m c) h (n + 1) r d
  | 0, hn, h, r, d => by
    refine (ds_A m c ⟨0, hn⟩ rfl r h d).trans ?_
    rw [bl_eq, bq_eq, bo_eq]
    exact (tN_succ m c ⟨0, hn⟩ h r d).symm
  | n + 1, hn, h, r, d => by
    have ht : n + 1 < 18 := hn
    refine (ds_B m c ⟨n + 1, hn⟩ (by show ¬ (n + 1) % 18 = 0; omega) r h d).trans ?_
    rw [bl_eq, bq_eq, bo_eq]
    refine Eq.trans ?_ (tN_succ m c ⟨n + 1, hn⟩ h r d).symm
    refine congrArg₂ (· + ·) (congrArg (· * mG (al m c h)) ?_) rfl
    exact scr c n (by omega) h r d

theorem bt_eq (c : Dev nD) (t : Fin cfg0.N) (h0 : ¬ t.val % 18 = 0) (h : Fin 8) :
    bt m c t h = tN (al m c) (aq m c) (ao m c) h t.val := by
  have ht := t_lt t
  funext d e
  have hp : t.val - 1 + 1 = t.val := by omega
  exact (scr m c (t.val - 1) _ h d e).trans (by rw [hp])

theorem t0_eq (c : Dev nD) (t : Fin cfg0.N) (h0 : t.val % 18 = 0) (h : Fin 8) :
    (fun _ _ => 0 : VO) = tN (al m c) (aq m c) (ao m c) h t.val := by
  have ht := t_lt t
  have hz : t.val = 0 := by omega
  rw [hz]; rfl

theorem nOf_val (t : Fin cfg0.N) : 17 - (nOf t).val = t.val := by
  have ht := t_lt t
  simp only [nOf]; omega

theorem out_q (c : Dev nD) (t : Fin cfg0.N) (r : Fin 128) (h : Fin 8) (d : Fin 128) :
    (outsAt0 m c t.val t.isLt).1 (ix2 r (colK h d)) = gQ (al m c) (ak m c) (au m c) (ao m c) h (nOf t) r d := by
  by_cases h0 : t.val % 18 = 0
  · refine (dq_A m c t h0 r h d).trans ?_
    rw [bl_eq, bk_eq, bv_eq, bs_eq, bo_eq, ast_eq]; rfl
  · refine (dq_B m c t h0 r h d).trans ?_
    rw [bl_eq, bk_eq, bv_eq, bs_eq, bo_eq, ast_eq]; rfl

theorem out_k (c : Dev nD) (t : Fin cfg0.N) (r : Fin 128) (h : Fin 8) (d : Fin 128) :
    (outsAt0 m c t.val t.isLt).2.1 (ix2 r (colK h d)) = gK (al m c) (aq m c) (au m c) (ao m c) h (nOf t) r d := by
  unfold gK
  rw [nOf_val]
  by_cases h0 : t.val % 18 = 0
  · refine (dk_A m c t h0 r h d).trans ?_
    rw [bl_eq, bq_eq, bv_eq, bo_eq, t0_eq m c t h0 h]
  · refine (dk_B m c t h0 r h d).trans ?_
    rw [bl_eq, bq_eq, bv_eq, bo_eq, bt_eq m c t h0 h]

theorem out_v (c : Dev nD) (t : Fin cfg0.N) (r : Fin 128) (h : Fin 8) (e : Fin 256) :
    (outsAt0 m c t.val t.isLt).2.2.1 (ix2 r (colV h e)) = gV (al m c) (aq m c) (ak m c) (ao m c) h (nOf t) r e := by
  unfold gV
  rw [nOf_val]
  by_cases h0 : t.val % 18 = 0
  · refine (dv_A m c t h0 r h e).trans ?_
    rw [bl_eq, bq_eq, bk_eq, bo_eq, t0_eq m c t h0 h]
  · refine (dv_B m c t h0 r h e).trans ?_
    rw [bl_eq, bq_eq, bk_eq, bo_eq, bt_eq m c t h0 h]

/-- What point `t` adds to the gradient of the log-decay of head `h`. -/
def dlAt (c : Dev nD) (h : Fin 8) (n : Fin 18) : EReal :=
  fDL (al m c h) (cK (aq m c) h n) (cK (ak m c) h n) (cU (au m c) h n) (sN (al m c) (ak m c) (au m c) h n.val) (cO (ao m c) h n)
    (tN (al m c) (aq m c) (ao m c) h (17 - n.val))

theorem out_lA (c : Dev nD) (t : Fin cfg0.N) (h0 : t.val % 18 = 0) (h r : Fin 8) (d : Fin 128) :
    (outsAt0 m c t.val t.isLt).2.2.2.1 (ix3 h r d) = 0 + dlAt m c h (nOf t) := by
  refine (dl_A m c t h0 r h d).trans ?_
  rw [bl_eq, bq_eq, bk_eq, bv_eq, bs_eq, bo_eq, ast_eq, t0_eq m c t h0 h, fDLk_eq, dlAt, nOf_val]

theorem out_lB (c : Dev nD) (t : Fin cfg0.N) (h0 : ¬ t.val % 18 = 0) (h r : Fin 8) (d : Fin 128) :
    (outsAt0 m c t.val t.isLt).2.2.2.1 (ix3 h r d)
      = (outsAt0 m c (t.val - 1) (Nat.lt_of_le_of_lt (Nat.sub_le _ _) t.isLt)).2.2.2.1 (ix3 h r d) + dlAt m c h (nOf t) := by
  refine (dl_B m c t h0 r h d).trans ?_
  rw [bl_eq, bq_eq, bk_eq, bv_eq, bs_eq, bo_eq, ast_eq, bt_eq m c t h0 h, fDLk_eq, dlAt, nOf_val]

/-- The gradients as arrays. -/
def nq (r : Fin 2304) : Fin 18 := ⟨(r.val / 128 + 2) % 18, by omega⟩
def iq (r : Fin 2304) : Fin 128 := ⟨r.val % 128, by omega⟩
def hk (x : Fin 1024) : Fin 8 := ⟨x.val / 128, by omega⟩
def dk (x : Fin 1024) : Fin 128 := ⟨x.val % 128, by omega⟩
def hv (x : Fin 2048) : Fin 8 := ⟨x.val / 256, by omega⟩
def ev (x : Fin 2048) : Fin 256 := ⟨x.val % 256, by omega⟩

theorem nq_row (n : Fin 18) (i : Fin 128) : nq (row n i) = n := Fin.ext (by simp only [nq, row]; omega)
theorem iq_row (n : Fin 18) (i : Fin 128) : iq (row n i) = i := Fin.ext (by simp only [iq, row]; omega)

theorem idx6 (t : Fin cfg0.N) (y0 : Fin 128) (y1 : Fin 1024) :
    ((View.whole main_v81_0).slice (win0_6.rect t)).emb (ix2 y0 y1) = (ix2 (row (nOf t) y0) y1 : S2304x1024.Idx) := by
  have ht := t_lt t
  blk_ext [idx t]
  all_goals (simp only [row, nOf]; try omega)

theorem idx7 (t : Fin cfg0.N) (y0 : Fin 128) (y1 : Fin 1024) :
    ((View.whole main_v81_1).slice (win0_7.rect t)).emb (ix2 y0 y1) = (ix2 (row (nOf t) y0) y1 : S2304x1024.Idx) := by
  have ht := t_lt t
  blk_ext [idx t]
  all_goals (simp only [row, nOf]; try omega)

theorem idx8 (t : Fin cfg0.N) (y0 : Fin 128) (y1 : Fin 2048) :
    ((View.whole main_v81_2).slice (win0_8.rect t)).emb (ix2 y0 y1) = (ix2 (row (nOf t) y0) y1 : S2304x2048.Idx) := by
  have ht := t_lt t
  blk_ext [idx t]
  all_goals (simp only [row, nOf]; try omega)

theorem idx9 (t : Fin cfg0.N) (y0 y1 : Fin 8) (y2 : Fin 128) :
    ((View.whole main_v81_3).slice (win0_9.rect t)).emb (ix3 y0 y1 y2) = (ix3 y0 y1 y2 : S8x8x128.Idx) := by
  blk_ext [idx t]

theorem final_q (c : Dev nD) : (dats m 0 c).arrAt 6 (cfgs 0).N
    = fun y : S2304x1024.Idx => gQ (al m c) (ak m c) (au m c) (ao m c) (hk (y 1)) (nq (y 0)) (iq (y 0)) (dk (y 1)) := by
  refine (dats m 0 c).arrAt_eq_of_covers 6 _ (by decide +kernel) fun t hf y => ?_
  blk_simp [idx t]
  rw [after0_6]
  idx_vars y
  rw [idx6]
  show _ = gQ (al m c) (ak m c) (au m c) (ao m c) (hk y1) (nq (row (nOf t) y0)) (iq (row (nOf t) y0)) (dk y1)
  rw [nq_row, iq_row]
  have e : y1 = colK (hk y1) (dk y1) := Fin.ext (by simp only [colK, hk, dk]; omega)
  exact (congrArg (fun z => (outsAt0 m c t.val t.isLt).1 (ix2 y0 z)) e).trans (out_q m c t y0 (hk y1) (dk y1))

theorem final_k (c : Dev nD) : (dats m 0 c).arrAt 7 (cfgs 0).N
    = fun y : S2304x1024.Idx => gK (al m c) (aq m c) (au m c) (ao m c) (hk (y 1)) (nq (y 0)) (iq (y 0)) (dk (y 1)) := by
  refine (dats m 0 c).arrAt_eq_of_covers 7 _ (by decide +kernel) fun t hf y => ?_
  blk_simp [idx t]
  rw [after0_7]
  idx_vars y
  rw [idx7]
  show _ = gK (al m c) (aq m c) (au m c) (ao m c) (hk y1) (nq (row (nOf t) y0)) (iq (row (nOf t) y0)) (dk y1)
  rw [nq_row, iq_row]
  have e : y1 = colK (hk y1) (dk y1) := Fin.ext (by simp only [colK, hk, dk]; omega)
  exact (congrArg (fun z => (outsAt0 m c t.val t.isLt).2.1 (ix2 y0 z)) e).trans (out_k m c t y0 (hk y1) (dk y1))

theorem final_v (c : Dev nD) : (dats m 0 c).arrAt 8 (cfgs 0).N
    = fun y : S2304x2048.Idx => gV (al m c) (aq m c) (ak m c) (ao m c) (hv (y 1)) (nq (y 0)) (iq (y 0)) (ev (y 1)) := by
  refine (dats m 0 c).arrAt_eq_of_covers 8 _ (by decide +kernel) fun t hf y => ?_
  blk_simp [idx t]
  rw [after0_8]
  idx_vars y
  rw [idx8]
  show _ = gV (al m c) (aq m c) (ak m c) (ao m c) (hv y1) (nq (row (nOf t) y0)) (iq (row (nOf t) y0)) (ev y1)
  rw [nq_row, iq_row]
  have e : y1 = colV (hv y1) (ev y1) := Fin.ext (by simp only [colV, hv, ev]; omega)
  exact (congrArg (fun z => (outsAt0 m c t.val t.isLt).2.2.1 (ix2 y0 z)) e).trans (out_v m c t y0 (hv y1) (ev y1))

theorem sum_points (f : Fin 18 → EReal) (t : Fin cfg0.N) (p : ∀ s : Fin 18, 18 * (t.val / 18) + s.val < cfg0.N) :
    ∑ s : Fin 18, f (nOf ⟨18 * (t.val / 18) + s.val, p s⟩) = ∑ n, f n := by
  have ht := t_lt t
  rw [← Equiv.sum_comp Fin.revPerm f]
  refine Finset.sum_congr rfl fun s _ => congrArg f ?_
  exact Fin.ext (by simp only [nOf, Fin.revPerm_apply, Fin.val_rev]; omega)

theorem final_l (c : Dev nD) : (dats m 0 c).arrAt 9 (cfgs 0).N
    = fun y : S8x8x128.Idx => gL (al m c) (aq m c) (ak m c) (au m c) (ao m c) (y 0) := by
  refine (dats m 0 c).arrAt_eq_of_covers 9 _ (by decide +kernel) fun t hf y => ?_
  have hf' := (flush0_9 t).mp hf
  blk_simp [idx t]
  rw [after0_9]
  idx_vars y
  rw [idx9]
  rw [Pipeline.eq_sum_fin_of_reset_step_apply_of_flush (fun n h => (outsAt0 m c n h).2.2.2.1) 18 (fun _ => 0) (fun t j => dlAt m c (j 0) (nOf t))
    (fun t h j => by
      idx_vars j
      exact out_lA m c t h j0 j1 j2)
    (fun t h j => by
      idx_vars j
      exact out_lB m c t h j0 j1 j2)
    t hf' _, zero_add]
  exact sum_points (fun n => dlAt m c y0 n) t _

end Cert.KernelIdeal.Results

end
-- ==== Proof.RefBase.lean ====
module

public import proofs.«01_k».proof.Proof.Gen.ReferenceIdeal.Read
public import Idealize.ShloMosaic.Lib.Pipeline.ValueKit
public import Idealize.ShloMosaic.Lib.Pointwise
public import proofs.«01_k».proof.Proof.Heads

@[expose] public section

set_option maxRecDepth 16384

noncomputable section

open Idealize.ShloMosaic
open scoped BigOperators

namespace Cert.ReferenceIdeal.Ref

open Cert.ReferenceIdeal Cert.ReferenceIdeal.Read Cert.Spec

variable (x0 x1 : (⟨S2304x1024, .bf16⟩ : BufTy).Contents (Elt Ideal)) (x2 : (⟨S2304x14336, .bf16⟩ : BufTy).Contents (Elt Ideal))
  (x3 : (⟨S8, .f32⟩ : BufTy).Contents (Elt Ideal)) (x4 : (⟨S2304x2048, .bf16⟩ : BufTy).Contents (Elt Ideal))

/-- Names the right side before the left is read. -/
theorem via {a b : EReal} (h : ∀ T, b = T → a = T) : a = b := h b rfl

/-- The arguments as the reference reads them. -/
def rl (h : Fin 8) : EReal := val_main_v0 (F := Ideal) x3 (ix1 h)
def rk (x : (⟨S2304x1024, .bf16⟩ : BufTy).Contents (Elt Ideal)) (r : Fin 2304) (z : Fin 1024) : EReal := x (ix2 r z)
def ru (r : Fin 2304) (z : Fin 14336) : EReal := x2 (ix2 r z)
def ro (r : Fin 2304) (z : Fin 2048) : EReal := x4 (ix2 r z)

theorem row_lo (n : Fin 18) (i : Fin 128) (h : n.val * 128 + i.val < 256) (h' : 2048 + (n.val * 128 + i.val) < 2304) :
    (⟨2048 + (n.val * 128 + i.val), h'⟩ : Fin 2304) = row n i := Fin.ext (by simp only [row]; omega)
theorem row_hi (n : Fin 18) (i : Fin 128) (h : ¬ n.val * 128 + i.val < 256) (h' : n.val * 128 + i.val - 256 < 2304) :
    (⟨n.val * 128 + i.val - 256, h'⟩ : Fin 2304) = row n i := Fin.ext (by simp only [row]; omega)
theorem kcol_mul (h : Fin 8) (d : Fin 128) (h' : h.val * 128 + d.val < 1024) : (⟨h.val * 128 + d.val, h'⟩ : Fin 1024) = kcol h d :=
  Fin.ext (by simp only [kcol]; omega)
theorem vcol_mul (h : Fin 8) (e : Fin 256) (h' : h.val * 256 + e.val < 2048) : (⟨h.val * 256 + e.val, h'⟩ : Fin 2048) = vcol h e :=
  Fin.ext (by simp only [vcol]; omega)
theorem ucol_mul (h : Fin 8) (e : Fin 256) (h' : 6144 + (h.val * 256 + e.val) < 14336) : (⟨6144 + (h.val * 256 + e.val), h'⟩ : Fin 14336) = ucol h e :=
  Fin.ext (by simp only [ucol]; omega)

theorem v56_at (h : Fin 8) (n : Fin 18) (i d : Fin 128) :
    @Eq EReal (val_main_v56 (F := Ideal) x0 (ix4 h n i d)) (cK (rk x0) h n i d) := by
  pointwise [val_main_v56, val_main_v9, val_main_v8, val_main_v7, val_main_v5, val_main_v6, val_main_v2]
  by_cases hn : n.val * 128 + i.val < 256
  · rw [dif_pos hn, row_lo n i hn, kcol_mul]; rfl
  · rw [dif_neg hn, row_hi n i hn, kcol_mul]; rfl

theorem v57_at (h : Fin 8) (n : Fin 18) (i d : Fin 128) :
    @Eq EReal (val_main_v57 (F := Ideal) x1 (ix4 h n i d)) (cK (rk x1) h n i d) := by
  pointwise [val_main_v57, val_main_v14, val_main_v13, val_main_v12, val_main_v10, val_main_v11, val_main_v3]
  by_cases hn : n.val * 128 + i.val < 256
  · rw [dif_pos hn, row_lo n i hn, kcol_mul]; rfl
  · rw [dif_neg hn, row_hi n i hn, kcol_mul]; rfl

theorem v58_at (h : Fin 8) (n : Fin 18) (i : Fin 128) (e : Fin 256) :
    @Eq EReal (val_main_v58 (F := Ideal) x2 (ix4 h n i e)) (cU (ru x2) h n i e) := by
  pointwise [val_main_v58, val_main_v19, val_main_v18, val_main_v17, val_main_v15, val_main_v16, val_main_v4, val_main_v1]
  by_cases hn : n.val * 128 + i.val < 256
  · rw [dif_pos hn, row_lo n i hn, ucol_mul]; rfl
  · rw [dif_neg hn, row_hi n i hn, ucol_mul]; rfl

/-- A row comes from one of the two padded slices. -/
theorem two_pads (f : Fin 2304 → Fin 2048 → EReal) (h : Fin 8) (n : Fin 18) (i : Fin 128) (e : Fin 256) :
    ((if hc : n.val * 128 + i.val < 256 ∧ h.val * 256 + e.val < 2048 then f ⟨2048 + (n.val * 128 + i.val), by omega⟩ ⟨h.val * 256 + e.val, hc.2⟩ else 0)
      + (if hc : (256 ≤ n.val * 128 + i.val ∧ n.val * 128 + i.val - 256 < 2048) ∧ h.val * 256 + e.val < 2048 then
          f ⟨n.val * 128 + i.val - 256, by omega⟩ ⟨h.val * 256 + e.val, hc.2⟩ else 0))
      = f (row n i) (vcol h e) := by
  have he : h.val * 256 + e.val < 2048 := by omega
  by_cases hn : n.val * 128 + i.val < 256
  · have c2 : ¬ ((256 ≤ n.val * 128 + i.val ∧ n.val * 128 + i.val - 256 < 2048) ∧ h.val * 256 + e.val < 2048) := by omega
    rw [dif_pos ⟨hn, he⟩, dif_neg c2, row_lo n i hn, vcol_mul, add_zero]
  · have c1 : ¬ (n.val * 128 + i.val < 256 ∧ h.val * 256 + e.val < 2048) := by omega
    have c2 : (256 ≤ n.val * 128 + i.val ∧ n.val * 128 + i.val - 256 < 2048) ∧ h.val * 256 + e.val < 2048 := by omega
    rw [dif_neg c1, dif_pos c2, row_hi n i hn, vcol_mul, zero_add]

theorem v148_at (h : Fin 8) (n : Fin 18) (i : Fin 128) (e : Fin 256) :
    @Eq EReal (val_main_v148 (F := Ideal) x4 (ix4 h n i e)) (cO (ro x4) h n i e) := by
  pointwise [val_main_v148, val_main_v147, val_main_v146, val_main_v145, val_main_v143, val_main_v144, val_main_v142, val_main_cst_7, val_main_v141, val_main_cst_8, val_main_v140]
  exact two_pads (fun r z => x4 (ix2 r z)) h n i e

theorem diff_real (i j : Fin 128) : ((FloatOps.sitofp (F := Ideal) FTy.f32 (BitVec.ofNat 32 i.val) : EReal) - FloatOps.sitofp (F := Ideal) FTy.f32 (BitVec.ofNat 32 j.val))
    = (((i.val : ℝ) - (j.val : ℝ) : ℝ) : EReal) := by
  rw [sitofp_row, sitofp_row]; rfl

theorem dist_real (i j : Fin 128) : max ((FloatOps.sitofp (F := Ideal) FTy.f32 (BitVec.ofNat 32 i.val) : EReal) - FloatOps.sitofp (F := Ideal) FTy.f32 (BitVec.ofNat 32 j.val)) 0
    = dist i j := by
  rw [diff_real]
  show max _ ((0 : ℝ) : EReal) = _
  rw [coe_max, Spec.dist]
  congr 1
  rcases le_total j.val i.val with h | h
  · rw [max_eq_left (by have : (j.val : ℝ) ≤ i.val := by exact_mod_cast h
                        linarith)]
    push_cast [Nat.cast_sub h]; ring
  · rw [max_eq_right (by have : (i.val : ℝ) ≤ j.val := by exact_mod_cast h
                         linarith), Nat.sub_eq_zero_of_le h]
    simp

theorem v29_at (i j : Fin 128) : @Eq EReal (val_main_v29 (F := Ideal) (ix2 i j)) (dist i j) := by
  pointwise [val_main_v29, val_main_v25, val_main_v28, val_main_v23, val_main_v24, val_main_cst_0, val_main_v21, val_main_v22, val_main_v20]
  exact dist_real i j

theorem v35_at (h : Fin 8) (i j : Fin 128) :
    @Eq EReal (val_main_v35 (F := Ideal) x3 (ix3 h i j)) (Ideal.exp (dist i j * rl x3 h)) := by
  pointwise [val_main_v35, val_main_v34, val_main_v32, val_main_v33, val_main_v31, val_main_v30, val_main_v29, val_main_v25, val_main_v28, val_main_v23, val_main_v24, val_main_cst_0, val_main_v21, val_main_v22, val_main_v20]
  rw [dist_real]; rfl

theorem mask_at (h : Fin 8) (i j : Fin 128) : val_main_v36_1 (F := Ideal) (ix3 h i j) = BitVec.ofBool (decide (j ≤ i)) := by
  pointwise [val_main_v36_1, val_main_v27, val_main_v25, val_main_v26, val_main_v23, val_main_v24, val_main_cst, val_main_v21, val_main_v22, val_main_v20]
  rw [diff_real]
  congr 2
  apply propext
  constructor
  · intro h0
    have h1 : (0 : ℝ) ≤ (i.val : ℝ) - (j.val : ℝ) := EReal.coe_nonneg.mp h0
    have h2 : (j.val : ℝ) ≤ (i.val : ℝ) := by linarith
    exact Fin.le_def.mpr (by exact_mod_cast h2)
  · intro h0
    have h2 : (j.val : ℝ) ≤ (i.val : ℝ) := by exact_mod_cast Fin.le_def.mp h0
    exact EReal.coe_nonneg.mpr (by linarith)

theorem v36_at (h : Fin 8) (i j : Fin 128) :
    @Eq EReal (val_main_v36_0 (F := Ideal) x3 (ix3 h i j)) (mM (rl x3 h) i j) := by
  rw [val_main_v36_0_apply, mask_at, v35_at, val_main_call1_v2_apply]
  unfold mM
  by_cases hj : j ≤ i
  · rw [if_pos hj, decide_eq_true hj]; rfl
  · rw [if_neg hj, decide_eq_false hj]
    show (Ideal.ofBits .f32 0#32 : EReal) = 0
    exact Ideal.ofBits_zero_f32

theorem v38_at (i : Fin 128) : @Eq EReal (val_main_v38 (F := Ideal) (ix1 i)) (posQ i) := by
  pointwise [val_main_v38, val_main_v20, val_main_v37, val_main_cst_2]
  rw [sitofp_row]; rfl

theorem v46_at (i : Fin 128) : @Eq EReal (val_main_v46 (F := Ideal) (ix1 i)) (posK i) := by
  pointwise [val_main_v46, val_main_v45, val_main_v20, val_main_cst_3]
  rw [sitofp_row]; rfl

theorem v44_at (h : Fin 8) (i : Fin 128) : @Eq EReal (val_main_v44 (F := Ideal) x3 (ix2 h i)) (mQ (rl x3 h) i) := by
  pointwise [val_main_v44, val_main_v43, val_main_v41, val_main_v42, val_main_v39, val_main_v40]
  rw [v38_at]; rfl

theorem v52_at (h : Fin 8) (i : Fin 128) : @Eq EReal (val_main_v52 (F := Ideal) x3 (ix2 h i)) (mK (rl x3 h) i) := by
  pointwise [val_main_v52, val_main_v51, val_main_v49, val_main_v50, val_main_v47, val_main_v48]
  rw [v46_at]; rfl

theorem v55_at (h : Fin 8) : @Eq EReal (val_main_v55 (F := Ideal) x3 (ix1 h)) (mG (rl x3 h)) := by
  pointwise [val_main_v55, val_main_v54, val_main_v53, val_main_cst_4]
  rfl

theorem v69_at (h : Fin 8) (z : Fin 1) (d : Fin 128) (e : Fin 256) : @Eq EReal (val_main_v69 (F := Ideal) x3 (ix4 h z d e)) (mG (rl x3 h)) := by
  pointwise [val_main_v69, val_main_v68]
  exact v55_at x3 h
end Cert.ReferenceIdeal.Ref

end
-- ==== Proof.RefS.lean ====
module

public import proofs.«01_k».proof.Proof.Gen.ReferenceIdeal.Read
public import Idealize.ShloMosaic.Lib.Pipeline.ValueKit
public import Idealize.ShloMosaic.Lib.Pointwise
public import proofs.«01_k».proof.Proof.RefBase

@[expose] public section

set_option maxRecDepth 16384

noncomputable section

open Idealize.ShloMosaic
open scoped BigOperators

namespace Cert.ReferenceIdeal.Ref

open Cert.ReferenceIdeal Cert.ReferenceIdeal.Read Cert.Spec

variable (x0 x1 : (⟨S2304x1024, .bf16⟩ : BufTy).Contents (Elt Ideal)) (x2 : (⟨S2304x14336, .bf16⟩ : BufTy).Contents (Elt Ideal))
  (x3 : (⟨S8, .f32⟩ : BufTy).Contents (Elt Ideal)) (x4 : (⟨S2304x2048, .bf16⟩ : BufTy).Contents (Elt Ideal))

/-- What each chunk adds to the state. -/
theorem v67_at (h : Fin 8) (n : Fin 18) (d : Fin 128) (e : Fin 256) :
    @Eq EReal (val_main_v67 (F := Ideal) x1 x2 x3 (ix4 h n d e)) (fKV (rl x3 h) (cK (rk x1) h n) (cU (ru x2) h n) d e) := by
  pointwise [val_main_v67, val_main_v66, val_main_v65, val_main_v64]
  simp only [v57_at, v58_at, v52_at]
  rfl

theorem v70_at (h : Fin 8) (z : Fin 1) (d : Fin 128) (e : Fin 256) :
    @Eq EReal (val_main_v70 (F := Ideal) (ix4 h z d e)) (sN (rl x3) (rk x1) (ru x2) h 0 d e) := by
  pointwise [val_main_v70, val_main_cst_5]
  rfl

/-! The states, chunk by chunk. -/
theorem v90_at (h : Fin 8) (z : Fin 1) (d : Fin 128) (e : Fin 256) :
    @Eq EReal (val_main_v90 (F := Ideal) x1 x2 x3 (ix4 h z d e)) (sN (rl x3) (rk x1) (ru x2) h 1 d e) := by
  pointwise [val_main_v90, val_main_v89, val_main_v71]
  rw [v69_at, v67_at, v70_at x1 x2 x3]
  rfl
theorem v92_at (h : Fin 8) (z : Fin 1) (d : Fin 128) (e : Fin 256) :
    @Eq EReal (val_main_v92 (F := Ideal) x1 x2 x3 (ix4 h z d e)) (sN (rl x3) (rk x1) (ru x2) h 2 d e) := by
  pointwise [val_main_v92, val_main_v91, val_main_v72]
  rw [v69_at, v67_at, v90_at x1 x2 x3]
  rfl
theorem v94_at (h : Fin 8) (z : Fin 1) (d : Fin 128) (e : Fin 256) :
    @Eq EReal (val_main_v94 (F := Ideal) x1 x2 x3 (ix4 h z d e)) (sN (rl x3) (rk x1) (ru x2) h 3 d e) := by
  pointwise [val_main_v94, val_main_v93, val_main_v73]
  rw [v69_at, v67_at, v92_at x1 x2 x3]
  rfl
theorem v96_at (h : Fin 8) (z : Fin 1) (d : Fin 128) (e : Fin 256) :
    @Eq EReal (val_main_v96 (F := Ideal) x1 x2 x3 (ix4 h z d e)) (sN (rl x3) (rk x1) (ru x2) h 4 d e) := by
  pointwise [val_main_v96, val_main_v95, val_main_v74]
  rw [v69_at, v67_at, v94_at x1 x2 x3]
  rfl
theorem v98_at (h : Fin 8) (z : Fin 1) (d : Fin 128) (e : Fin 256) :
    @Eq EReal (val_main_v98 (F := Ideal) x1 x2 x3 (ix4 h z d e)) (sN (rl x3) (rk x1) (ru x2) h 5 d e) := by
  pointwise [val_main_v98, val_main_v97, val_main_v75]
  rw [v69_at, v67_at, v96_at x1 x2 x3]
  rfl
theorem v100_at (h : Fin 8) (z : Fin 1) (d : Fin 128) (e : Fin 256) :
    @Eq EReal (val_main_v100 (F := Ideal) x1 x2 x3 (ix4 h z d e)) (sN (rl x3) (rk x1) (ru x2) h 6 d e) := by
  pointwise [val_main_v100, val_main_v99, val_main_v76]
  rw [v69_at, v67_at, v98_at x1 x2 x3]
  rfl
theorem v102_at (h : Fin 8) (z : Fin 1) (d : Fin 128) (e : Fin 256) :
    @Eq EReal (val_main_v102 (F := Ideal) x1 x2 x3 (ix4 h z d e)) (sN (rl x3) (rk x1) (ru x2) h 7 d e) := by
  pointwise [val_main_v102, val_main_v101, val_main_v77]
  rw [v69_at, v67_at, v100_at x1 x2 x3]
  rfl
theorem v104_at (h : Fin 8) (z : Fin 1) (d : Fin 128) (e : Fin 256) :
    @Eq EReal (val_main_v104 (F := Ideal) x1 x2 x3 (ix4 h z d e)) (sN (rl x3) (rk x1) (ru x2) h 8 d e) := by
  pointwise [val_main_v104, val_main_v103, val_main_v78]
  rw [v69_at, v67_at, v102_at x1 x2 x3]
  rfl
theorem v106_at (h : Fin 8) (z : Fin 1) (d : Fin 128) (e : Fin 256) :
    @Eq EReal (val_main_v106 (F := Ideal) x1 x2 x3 (ix4 h z d e)) (sN (rl x3) (rk x1) (ru x2) h 9 d e) := by
  pointwise [val_main_v106, val_main_v105, val_main_v79]
  rw [v69_at, v67_at, v104_at x1 x2 x3]
  rfl
theorem v108_at (h : Fin 8) (z : Fin 1) (d : Fin 128) (e : Fin 256) :
    @Eq EReal (val_main_v108 (F := Ideal) x1 x2 x3 (ix4 h z d e)) (sN (rl x3) (rk x1) (ru x2) h 10 d e) := by
  pointwise [val_main_v108, val_main_v107, val_main_v80]
  rw [v69_at, v67_at, v106_at x1 x2 x3]
  rfl
theorem v110_at (h : Fin 8) (z : Fin 1) (d : Fin 128) (e : Fin 256) :
    @Eq EReal (val_main_v110 (F := Ideal) x1 x2 x3 (ix4 h z d e)) (sN (rl x3) (rk x1) (ru x2) h 11 d e) := by
  pointwise [val_main_v110, val_main_v109, val_main_v81]
  rw [v69_at, v67_at, v108_at x1 x2 x3]
  rfl
theorem v112_at (h : Fin 8) (z : Fin 1) (d : Fin 128) (e : Fin 256) :
    @Eq EReal (val_main_v112 (F := Ideal) x1 x2 x3 (ix4 h z d e)) (sN (rl x3) (rk x1) (ru x2) h 12 d e) := by
  pointwise [val_main_v112, val_main_v111, val_main_v82]
  rw [v69_at, v67_at, v110_at x1 x2 x3]
  rfl
theorem v114_at (h : Fin 8) (z : Fin 1) (d : Fin 128) (e : Fin 256) :
    @Eq EReal (val_main_v114 (F := Ideal) x1 x2 x3 (ix4 h z d e)) (sN (rl x3) (rk x1) (ru x2) h 13 d e) := by
  pointwise [val_main_v114, val_main_v113, val_main_v83]
  rw [v69_at, v67_at, v112_at x1 x2 x3]
  rfl
theorem v116_at (h : Fin 8) (z : Fin 1) (d : Fin 128) (e : Fin 256) :
    @Eq EReal (val_main_v116 (F := Ideal) x1 x2 x3 (ix4 h z d e)) (sN (rl x3) (rk x1) (ru x2) h 14 d e) := by
  pointwise [val_main_v116, val_main_v115, val_main_v84]
  rw [v69_at, v67_at, v114_at x1 x2 x3]
  rfl
theorem v118_at (h : Fin 8) (z : Fin 1) (d : Fin 128) (e : Fin 256) :
    @Eq EReal (val_main_v118 (F := Ideal) x1 x2 x3 (ix4 h z d e)) (sN (rl x3) (rk x1) (ru x2) h 15 d e) := by
  pointwise [val_main_v118, val_main_v117, val_main_v85]
  rw [v69_at, v67_at, v116_at x1 x2 x3]
  rfl
theorem v120_at (h : Fin 8) (z : Fin 1) (d : Fin 128) (e : Fin 256) :
    @Eq EReal (val_main_v120 (F := Ideal) x1 x2 x3 (ix4 h z d e)) (sN (rl x3) (rk x1) (ru x2) h 16 d e) := by
  pointwise [val_main_v120, val_main_v119, val_main_v86]
  rw [v69_at, v67_at, v118_at x1 x2 x3]
  rfl
theorem v122_at (h : Fin 8) (z : Fin 1) (d : Fin 128) (e : Fin 256) :
    @Eq EReal (val_main_v122 (F := Ideal) x1 x2 x3 (ix4 h z d e)) (sN (rl x3) (rk x1) (ru x2) h 17 d e) := by
  pointwise [val_main_v122, val_main_v121, val_main_v87]
  rw [v69_at, v67_at, v120_at x1 x2 x3]
  rfl

/-- The states, stacked. -/
theorem v127_at (h : Fin 8) (n : Fin 18) (d : Fin 128) (e : Fin 256) :
    @Eq EReal (val_main_v127 (F := Ideal) x1 x2 x3 (ix4 h n d e)) (sN (rl x3) (rk x1) (ru x2) h n.val d e) := by
  match n with
  | ⟨0, _⟩ =>
    refine Eq.trans ?_ (v70_at x1 x2 x3 h 0 d e)
    show @Eq EReal (val_main_v127 (F := Ideal) x1 x2 x3 (ix4 h (0 : Fin 18) d e)) _
    pointwise [val_main_v127, val_main_v126, val_main_v125]
  | ⟨1, _⟩ =>
    refine Eq.trans ?_ (v90_at x1 x2 x3 h 0 d e)
    show @Eq EReal (val_main_v127 (F := Ideal) x1 x2 x3 (ix4 h (1 : Fin 18) d e)) _
    pointwise [val_main_v127, val_main_v126, val_main_v125]
  | ⟨2, _⟩ =>
    refine Eq.trans ?_ (v92_at x1 x2 x3 h 0 d e)
    show @Eq EReal (val_main_v127 (F := Ideal) x1 x2 x3 (ix4 h (2 : Fin 18) d e)) _
    pointwise [val_main_v127, val_main_v126, val_main_v125]
  | ⟨3, _⟩ =>
    refine Eq.trans ?_ (v94_at x1 x2 x3 h 0 d e)
    show @Eq EReal (val_main_v127 (F := Ideal) x1 x2 x3 (ix4 h (3 : Fin 18) d e)) _
    pointwise [val_main_v127, val_main_v126, val_main_v125]
  | ⟨4, _⟩ =>
    refine Eq.trans ?_ (v96_at x1 x2 x3 h 0 d e)
    show @Eq EReal (val_main_v127 (F := Ideal) x1 x2 x3 (ix4 h (4 : Fin 18) d e)) _
    pointwise [val_main_v127, val_main_v126, val_main_v125]
  | ⟨5, _⟩ =>
    refine Eq.trans ?_ (v98_at x1 x2 x3 h 0 d e)
    show @Eq EReal (val_main_v127 (F := Ideal) x1 x2 x3 (ix4 h (5 : Fin 18) d e)) _
    pointwise [val_main_v127, val_main_v126, val_main_v125]
  | ⟨6, _⟩ =>
    refine Eq.trans ?_ (v100_at x1 x2 x3 h 0 d e)
    show @Eq EReal (val_main_v127 (F := Ideal) x1 x2 x3 (ix4 h (6 : Fin 18) d e)) _
    pointwise [val_main_v127, val_main_v126, val_main_v125]
  | ⟨7, _⟩ =>
    refine Eq.trans ?_ (v102_at x1 x2 x3 h 0 d e)
    show @Eq EReal (val_main_v127 (F := Ideal) x1 x2 x3 (ix4 h (7 : Fin 18) d e)) _
    pointwise [val_main_v127, val_main_v126, val_main_v125]
  | ⟨8, _⟩ =>
    refine Eq.trans ?_ (v104_at x1 x2 x3 h 0 d e)
    show @Eq EReal (val_main_v127 (F := Ideal) x1 x2 x3 (ix4 h (8 : Fin 18) d e)) _
    pointwise [val_main_v127, val_main_v126, val_main_v125]
  | ⟨9, _⟩ =>
    refine Eq.trans ?_ (v106_at x1 x2 x3 h 0 d e)
    show @Eq EReal (val_main_v127 (F := Ideal) x1 x2 x3 (ix4 h (9 : Fin 18) d e)) _
    pointwise [val_main_v127, val_main_v126, val_main_v125]
  | ⟨10, _⟩ =>
    refine Eq.trans ?_ (v108_at x1 x2 x3 h 0 d e)
    show @Eq EReal (val_main_v127 (F := Ideal) x1 x2 x3 (ix4 h (10 : Fin 18) d e)) _
    pointwise [val_main_v127, val_main_v126, val_main_v125]
  | ⟨11, _⟩ =>
    refine Eq.trans ?_ (v110_at x1 x2 x3 h 0 d e)
    show @Eq EReal (val_main_v127 (F := Ideal) x1 x2 x3 (ix4 h (11 : Fin 18) d e)) _
    pointwise [val_main_v127, val_main_v126, val_main_v125]
  | ⟨12, _⟩ =>
    refine Eq.trans ?_ (v112_at x1 x2 x3 h 0 d e)
    show @Eq EReal (val_main_v127 (F := Ideal) x1 x2 x3 (ix4 h (12 : Fin 18) d e)) _
    pointwise [val_main_v127, val_main_v126, val_main_v125]
  | ⟨13, _⟩ =>
    refine Eq.trans ?_ (v114_at x1 x2 x3 h 0 d e)
    show @Eq EReal (val_main_v127 (F := Ideal) x1 x2 x3 (ix4 h (13 : Fin 18) d e)) _
    pointwise [val_main_v127, val_main_v126, val_main_v125]
  | ⟨14, _⟩ =>
    refine Eq.trans ?_ (v116_at x1 x2 x3 h 0 d e)
    show @Eq EReal (val_main_v127 (F := Ideal) x1 x2 x3 (ix4 h (14 : Fin 18) d e)) _
    pointwise [val_main_v127, val_main_v126, val_main_v125]
  | ⟨15, _⟩ =>
    refine Eq.trans ?_ (v118_at x1 x2 x3 h 0 d e)
    show @Eq EReal (val_main_v127 (F := Ideal) x1 x2 x3 (ix4 h (15 : Fin 18) d e)) _
    pointwise [val_main_v127, val_main_v126, val_main_v125]
  | ⟨16, _⟩ =>
    refine Eq.trans ?_ (v120_at x1 x2 x3 h 0 d e)
    show @Eq EReal (val_main_v127 (F := Ideal) x1 x2 x3 (ix4 h (16 : Fin 18) d e)) _
    pointwise [val_main_v127, val_main_v126, val_main_v125]
  | ⟨17, _⟩ =>
    refine Eq.trans ?_ (v122_at x1 x2 x3 h 0 d e)
    show @Eq EReal (val_main_v127 (F := Ideal) x1 x2 x3 (ix4 h (17 : Fin 18) d e)) _
    pointwise [val_main_v127, val_main_v126, val_main_v125]
  | ⟨n + 18, hn⟩ => exact absurd hn (by omega)

end Cert.ReferenceIdeal.Ref

end
-- ==== Proof.RefT.lean ====
module

public import proofs.«01_k».proof.Proof.Gen.ReferenceIdeal.Read
public import Idealize.ShloMosaic.Lib.Pipeline.ValueKit
public import Idealize.ShloMosaic.Lib.Pointwise
public import proofs.«01_k».proof.Proof.RefBase

@[expose] public section

set_option maxRecDepth 16384

noncomputable section

open Idealize.ShloMosaic
open scoped BigOperators

namespace Cert.ReferenceIdeal.Ref

open Cert.ReferenceIdeal Cert.ReferenceIdeal.Read Cert.Spec

variable (x0 x1 : (⟨S2304x1024, .bf16⟩ : BufTy).Contents (Elt Ideal)) (x2 : (⟨S2304x14336, .bf16⟩ : BufTy).Contents (Elt Ideal))
  (x3 : (⟨S8, .f32⟩ : BufTy).Contents (Elt Ideal)) (x4 : (⟨S2304x2048, .bf16⟩ : BufTy).Contents (Elt Ideal))

/-- What each chunk adds to the cotangent of the state before it. -/
theorem v150_at (h : Fin 8) (n : Fin 18) (d : Fin 128) (e : Fin 256) :
    @Eq EReal (val_main_v150 (F := Ideal) x0 x3 x4 (ix4 h n d e)) (fGS (rl x3 h) (cK (rk x0) h n) (cO (ro x4) h n) d e) := by
  refine via fun T hT => ?_
  pointwise [val_main_v150, val_main_v149, val_main_v131, val_main_v130, val_main_v129]
  subst hT
  simp only [v56_at, v148_at, v44_at]
  exact Finset.sum_congr rfl fun i _ => mul_comm _ _

theorem tN_succ (l : Fin 8 → EReal) (q : Fin 2304 → Fin 1024 → EReal) (o : Fin 2304 → Fin 2048 → EReal) (h : Fin 8) (t : ℕ) (c : Fin 18)
    (hc : Fin.ofNat 18 (17 - t) = c) (d : Fin 128) (e : Fin 256) :
    fGS (l h) (cK q h c) (cO o h c) d e + tN l q o h t d e * mG (l h) = tN l q o h (t + 1) d e := by
  subst hc
  exact add_comm _ _

theorem v241_at (h : Fin 8) (z : Fin 1) (d : Fin 128) (e : Fin 256) :
    @Eq EReal (val_main_v241 (F := Ideal) (ix4 h z d e)) (tN (rl x3) (rk x0) (ro x4) h 0 d e) := by
  pointwise [val_main_v241, val_main_cst_11]
  rfl

/-! The cotangents of the states, from the last chunk down. -/
theorem v175_at (h : Fin 8) (z : Fin 1) (d : Fin 128) (e : Fin 256) :
    @Eq EReal (val_main_v175 (F := Ideal) x0 x3 x4 (ix4 h z d e)) (tN (rl x3) (rk x0) (ro x4) h 1 d e) := by
  have hs : @Eq EReal (val_main_v175 (F := Ideal) x0 x3 x4 (ix4 h z d e)) (val_main_v150 (F := Ideal) x0 x3 x4 (ix4 h 17 d e)) := by
    unfold val_main_v175
    generalize val_main_v150 (F := Ideal) x0 x3 x4 = A
    pointwise
  rw [hs, v150_at, ← tN_succ _ _ _ h 0 17 (by decide) d e]
  exact ((add_zero _).symm.trans (congrArg _ (zero_mul _).symm))
theorem v178_at (h : Fin 8) (z : Fin 1) (d : Fin 128) (e : Fin 256) :
    @Eq EReal (val_main_v178 (F := Ideal) x0 x3 x4 (ix4 h z d e)) (tN (rl x3) (rk x0) (ro x4) h 2 d e) := by
  have hs : @Eq EReal (val_main_v178 (F := Ideal) x0 x3 x4 (ix4 h z d e))
      (val_main_v150 (F := Ideal) x0 x3 x4 (ix4 h 16 d e) + val_main_v175 (F := Ideal) x0 x3 x4 (ix4 h z d e) * val_main_v69 (F := Ideal) x3 (ix4 h z d e)) := by
    rw [val_main_v178_apply, val_main_v174_apply, val_main_v177_apply]
    have e : idx_main_v174 (ix4 h z d e) = ix4 h 16 d e := funext fun a => match a with
      | ⟨0, _⟩ => rfl
      | ⟨1, _⟩ => Fin.ext (by show 16 + z.val = 16; omega)
      | ⟨2, _⟩ => rfl
      | ⟨3, _⟩ => rfl
    rw [e]
    rfl
  rw [hs, v69_at, v150_at, v175_at x0 x3 x4]
  exact tN_succ _ _ _ h 1 16 (by decide) d e
theorem v182_at (h : Fin 8) (z : Fin 1) (d : Fin 128) (e : Fin 256) :
    @Eq EReal (val_main_v182 (F := Ideal) x0 x3 x4 (ix4 h z d e)) (tN (rl x3) (rk x0) (ro x4) h 3 d e) := by
  have hs : @Eq EReal (val_main_v182 (F := Ideal) x0 x3 x4 (ix4 h z d e))
      (val_main_v150 (F := Ideal) x0 x3 x4 (ix4 h 15 d e) + val_main_v178 (F := Ideal) x0 x3 x4 (ix4 h z d e) * val_main_v69 (F := Ideal) x3 (ix4 h z d e)) := by
    rw [val_main_v182_apply, val_main_v173_apply, val_main_v181_apply]
    have e : idx_main_v173 (ix4 h z d e) = ix4 h 15 d e := funext fun a => match a with
      | ⟨0, _⟩ => rfl
      | ⟨1, _⟩ => Fin.ext (by show 15 + z.val = 15; omega)
      | ⟨2, _⟩ => rfl
      | ⟨3, _⟩ => rfl
    rw [e]
    rfl
  rw [hs, v69_at, v150_at, v178_at x0 x3 x4]
  exact tN_succ _ _ _ h 2 15 (by decide) d e
theorem v186_at (h : Fin 8) (z : Fin 1) (d : Fin 128) (e : Fin 256) :
    @Eq EReal (val_main_v186 (F := Ideal) x0 x3 x4 (ix4 h z d e)) (tN (rl x3) (rk x0) (ro x4) h 4 d e) := by
  have hs : @Eq EReal (val_main_v186 (F := Ideal) x0 x3 x4 (ix4 h z d e))
      (val_main_v150 (F := Ideal) x0 x3 x4 (ix4 h 14 d e) + val_main_v182 (F := Ideal) x0 x3 x4 (ix4 h z d e) * val_main_v69 (F := Ideal) x3 (ix4 h z d e)) := by
    rw [val_main_v186_apply, val_main_v172_apply, val_main_v185_apply]
    have e : idx_main_v172 (ix4 h z d e) = ix4 h 14 d e := funext fun a => match a with
      | ⟨0, _⟩ => rfl
      | ⟨1, _⟩ => Fin.ext (by show 14 + z.val = 14; omega)
      | ⟨2, _⟩ => rfl
      | ⟨3, _⟩ => rfl
    rw [e]
    rfl
  rw [hs, v69_at, v150_at, v182_at x0 x3 x4]
  exact tN_succ _ _ _ h 3 14 (by decide) d e
theorem v190_at (h : Fin 8) (z : Fin 1) (d : Fin 128) (e : Fin 256) :
    @Eq EReal (val_main_v190 (F := Ideal) x0 x3 x4 (ix4 h z d e)) (tN (rl x3) (rk x0) (ro x4) h 5 d e) := by
  have hs : @Eq EReal (val_main_v190 (F := Ideal) x0 x3 x4 (ix4 h z d e))
      (val_main_v150 (F := Ideal) x0 x3 x4 (ix4 h 13 d e) + val_main_v186 (F := Ideal) x0 x3 x4 (ix4 h z d e) * val_main_v69 (F := Ideal) x3 (ix4 h z d e)) := by
    rw [val_main_v190_apply, val_main_v171_apply, val_main_v189_apply]
    have e : idx_main_v171 (ix4 h z d e) = ix4 h 13 d e := funext fun a => match a with
      | ⟨0, _⟩ => rfl
      | ⟨1, _⟩ => Fin.ext (by show 13 + z.val = 13; omega)
      | ⟨2, _⟩ => rfl
      | ⟨3, _⟩ => rfl
    rw [e]
    rfl
  rw [hs, v69_at, v150_at, v186_at x0 x3 x4]
  exact tN_succ _ _ _ h 4 13 (by decide) d e
theorem v194_at (h : Fin 8) (z : Fin 1) (d : Fin 128) (e : Fin 256) :
    @Eq EReal (val_main_v194 (F := Ideal) x0 x3 x4 (ix4 h z d e)) (tN (rl x3) (rk x0) (ro x4) h 6 d e) := by
  have hs : @Eq EReal (val_main_v194 (F := Ideal) x0 x3 x4 (ix4 h z d e))
      (val_main_v150 (F := Ideal) x0 x3 x4 (ix4 h 12 d e) + val_main_v190 (F := Ideal) x0 x3 x4 (ix4 h z d e) * val_main_v69 (F := Ideal) x3 (ix4 h z d e)) := by
    rw [val_main_v194_apply, val_main_v170_apply, val_main_v193_apply]
    have e : idx_main_v170 (ix4 h z d e) = ix4 h 12 d e := funext fun a => match a with
      | ⟨0, _⟩ => rfl
      | ⟨1, _⟩ => Fin.ext (by show 12 + z.val = 12; omega)
      | ⟨2, _⟩ => rfl
      | ⟨3, _⟩ => rfl
    rw [e]
    rfl
  rw [hs, v69_at, v150_at, v190_at x0 x3 x4]
  exact tN_succ _ _ _ h 5 12 (by decide) d e
theorem v198_at (h : Fin 8) (z : Fin 1) (d : Fin 128) (e : Fin 256) :
    @Eq EReal (val_main_v198 (F := Ideal) x0 x3 x4 (ix4 h z d e)) (tN (rl x3) (rk x0) (ro x4) h 7 d e) := by
  have hs : @Eq EReal (val_main_v198 (F := Ideal) x0 x3 x4 (ix4 h z d e))
      (val_main_v150 (F := Ideal) x0 x3 x4 (ix4 h 11 d e) + val_main_v194 (F := Ideal) x0 x3 x4 (ix4 h z d e) * val_main_v69 (F := Ideal) x3 (ix4 h z d e)) := by
    rw [val_main_v198_apply, val_main_v169_apply, val_main_v197_apply]
    have e : idx_main_v169 (ix4 h z d e) = ix4 h 11 d e := funext fun a => match a with
      | ⟨0, _⟩ => rfl
      | ⟨1, _⟩ => Fin.ext (by show 11 + z.val = 11; omega)
      | ⟨2, _⟩ => rfl
      | ⟨3, _⟩ => rfl
    rw [e]
    rfl
  rw [hs, v69_at, v150_at, v194_at x0 x3 x4]
  exact tN_succ _ _ _ h 6 11 (by decide) d e
theorem v202_at (h : Fin 8) (z : Fin 1) (d : Fin 128) (e : Fin 256) :
    @Eq EReal (val_main_v202 (F := Ideal) x0 x3 x4 (ix4 h z d e)) (tN (rl x3) (rk x0) (ro x4) h 8 d e) := by
  have hs : @Eq EReal (val_main_v202 (F := Ideal) x0 x3 x4 (ix4 h z d e))
      (val_main_v150 (F := Ideal) x0 x3 x4 (ix4 h 10 d e) + val_main_v198 (F := Ideal) x0 x3 x4 (ix4 h z d e) * val_main_v69 (F := Ideal) x3 (ix4 h z d e)) := by
    rw [val_main_v202_apply, val_main_v168_apply, val_main_v201_apply]
    have e : idx_main_v168 (ix4 h z d e) = ix4 h 10 d e := funext fun a => match a with
      | ⟨0, _⟩ => rfl
      | ⟨1, _⟩ => Fin.ext (by show 10 + z.val = 10; omega)
      | ⟨2, _⟩ => rfl
      | ⟨3, _⟩ => rfl
    rw [e]
    rfl
  rw [hs, v69_at, v150_at, v198_at x0 x3 x4]
  exact tN_succ _ _ _ h 7 10 (by decide) d e
theorem v206_at (h : Fin 8) (z : Fin 1) (d : Fin 128) (e : Fin 256) :
    @Eq EReal (val_main_v206 (F := Ideal) x0 x3 x4 (ix4 h z d e)) (tN (rl x3) (rk x0) (ro x4) h 9 d e) := by
  have hs : @Eq EReal (val_main_v206 (F := Ideal) x0 x3 x4 (ix4 h z d e))
      (val_main_v150 (F := Ideal) x0 x3 x4 (ix4 h 9 d e) + val_main_v202 (F := Ideal) x0 x3 x4 (ix4 h z d e) * val_main_v69 (F := Ideal) x3 (ix4 h z d e)) := by
    rw [val_main_v206_apply, val_main_v167_apply, val_main_v205_apply]
    have e : idx_main_v167 (ix4 h z d e) = ix4 h 9 d e := funext fun a => match a with
      | ⟨0, _⟩ => rfl
      | ⟨1, _⟩ => Fin.ext (by show 9 + z.val = 9; omega)
      | ⟨2, _⟩ => rfl
      | ⟨3, _⟩ => rfl
    rw [e]
    rfl
  rw [hs, v69_at, v150_at, v202_at x0 x3 x4]
  exact tN_succ _ _ _ h 8 9 (by decide) d e
theorem v210_at (h : Fin 8) (z : Fin 1) (d : Fin 128) (e : Fin 256) :
    @Eq EReal (val_main_v210 (F := Ideal) x0 x3 x4 (ix4 h z d e)) (tN (rl x3) (rk x0) (ro x4) h 10 d e) := by
  have hs : @Eq EReal (val_main_v210 (F := Ideal) x0 x3 x4 (ix4 h z d e))
      (val_main_v150 (F := Ideal) x0 x3 x4 (ix4 h 8 d e) + val_main_v206 (F := Ideal) x0 x3 x4 (ix4 h z d e) * val_main_v69 (F := Ideal) x3 (ix4 h z d e)) := by
    rw [val_main_v210_apply, val_main_v166_apply, val_main_v209_apply]
    have e : idx_main_v166 (ix4 h z d e) = ix4 h 8 d e := funext fun a => match a with
      | ⟨0, _⟩ => rfl
      | ⟨1, _⟩ => Fin.ext (by show 8 + z.val = 8; omega)
      | ⟨2, _⟩ => rfl
      | ⟨3, _⟩ => rfl
    rw [e]
    rfl
  rw [hs, v69_at, v150_at, v206_at x0 x3 x4]
  exact tN_succ _ _ _ h 9 8 (by decide) d e
theorem v214_at (h : Fin 8) (z : Fin 1) (d : Fin 128) (e : Fin 256) :
    @Eq EReal (val_main_v214 (F := Ideal) x0 x3 x4 (ix4 h z d e)) (tN (rl x3) (rk x0) (ro x4) h 11 d e) := by
  have hs : @Eq EReal (val_main_v214 (F := Ideal) x0 x3 x4 (ix4 h z d e))
      (val_main_v150 (F := Ideal) x0 x3 x4 (ix4 h 7 d e) + val_main_v210 (F := Ideal) x0 x3 x4 (ix4 h z d e) * val_main_v69 (F := Ideal) x3 (ix4 h z d e)) := by
    rw [val_main_v214_apply, val_main_v165_apply, val_main_v213_apply]
    have e : idx_main_v165 (ix4 h z d e) = ix4 h 7 d e := funext fun a => match a with
      | ⟨0, _⟩ => rfl
      | ⟨1, _⟩ => Fin.ext (by show 7 + z.val = 7; omega)
      | ⟨2, _⟩ => rfl
      | ⟨3, _⟩ => rfl
    rw [e]
    rfl
  rw [hs, v69_at, v150_at, v210_at x0 x3 x4]
  exact tN_succ _ _ _ h 10 7 (by decide) d e
theorem v218_at (h : Fin 8) (z : Fin 1) (d : Fin 128) (e : Fin 256) :
    @Eq EReal (val_main_v218 (F := Ideal) x0 x3 x4 (ix4 h z d e)) (tN (rl x3) (rk x0) (ro x4) h 12 d e) := by
  have hs : @Eq EReal (val_main_v218 (F := Ideal) x0 x3 x4 (ix4 h z d e))
      (val_main_v150 (F := Ideal) x0 x3 x4 (ix4 h 6 d e) + val_main_v214 (F := Ideal) x0 x3 x4 (ix4 h z d e) * val_main_v69 (F := Ideal) x3 (ix4 h z d e)) := by
    rw [val_main_v218_apply, val_main_v164_apply, val_main_v217_apply]
    have e : idx_main_v164 (ix4 h z d e) = ix4 h 6 d e := funext fun a => match a with
      | ⟨0, _⟩ => rfl
      | ⟨1, _⟩ => Fin.ext (by show 6 + z.val = 6; omega)
      | ⟨2, _⟩ => rfl
      | ⟨3, _⟩ => rfl
    rw [e]
    rfl
  rw [hs, v69_at, v150_at, v214_at x0 x3 x4]
  exact tN_succ _ _ _ h 11 6 (by decide) d e
theorem v222_at (h : Fin 8) (z : Fin 1) (d : Fin 128) (e : Fin 256) :
    @Eq EReal (val_main_v222 (F := Ideal) x0 x3 x4 (ix4 h z d e)) (tN (rl x3) (rk x0) (ro x4) h 13 d e) := by
  have hs : @Eq EReal (val_main_v222 (F := Ideal) x0 x3 x4 (ix4 h z d e))
      (val_main_v150 (F := Ideal) x0 x3 x4 (ix4 h 5 d e) + val_main_v218 (F := Ideal) x0 x3 x4 (ix4 h z d e) * val_main_v69 (F := Ideal) x3 (ix4 h z d e)) := by
    rw [val_main_v222_apply, val_main_v163_apply, val_main_v221_apply]
    have e : idx_main_v163 (ix4 h z d e) = ix4 h 5 d e := funext fun a => match a with
      | ⟨0, _⟩ => rfl
      | ⟨1, _⟩ => Fin.ext (by show 5 + z.val = 5; omega)
      | ⟨2, _⟩ => rfl
      | ⟨3, _⟩ => rfl
    rw [e]
    rfl
  rw [hs, v69_at, v150_at, v218_at x0 x3 x4]
  exact tN_succ _ _ _ h 12 5 (by decide) d e
theorem v226_at (h : Fin 8) (z : Fin 1) (d : Fin 128) (e : Fin 256) :
    @Eq EReal (val_main_v226 (F := Ideal) x0 x3 x4 (ix4 h z d e)) (tN (rl x3) (rk x0) (ro x4) h 14 d e) := by
  have hs : @Eq EReal (val_main_v226 (F := Ideal) x0 x3 x4 (ix4 h z d e))
      (val_main_v150 (F := Ideal) x0 x3 x4 (ix4 h 4 d e) + val_main_v222 (F := Ideal) x0 x3 x4 (ix4 h z d e) * val_main_v69 (F := Ideal) x3 (ix4 h z d e)) := by
    rw [val_main_v226_apply, val_main_v162_apply, val_main_v225_apply]
    have e : idx_main_v162 (ix4 h z d e) = ix4 h 4 d e := funext fun a => match a with
      | ⟨0, _⟩ => rfl
      | ⟨1, _⟩ => Fin.ext (by show 4 + z.val = 4; omega)
      | ⟨2, _⟩ => rfl
      | ⟨3, _⟩ => rfl
    rw [e]
    rfl
  rw [hs, v69_at, v150_at, v222_at x0 x3 x4]
  exact tN_succ _ _ _ h 13 4 (by decide) d e
theorem v230_at (h : Fin 8) (z : Fin 1) (d : Fin 128) (e : Fin 256) :
    @Eq EReal (val_main_v230 (F := Ideal) x0 x3 x4 (ix4 h z d e)) (tN (rl x3) (rk x0) (ro x4) h 15 d e) := by
  have hs : @Eq EReal (val_main_v230 (F := Ideal) x0 x3 x4 (ix4 h z d e))
      (val_main_v150 (F := Ideal) x0 x3 x4 (ix4 h 3 d e) + val_main_v226 (F := Ideal) x0 x3 x4 (ix4 h z d e) * val_main_v69 (F := Ideal) x3 (ix4 h z d e)) := by
    rw [val_main_v230_apply, val_main_v161_apply, val_main_v229_apply]
    have e : idx_main_v161 (ix4 h z d e) = ix4 h 3 d e := funext fun a => match a with
      | ⟨0, _⟩ => rfl
      | ⟨1, _⟩ => Fin.ext (by show 3 + z.val = 3; omega)
      | ⟨2, _⟩ => rfl
      | ⟨3, _⟩ => rfl
    rw [e]
    rfl
  rw [hs, v69_at, v150_at, v226_at x0 x3 x4]
  exact tN_succ _ _ _ h 14 3 (by decide) d e
theorem v234_at (h : Fin 8) (z : Fin 1) (d : Fin 128) (e : Fin 256) :
    @Eq EReal (val_main_v234 (F := Ideal) x0 x3 x4 (ix4 h z d e)) (tN (rl x3) (rk x0) (ro x4) h 16 d e) := by
  have hs : @Eq EReal (val_main_v234 (F := Ideal) x0 x3 x4 (ix4 h z d e))
      (val_main_v150 (F := Ideal) x0 x3 x4 (ix4 h 2 d e) + val_main_v230 (F := Ideal) x0 x3 x4 (ix4 h z d e) * val_main_v69 (F := Ideal) x3 (ix4 h z d e)) := by
    rw [val_main_v234_apply, val_main_v160_apply, val_main_v233_apply]
    have e : idx_main_v160 (ix4 h z d e) = ix4 h 2 d e := funext fun a => match a with
      | ⟨0, _⟩ => rfl
      | ⟨1, _⟩ => Fin.ext (by show 2 + z.val = 2; omega)
      | ⟨2, _⟩ => rfl
      | ⟨3, _⟩ => rfl
    rw [e]
    rfl
  rw [hs, v69_at, v150_at, v230_at x0 x3 x4]
  exact tN_succ _ _ _ h 15 2 (by decide) d e
theorem v238_at (h : Fin 8) (z : Fin 1) (d : Fin 128) (e : Fin 256) :
    @Eq EReal (val_main_v238 (F := Ideal) x0 x3 x4 (ix4 h z d e)) (tN (rl x3) (rk x0) (ro x4) h 17 d e) := by
  have hs : @Eq EReal (val_main_v238 (F := Ideal) x0 x3 x4 (ix4 h z d e))
      (val_main_v150 (F := Ideal) x0 x3 x4 (ix4 h 1 d e) + val_main_v234 (F := Ideal) x0 x3 x4 (ix4 h z d e) * val_main_v69 (F := Ideal) x3 (ix4 h z d e)) := by
    rw [val_main_v238_apply, val_main_v159_apply, val_main_v237_apply]
    have e : idx_main_v159 (ix4 h z d e) = ix4 h 1 d e := funext fun a => match a with
      | ⟨0, _⟩ => rfl
      | ⟨1, _⟩ => Fin.ext (by show 1 + z.val = 1; omega)
      | ⟨2, _⟩ => rfl
      | ⟨3, _⟩ => rfl
    rw [e]
    rfl
  rw [hs, v69_at, v150_at, v234_at x0 x3 x4]
  exact tN_succ _ _ _ h 16 1 (by decide) d e

/-- The cotangents of the states after each chunk, stacked. -/
theorem v244_of (h : Fin 8) (n : Fin 18) (t : ℕ) (ht : t + n.val = 17) (d : Fin 128) (e : Fin 256) :
    @Eq EReal (val_main_v244 (F := Ideal) x0 x3 x4 (ix4 h n d e)) (tN (rl x3) (rk x0) (ro x4) h t d e) := by
  match n, ht with
  | ⟨0, _⟩, ht =>
    have h1 : t + 0 = 17 := ht
    obtain rfl : t = 17 := by omega
    clear h1 ht
    refine Eq.trans ?_ (v238_at x0 x3 x4 h 0 d e)
    show @Eq EReal (val_main_v244 (F := Ideal) x0 x3 x4 (ix4 h (0 : Fin 18) d e)) _
    pointwise [val_main_v244, val_main_v243, val_main_v242]
  | ⟨1, _⟩, ht =>
    have h1 : t + 1 = 17 := ht
    obtain rfl : t = 16 := by omega
    clear h1 ht
    refine Eq.trans ?_ (v234_at x0 x3 x4 h 0 d e)
    show @Eq EReal (val_main_v244 (F := Ideal) x0 x3 x4 (ix4 h (1 : Fin 18) d e)) _
    pointwise [val_main_v244, val_main_v243, val_main_v242]
  | ⟨2, _⟩, ht =>
    have h1 : t + 2 = 17 := ht
    obtain rfl : t = 15 := by omega
    clear h1 ht
    refine Eq.trans ?_ (v230_at x0 x3 x4 h 0 d e)
    show @Eq EReal (val_main_v244 (F := Ideal) x0 x3 x4 (ix4 h (2 : Fin 18) d e)) _
    pointwise [val_main_v244, val_main_v243, val_main_v242]
  | ⟨3, _⟩, ht =>
    have h1 : t + 3 = 17 := ht
    obtain rfl : t = 14 := by omega
    clear h1 ht
    refine Eq.trans ?_ (v226_at x0 x3 x4 h 0 d e)
    show @Eq EReal (val_main_v244 (F := Ideal) x0 x3 x4 (ix4 h (3 : Fin 18) d e)) _
    pointwise [val_main_v244, val_main_v243, val_main_v242]
  | ⟨4, _⟩, ht =>
    have h1 : t + 4 = 17 := ht
    obtain rfl : t = 13 := by omega
    clear h1 ht
    refine Eq.trans ?_ (v222_at x0 x3 x4 h 0 d e)
    show @Eq EReal (val_main_v244 (F := Ideal) x0 x3 x4 (ix4 h (4 : Fin 18) d e)) _
    pointwise [val_main_v244, val_main_v243, val_main_v242]
  | ⟨5, _⟩, ht =>
    have h1 : t + 5 = 17 := ht
    obtain rfl : t = 12 := by omega
    clear h1 ht
    refine Eq.trans ?_ (v218_at x0 x3 x4 h 0 d e)
    show @Eq EReal (val_main_v244 (F := Ideal) x0 x3 x4 (ix4 h (5 : Fin 18) d e)) _
    pointwise [val_main_v244, val_main_v243, val_main_v242]
  | ⟨6, _⟩, ht =>
    have h1 : t + 6 = 17 := ht
    obtain rfl : t = 11 := by omega
    clear h1 ht
    refine Eq.trans ?_ (v214_at x0 x3 x4 h 0 d e)
    show @Eq EReal (val_main_v244 (F := Ideal) x0 x3 x4 (ix4 h (6 : Fin 18) d e)) _
    pointwise [val_main_v244, val_main_v243, val_main_v242]
  | ⟨7, _⟩, ht =>
    have h1 : t + 7 = 17 := ht
    obtain rfl : t = 10 := by omega
    clear h1 ht
    refine Eq.trans ?_ (v210_at x0 x3 x4 h 0 d e)
    show @Eq EReal (val_main_v244 (F := Ideal) x0 x3 x4 (ix4 h (7 : Fin 18) d e)) _
    pointwise [val_main_v244, val_main_v243, val_main_v242]
  | ⟨8, _⟩, ht =>
    have h1 : t + 8 = 17 := ht
    obtain rfl : t = 9 := by omega
    clear h1 ht
    refine Eq.trans ?_ (v206_at x0 x3 x4 h 0 d e)
    show @Eq EReal (val_main_v244 (F := Ideal) x0 x3 x4 (ix4 h (8 : Fin 18) d e)) _
    pointwise [val_main_v244, val_main_v243, val_main_v242]
  | ⟨9, _⟩, ht =>
    have h1 : t + 9 = 17 := ht
    obtain rfl : t = 8 := by omega
    clear h1 ht
    refine Eq.trans ?_ (v202_at x0 x3 x4 h 0 d e)
    show @Eq EReal (val_main_v244 (F := Ideal) x0 x3 x4 (ix4 h (9 : Fin 18) d e)) _
    pointwise [val_main_v244, val_main_v243, val_main_v242]
  | ⟨10, _⟩, ht =>
    have h1 : t + 10 = 17 := ht
    obtain rfl : t = 7 := by omega
    clear h1 ht
    refine Eq.trans ?_ (v198_at x0 x3 x4 h 0 d e)
    show @Eq EReal (val_main_v244 (F := Ideal) x0 x3 x4 (ix4 h (10 : Fin 18) d e)) _
    pointwise [val_main_v244, val_main_v243, val_main_v242]
  | ⟨11, _⟩, ht =>
    have h1 : t + 11 = 17 := ht
    obtain rfl : t = 6 := by omega
    clear h1 ht
    refine Eq.trans ?_ (v194_at x0 x3 x4 h 0 d e)
    show @Eq EReal (val_main_v244 (F := Ideal) x0 x3 x4 (ix4 h (11 : Fin 18) d e)) _
    pointwise [val_main_v244, val_main_v243, val_main_v242]
  | ⟨12, _⟩, ht =>
    have h1 : t + 12 = 17 := ht
    obtain rfl : t = 5 := by omega
    clear h1 ht
    refine Eq.trans ?_ (v190_at x0 x3 x4 h 0 d e)
    show @Eq EReal (val_main_v244 (F := Ideal) x0 x3 x4 (ix4 h (12 : Fin 18) d e)) _
    pointwise [val_main_v244, val_main_v243, val_main_v242]
  | ⟨13, _⟩, ht =>
    have h1 : t + 13 = 17 := ht
    obtain rfl : t = 4 := by omega
    clear h1 ht
    refine Eq.trans ?_ (v186_at x0 x3 x4 h 0 d e)
    show @Eq EReal (val_main_v244 (F := Ideal) x0 x3 x4 (ix4 h (13 : Fin 18) d e)) _
    pointwise [val_main_v244, val_main_v243, val_main_v242]
  | ⟨14, _⟩, ht =>
    have h1 : t + 14 = 17 := ht
    obtain rfl : t = 3 := by omega
    clear h1 ht
    refine Eq.trans ?_ (v182_at x0 x3 x4 h 0 d e)
    show @Eq EReal (val_main_v244 (F := Ideal) x0 x3 x4 (ix4 h (14 : Fin 18) d e)) _
    pointwise [val_main_v244, val_main_v243, val_main_v242]
  | ⟨15, _⟩, ht =>
    have h1 : t + 15 = 17 := ht
    obtain rfl : t = 2 := by omega
    clear h1 ht
    refine Eq.trans ?_ (v178_at x0 x3 x4 h 0 d e)
    show @Eq EReal (val_main_v244 (F := Ideal) x0 x3 x4 (ix4 h (15 : Fin 18) d e)) _
    pointwise [val_main_v244, val_main_v243, val_main_v242]
  | ⟨16, _⟩, ht =>
    have h1 : t + 16 = 17 := ht
    obtain rfl : t = 1 := by omega
    clear h1 ht
    refine Eq.trans ?_ (v175_at x0 x3 x4 h 0 d e)
    show @Eq EReal (val_main_v244 (F := Ideal) x0 x3 x4 (ix4 h (16 : Fin 18) d e)) _
    pointwise [val_main_v244, val_main_v243, val_main_v242]
  | ⟨17, _⟩, ht =>
    have h1 : t + 17 = 17 := ht
    obtain rfl : t = 0 := by omega
    clear h1 ht
    refine Eq.trans ?_ (v241_at x0 x3 x4 h 0 d e)
    show @Eq EReal (val_main_v244 (F := Ideal) x0 x3 x4 (ix4 h (17 : Fin 18) d e)) _
    pointwise [val_main_v244, val_main_v243, val_main_v242]
  | ⟨n + 18, hn⟩, _ => exact absurd hn (by omega)

theorem v244_at (h : Fin 8) (n : Fin 18) (d : Fin 128) (e : Fin 256) :
    @Eq EReal (val_main_v244 (F := Ideal) x0 x3 x4 (ix4 h n d e)) (tN (rl x3) (rk x0) (ro x4) h (17 - n.val) d e) :=
  v244_of x0 x3 x4 h n _ (by omega) d e

end Cert.ReferenceIdeal.Ref

end
-- ==== Proof.RefGA.lean ====
module

public import proofs.«01_k».proof.Proof.Gen.ReferenceIdeal.Read
public import Idealize.ShloMosaic.Lib.Pipeline.ValueKit
public import Idealize.ShloMosaic.Lib.Pointwise
public import proofs.«01_k».proof.Proof.RefBase
public import proofs.«01_k».proof.Proof.RefS
public import proofs.«01_k».proof.Proof.RefT

@[expose] public section

set_option maxRecDepth 16384

noncomputable section

open Idealize.ShloMosaic
open scoped BigOperators

namespace Cert.ReferenceIdeal.Ref

open Cert.ReferenceIdeal Cert.ReferenceIdeal.Read Cert.Spec

variable (x0 x1 : (⟨S2304x1024, .bf16⟩ : BufTy).Contents (Elt Ideal)) (x2 : (⟨S2304x14336, .bf16⟩ : BufTy).Contents (Elt Ideal))
  (x3 : (⟨S8, .f32⟩ : BufTy).Contents (Elt Ideal)) (x4 : (⟨S2304x2048, .bf16⟩ : BufTy).Contents (Elt Ideal))

/-- Scores before the decay. -/
theorem v59_at (h : Fin 8) (n : Fin 18) (i j : Fin 128) :
    @Eq EReal (val_main_v59 (F := Ideal) x0 x1 (ix4 h n i j)) (fA (cK (rk x0) h n) (cK (rk x1) h n) i j) := by
  refine via fun T hT => ?_
  pointwise [val_main_v59]
  subst hT
  simp only [v56_at, v57_at]
  rfl

/-- Cotangent of the decayed scores. -/
theorem v261_at (h : Fin 8) (n : Fin 18) (i j : Fin 128) :
    @Eq EReal (val_main_v261 (F := Ideal) x2 x4 (ix4 h n i j)) (fP (cU (ru x2) h n) (cO (ro x4) h n) i j) := by
  refine via fun T hT => ?_
  pointwise [val_main_v261]
  subst hT
  simp only [v58_at, v148_at]
  rfl

theorem v151_at (h : Fin 8) (n : Fin 18) (i d : Fin 128) :
    @Eq EReal (val_main_v151 (F := Ideal) x1 x2 x3 x4 (ix4 h n i d)) (fCQ (sN (rl x3) (rk x1) (ru x2) h n.val) (cO (ro x4) h n) i d) := by
  refine via fun T hT => ?_
  pointwise [val_main_v151]
  subst hT
  simp only [v127_at, v148_at]
  rfl

theorem v251_at (h : Fin 8) (n : Fin 18) (j d : Fin 128) :
    @Eq EReal (val_main_v251 (F := Ideal) x0 x2 x3 x4 (ix4 h n j d)) (fCK (cU (ru x2) h n) (tN (rl x3) (rk x0) (ro x4) h (17 - n.val)) j d) := by
  refine via fun T hT => ?_
  pointwise [val_main_v251, val_main_v250]
  subst hT
  simp only [v244_at, v58_at]
  exact Finset.sum_congr rfl fun e _ => mul_comm _ _

end Cert.ReferenceIdeal.Ref

end
-- ==== Proof.RefGB.lean ====
module

public import proofs.«01_k».proof.Proof.Gen.ReferenceIdeal.Read
public import Idealize.ShloMosaic.Lib.Pipeline.ValueKit
public import Idealize.ShloMosaic.Lib.Pointwise
public import proofs.«01_k».proof.Proof.RefBase
public import proofs.«01_k».proof.Proof.RefS
public import proofs.«01_k».proof.Proof.RefT
public import proofs.«01_k».proof.Proof.RefGA

@[expose] public section

set_option maxRecDepth 16384

noncomputable section

open Idealize.ShloMosaic
open scoped BigOperators

namespace Cert.ReferenceIdeal.Ref

open Cert.ReferenceIdeal Cert.ReferenceIdeal.Read Cert.Spec

variable (x0 x1 : (⟨S2304x1024, .bf16⟩ : BufTy).Contents (Elt Ideal)) (x2 : (⟨S2304x14336, .bf16⟩ : BufTy).Contents (Elt Ideal))
  (x3 : (⟨S8, .f32⟩ : BufTy).Contents (Elt Ideal)) (x4 : (⟨S2304x2048, .bf16⟩ : BufTy).Contents (Elt Ideal))

theorem v156_at (h : Fin 8) (n : Fin 18) (i d : Fin 128) :
    @Eq EReal (val_main_v156 (F := Ideal) x1 x2 x3 x4 (ix4 h n i d)) (fCQ (sN (rl x3) (rk x1) (ru x2) h n.val) (cO (ro x4) h n) i d * mQ (rl x3 h) i) := by
  refine via fun T hT => ?_
  pointwise [val_main_v156, val_main_v155, val_main_v129]
  subst hT
  simp only [v151_at, v44_at]

theorem v249_at (h : Fin 8) (n : Fin 18) (i : Fin 128) (e : Fin 256) :
    @Eq EReal (val_main_v249 (F := Ideal) x0 x1 x3 x4 (ix4 h n i e)) (∑ d, (cK (rk x1) h n) i d * mK (rl x3 h) i * (tN (rl x3) (rk x0) (ro x4) h (17 - n.val)) d e) := by
  refine via fun T hT => ?_
  pointwise [val_main_v249, val_main_v248, val_main_v66, val_main_v65, val_main_v64]
  subst hT
  simp only [v244_at, v57_at, v52_at]
  exact Finset.sum_congr rfl fun d _ => mul_comm _ _

end Cert.ReferenceIdeal.Ref

end
-- ==== Proof.RefGC.lean ====
module

public import proofs.«01_k».proof.Proof.Gen.ReferenceIdeal.Read
public import Idealize.ShloMosaic.Lib.Pipeline.ValueKit
public import Idealize.ShloMosaic.Lib.Pointwise
public import proofs.«01_k».proof.Proof.RefBase
public import proofs.«01_k».proof.Proof.RefS
public import proofs.«01_k».proof.Proof.RefT
public import proofs.«01_k».proof.Proof.RefGA

@[expose] public section

set_option maxRecDepth 16384

noncomputable section

open Idealize.ShloMosaic
open scoped BigOperators

namespace Cert.ReferenceIdeal.Ref

open Cert.ReferenceIdeal Cert.ReferenceIdeal.Read Cert.Spec

variable (x0 x1 : (⟨S2304x1024, .bf16⟩ : BufTy).Contents (Elt Ideal)) (x2 : (⟨S2304x14336, .bf16⟩ : BufTy).Contents (Elt Ideal))
  (x3 : (⟨S8, .f32⟩ : BufTy).Contents (Elt Ideal)) (x4 : (⟨S2304x2048, .bf16⟩ : BufTy).Contents (Elt Ideal))

theorem v270_at (h : Fin 8) (n : Fin 18) (i d : Fin 128) :
    @Eq EReal (val_main_v270 (F := Ideal) x1 x2 x3 x4 (ix4 h n i d)) (∑ j, fP (cU (ru x2) h n) (cO (ro x4) h n) i j * mM (rl x3 h) i j * (cK (rk x1) h n) j d) := by
  refine via fun T hT => ?_
  pointwise [val_main_v270, val_main_v266, val_main_v265, val_main_v60]
  subst hT
  simp only [v261_at, v36_at, v57_at]

end Cert.ReferenceIdeal.Ref

end
-- ==== Proof.RefGD.lean ====
module

public import proofs.«01_k».proof.Proof.Gen.ReferenceIdeal.Read
public import Idealize.ShloMosaic.Lib.Pipeline.ValueKit
public import Idealize.ShloMosaic.Lib.Pointwise
public import proofs.«01_k».proof.Proof.RefBase
public import proofs.«01_k».proof.Proof.RefS
public import proofs.«01_k».proof.Proof.RefT
public import proofs.«01_k».proof.Proof.RefGA

@[expose] public section

set_option maxRecDepth 16384

noncomputable section

open Idealize.ShloMosaic
open scoped BigOperators

namespace Cert.ReferenceIdeal.Ref

open Cert.ReferenceIdeal Cert.ReferenceIdeal.Read Cert.Spec

variable (x0 x1 : (⟨S2304x1024, .bf16⟩ : BufTy).Contents (Elt Ideal)) (x2 : (⟨S2304x14336, .bf16⟩ : BufTy).Contents (Elt Ideal))
  (x3 : (⟨S8, .f32⟩ : BufTy).Contents (Elt Ideal)) (x4 : (⟨S2304x2048, .bf16⟩ : BufTy).Contents (Elt Ideal))

theorem v268_at (h : Fin 8) (n : Fin 18) (i d : Fin 128) :
    @Eq EReal (val_main_v268 (F := Ideal) x0 x2 x3 x4 (ix4 h n i d)) (∑ j, fP (cU (ru x2) h n) (cO (ro x4) h n) j i * mM (rl x3 h) j i * (cK (rk x0) h n) j d) := by
  refine via fun T hT => ?_
  pointwise [val_main_v268, val_main_v266, val_main_v265, val_main_v60]
  subst hT
  simp only [v261_at, v36_at, v56_at]

end Cert.ReferenceIdeal.Ref

end
-- ==== Proof.RefGE.lean ====
module

public import proofs.«01_k».proof.Proof.Gen.ReferenceIdeal.Read
public import Idealize.ShloMosaic.Lib.Pipeline.ValueKit
public import Idealize.ShloMosaic.Lib.Pointwise
public import proofs.«01_k».proof.Proof.RefBase
public import proofs.«01_k».proof.Proof.RefS
public import proofs.«01_k».proof.Proof.RefT
public import proofs.«01_k».proof.Proof.RefGA

@[expose] public section

set_option maxRecDepth 16384

noncomputable section

open Idealize.ShloMosaic
open scoped BigOperators

namespace Cert.ReferenceIdeal.Ref

open Cert.ReferenceIdeal Cert.ReferenceIdeal.Read Cert.Spec

variable (x0 x1 : (⟨S2304x1024, .bf16⟩ : BufTy).Contents (Elt Ideal)) (x2 : (⟨S2304x14336, .bf16⟩ : BufTy).Contents (Elt Ideal))
  (x3 : (⟨S8, .f32⟩ : BufTy).Contents (Elt Ideal)) (x4 : (⟨S2304x2048, .bf16⟩ : BufTy).Contents (Elt Ideal))

theorem v259_at (h : Fin 8) (n : Fin 18) (i : Fin 128) (e : Fin 256) :
    @Eq EReal (val_main_v259 (F := Ideal) x0 x1 x3 x4 (ix4 h n i e)) (∑ j, fA (cK (rk x0) h n) (cK (rk x1) h n) j i * mM (rl x3 h) j i * (cO (ro x4) h n) j e) := by
  refine via fun T hT => ?_
  pointwise [val_main_v259, val_main_v258, val_main_v62, val_main_v61, val_main_v60]
  subst hT
  simp only [v59_at, v36_at, v148_at]
  exact Finset.sum_congr rfl fun j _ => mul_comm _ _

end Cert.ReferenceIdeal.Ref

end
-- ==== Proof.RefG.lean ====
module

public import proofs.«01_k».proof.Proof.Gen.ReferenceIdeal.Read
public import Idealize.ShloMosaic.Lib.Pipeline.ValueKit
public import Idealize.ShloMosaic.Lib.Pointwise
public import proofs.«01_k».proof.Proof.RefBase
public import proofs.«01_k».proof.Proof.RefS
public import proofs.«01_k».proof.Proof.RefT
public import proofs.«01_k».proof.Proof.RefGA
public import proofs.«01_k».proof.Proof.RefGB
public import proofs.«01_k».proof.Proof.RefGC
public import proofs.«01_k».proof.Proof.RefGD
public import proofs.«01_k».proof.Proof.RefGE

@[expose] public section

set_option maxRecDepth 16384

noncomputable section

open Idealize.ShloMosaic
open scoped BigOperators

namespace Cert.ReferenceIdeal.Ref

open Cert.ReferenceIdeal Cert.ReferenceIdeal.Read Cert.Spec

variable (x0 x1 : (⟨S2304x1024, .bf16⟩ : BufTy).Contents (Elt Ideal)) (x2 : (⟨S2304x14336, .bf16⟩ : BufTy).Contents (Elt Ideal))
  (x3 : (⟨S8, .f32⟩ : BufTy).Contents (Elt Ideal)) (x4 : (⟨S2304x2048, .bf16⟩ : BufTy).Contents (Elt Ideal))

theorem v256_at (h : Fin 8) (n : Fin 18) (i d : Fin 128) :
    @Eq EReal (val_main_v256 (F := Ideal) x0 x2 x3 x4 (ix4 h n i d)) (fCK (cU (ru x2) h n) (tN (rl x3) (rk x0) (ro x4) h (17 - n.val)) i d * mK (rl x3 h) i) := by
  refine via fun T hT => ?_
  pointwise [val_main_v256, val_main_v255, val_main_v64]
  subst hT
  simp only [v251_at, v52_at]

/-- Gradient of the queries of a chunk. -/
theorem v271_at (h : Fin 8) (n : Fin 18) (i d : Fin 128) :
    @Eq EReal (val_main_v271 (F := Ideal) x1 x2 x3 x4 (ix4 h n i d)) (gQ (rl x3) (rk x1) (ru x2) (ro x4) h n i d) := by
  unfold gQ fDQ
  rw [add_comm, ← v156_at, ← v270_at, val_main_v271_apply]
  rfl

/-- Gradient of the keys of a chunk. -/
theorem v269_at (h : Fin 8) (n : Fin 18) (i d : Fin 128) :
    @Eq EReal (val_main_v269 (F := Ideal) x0 x2 x3 x4 (ix4 h n i d)) (gK (rl x3) (rk x0) (ru x2) (ro x4) h n i d) := by
  unfold gK fDK
  rw [add_comm, ← v256_at, ← v268_at, val_main_v269_apply]
  rfl

/-- Gradient of the values of a chunk. -/
theorem v260_at (h : Fin 8) (n : Fin 18) (i : Fin 128) (e : Fin 256) :
    @Eq EReal (val_main_v260 (F := Ideal) x0 x1 x3 x4 (ix4 h n i e)) (gV (rl x3) (rk x0) (rk x1) (ro x4) h n i e) := by
  unfold gV fDV
  rw [add_comm, ← v249_at, ← v259_at, val_main_v260_apply]
  rfl

/-- Rows go back to the array's order: one of the two padded pieces holds the row. -/
theorem rows_back (f : Fin 18 → Fin 128 → EReal) (n : Fin 18) (i : Fin 128) (r : Fin 2304) (hr : r = row n i) :
    ((if hc : r.val < 2048 then f ⟨(256 + r.val) / 128, by omega⟩ ⟨(256 + r.val) % 128, by omega⟩ else 0)
      + (if hc : 2048 ≤ r.val ∧ r.val - 2048 < 256 then f ⟨(r.val - 2048) / 128, by omega⟩ ⟨(r.val - 2048) % 128, by omega⟩ else 0)) = f n i := by
  have hv : r.val = (n.val + 16) % 18 * 128 + i.val := congrArg Fin.val hr
  by_cases hc : r.val < 2048
  · have h2 : ¬ (2048 ≤ r.val ∧ r.val - 2048 < 256) := by omega
    have e1 : (⟨(256 + r.val) / 128, by omega⟩ : Fin 18) = n := Fin.ext (by show (256 + r.val) / 128 = n.val; omega)
    have e2 : (⟨(256 + r.val) % 128, by omega⟩ : Fin 128) = i := Fin.ext (by show (256 + r.val) % 128 = i.val; omega)
    rw [dif_pos hc, dif_neg h2, e1, e2, add_zero]
  · have h2 : 2048 ≤ r.val ∧ r.val - 2048 < 256 := by omega
    have e1 : (⟨(r.val - 2048) / 128, by omega⟩ : Fin 18) = n := Fin.ext (by show (r.val - 2048) / 128 = n.val; omega)
    have e2 : (⟨(r.val - 2048) % 128, by omega⟩ : Fin 128) = i := Fin.ext (by show (r.val - 2048) % 128 = i.val; omega)
    rw [dif_neg hc, dif_pos h2, e1, e2, zero_add]

theorem v321_at (h : Fin 8) (n : Fin 18) (i : Fin 128) (d : Fin 128) (r : Fin 2304) (x : Fin 1024) (hr : r = row n i) (hx : x = kcol h d) :
    @Eq EReal (val_main_v321 (F := Ideal) x1 x2 x3 x4 (ix2 r x)) (gQ (rl x3) (rk x1) (ru x2) (ro x4) h n i d) := by
  refine via fun T hT => ?_
  pointwise [val_main_v321, val_main_v320, val_main_v318, val_main_v319, val_main_v317, val_main_cst_29, val_main_v316, val_main_cst_30, val_main_v315, val_main_v314, val_main_v274]
  subst hT
  simp only [v271_at]
  have hxv : x.val = 128 * h.val + d.val := congrArg Fin.val hx
  have e1 : (⟨x.val / 128, by omega⟩ : Fin 8) = h := Fin.ext (by show x.val / 128 = h.val; omega)
  have e2 : (⟨x.val % 128, by omega⟩ : Fin 128) = d := Fin.ext (by show x.val % 128 = d.val; omega)
  refine (rows_back (fun n i => gQ (rl x3) (rk x1) (ru x2) (ro x4) ⟨x.val / 128, by omega⟩ n i ⟨x.val % 128, by omega⟩) n i r hr).trans ?_
  show gQ (rl x3) (rk x1) (ru x2) (ro x4) ⟨x.val / 128, _⟩ n i ⟨x.val % 128, _⟩ = _
  rw [e1, e2]

theorem v322_at (h : Fin 8) (n : Fin 18) (i : Fin 128) (d : Fin 128) (r : Fin 2304) (x : Fin 1024) (hr : r = row n i) (hx : x = kcol h d) :
    @Eq EReal (val_main_v322 (F := Ideal) x0 x2 x3 x4 (ix2 r x)) (gK (rl x3) (rk x0) (ru x2) (ro x4) h n i d) := by
  refine via fun T hT => ?_
  pointwise [val_main_v322, val_main_v313, val_main_v311, val_main_v312, val_main_v310, val_main_cst_27, val_main_v309, val_main_cst_28, val_main_v308, val_main_v307, val_main_v273]
  subst hT
  simp only [v269_at]
  have hxv : x.val = 128 * h.val + d.val := congrArg Fin.val hx
  have e1 : (⟨x.val / 128, by omega⟩ : Fin 8) = h := Fin.ext (by show x.val / 128 = h.val; omega)
  have e2 : (⟨x.val % 128, by omega⟩ : Fin 128) = d := Fin.ext (by show x.val % 128 = d.val; omega)
  refine (rows_back (fun n i => gK (rl x3) (rk x0) (ru x2) (ro x4) ⟨x.val / 128, by omega⟩ n i ⟨x.val % 128, by omega⟩) n i r hr).trans ?_
  show gK (rl x3) (rk x0) (ru x2) (ro x4) ⟨x.val / 128, _⟩ n i ⟨x.val % 128, _⟩ = _
  rw [e1, e2]

theorem v323_at (h : Fin 8) (n : Fin 18) (i : Fin 128) (d : Fin 256) (r : Fin 2304) (x : Fin 2048) (hr : r = row n i) (hx : x = vcol h d) :
    @Eq EReal (val_main_v323 (F := Ideal) x0 x1 x3 x4 (ix2 r x)) (gV (rl x3) (rk x0) (rk x1) (ro x4) h n i d) := by
  refine via fun T hT => ?_
  pointwise [val_main_v323, val_main_v306, val_main_v304, val_main_v305, val_main_v303, val_main_cst_25, val_main_v302, val_main_cst_26, val_main_v301, val_main_v300, val_main_v272]
  subst hT
  simp only [v260_at]
  have hxv : x.val = 256 * h.val + d.val := congrArg Fin.val hx
  have e1 : (⟨x.val / 256, by omega⟩ : Fin 8) = h := Fin.ext (by show x.val / 256 = h.val; omega)
  have e2 : (⟨x.val % 256, by omega⟩ : Fin 256) = d := Fin.ext (by show x.val % 256 = d.val; omega)
  refine (rows_back (fun n i => gV (rl x3) (rk x0) (rk x1) (ro x4) ⟨x.val / 256, by omega⟩ n i ⟨x.val % 256, by omega⟩) n i r hr).trans ?_
  show gV (rl x3) (rk x0) (rk x1) (ro x4) ⟨x.val / 256, _⟩ n i ⟨x.val % 256, _⟩ = _
  rw [e1, e2]

end Cert.ReferenceIdeal.Ref

end
-- ==== Proof.Decay.lean ====
module

public import Idealize.ShloMosaic.Lib.Pipeline.ValueKit
public import proofs.«01_k».proof.Proof.Heads

@[expose] public section

noncomputable section

open Idealize.ShloMosaic
open scoped BigOperators

namespace Cert.Spec

theorem exp_nonneg (x : EReal) : 0 ≤ Ideal.exp x := by
  induction x with
  | bot => exact le_refl _
  | top => exact le_top
  | coe r => exact EReal.coe_nonneg.mpr (Real.exp_pos r).le

theorem exp_le_one (x : EReal) (hx : x ≤ 0) : Ideal.exp x ≤ 1 := by
  induction x with
  | bot => exact zero_le_one
  | top => exact absurd hx (by simp)
  | coe r => exact EReal.coe_le_coe_iff.mpr (Real.exp_le_one_iff.mpr (EReal.coe_nonpos.mp hx))

theorem exp_ne_top (x : EReal) (hx : x ≤ 0) : Ideal.exp x ≠ ⊤ := fun h => by
  have h1 := exp_le_one x hx
  rw [h] at h1
  exact absurd (top_le_iff.mp h1) (by decide)

/-- Finite factors that are not negative. -/
def Fin0 (c : EReal) : Prop := 0 ≤ c ∧ c ≠ ⊤

theorem Fin0.mul {a b : EReal} (ha : Fin0 a) (hb : Fin0 b) : Fin0 (a * b) := by
  obtain ⟨ha0, hat⟩ := ha
  obtain ⟨hb0, hbt⟩ := hb
  refine ⟨mul_nonneg ha0 hb0, ?_⟩
  lift a to ℝ using ⟨hat, fun h => by simp [h] at ha0⟩
  lift b to ℝ using ⟨hbt, fun h => by simp [h] at hb0⟩
  rw [← EReal.coe_mul]
  exact EReal.coe_ne_top _

theorem fin0_coe {r : ℝ} (h : 0 ≤ r) : Fin0 (r : EReal) := ⟨EReal.coe_nonneg.mpr h, EReal.coe_ne_top _⟩

theorem sum_mul_fin0 {ι : Type} (s : Finset ι) (f : ι → EReal) {c : EReal} (hc : Fin0 c) : (∑ i ∈ s, f i) * c = ∑ i ∈ s, f i * c := by
  classical
  induction s using Finset.induction_on with
  | empty => simp
  | insert a s ha ih =>
    rw [Finset.sum_insert ha, Finset.sum_insert ha, ← ih]
    exact EReal.right_distrib_of_nonneg_of_ne_top hc.1 hc.2 _ _

theorem mul_nonpos' {a l : EReal} (ha : 0 ≤ a) (hl : l ≤ 0) : a * l ≤ 0 := by
  have := mul_le_mul_of_nonneg_left hl ha
  rwa [mul_zero] at this

theorem dist_fin0 (i j : Fin 128) : Fin0 (Spec.dist i j) := fin0_coe (Nat.cast_nonneg _)

theorem posQ_real (i : Fin 128) : posQ i = (((i.val : ℝ) + 1 : ℝ) : EReal) := by
  unfold posQ
  rw [EReal.coe_add]; rfl

theorem word127 : Ideal.ofBits .f32 0x42FE0000#32 = ((127 : ℝ) : EReal) := by
  simp [Ideal.ofBits, Ideal.ieee]
  rw [← EReal.coe_mul]
  norm_num

theorem word128 : Ideal.ofBits .f32 0x43000000#32 = ((128 : ℝ) : EReal) := by
  simp [Ideal.ofBits, Ideal.ieee]
  rw [← EReal.coe_mul]
  norm_num

theorem posQ_fin0 (i : Fin 128) : Fin0 (posQ i) := by
  rw [posQ_real]; exact fin0_coe (by positivity)

theorem posK_fin0 (j : Fin 128) : Fin0 (posK j) := by
  have h : posK j = ((127 - (j.val : ℝ) : ℝ) : EReal) := by
    unfold posK
    rw [word127, EReal.coe_sub]
  rw [h]
  refine fin0_coe ?_
  have : (j.val : ℝ) ≤ 127 := by exact_mod_cast (by omega : j.val ≤ 127)
  linarith

theorem lenG_fin0 : Fin0 lenG := by
  unfold lenG
  rw [word128]; exact fin0_coe (by norm_num)

theorem exp_fin0 {a l : EReal} (ha : 0 ≤ a) (hl : l ≤ 0) : Fin0 (Ideal.exp (a * l)) := ⟨exp_nonneg _, exp_ne_top _ (mul_nonpos' ha hl)⟩

section
variable (l : EReal) (hl : l ≤ 0) (q k : Fin 18 → QK) (v o : Fin 18 → VO) (S T : ℕ → VO)
include hl

theorem dl_scores : (∑ i, ∑ j, Spec.dist i j * ((if j ≤ i then ∑ n, fA (q n) (k n) i j * fP (v n) (o n) i j else 0) * Ideal.exp (Spec.dist i j * l)))
    = ∑ n, ∑ i, ∑ j, fP (v n) (o n) i j * mM l i j * fA (q n) (k n) i j * Spec.dist i j := by
  rw [Finset.sum_comm]
  conv_rhs => rw [Finset.sum_comm]
  rw [Finset.sum_comm]
  refine Finset.sum_congr rfl fun i _ => ?_
  rw [Finset.sum_comm (f := fun n j => fP (v n) (o n) i j * mM l i j * fA (q n) (k n) i j * Spec.dist i j)]
  refine Finset.sum_congr rfl fun j _ => ?_
  unfold mM
  by_cases hj : j ≤ i
  · simp only [if_pos hj]
    have hc : Fin0 (Ideal.exp (Spec.dist i j * l) * Spec.dist i j) := (exp_fin0 (dist_fin0 i j).1 hl).mul (dist_fin0 i j)
    rw [mul_comm, mul_assoc, sum_mul_fin0 _ _ hc]
    exact Finset.sum_congr rfl fun n _ => by ac_rfl
  · simp only [if_neg hj, zero_mul, mul_zero, Finset.sum_const_zero]

theorem dl_rows (p : Fin 128 → EReal) (hp : ∀ i, Fin0 (p i)) (a b : Fin 18 → QK) :
    (∑ i, p i * ((∑ n, ∑ d, a n i d * b n i d) * Ideal.exp (p i * l))) = ∑ n, ∑ i, ∑ d, b n i d * a n i d * (Ideal.exp (p i * l) * p i) := by
  rw [Finset.sum_comm]
  refine Finset.sum_congr rfl fun i _ => ?_
  have hc : Fin0 (Ideal.exp (p i * l) * p i) := (exp_fin0 (hp i).1 hl).mul (hp i)
  rw [mul_comm, mul_assoc, sum_mul_fin0 _ _ hc]
  refine Finset.sum_congr rfl fun n _ => ?_
  rw [sum_mul_fin0 _ _ hc]
  exact Finset.sum_congr rfl fun d _ => by ac_rfl

theorem dl_states (hT : T 0 = fun _ _ => 0) :
    lenG * ((∑ d, ∑ e, ∑ t ∈ Finset.range 17, S (16 - t) d e * T (t + 1) d e) * mG l)
      = ∑ n : Fin 18, ∑ d, ∑ e, T (17 - n.val) d e * S n.val d e * (mG l * lenG) := by
  have hc : Fin0 (mG l * lenG) := (exp_fin0 lenG_fin0.1 hl).mul lenG_fin0
  rw [mul_comm, mul_assoc, sum_mul_fin0 _ _ hc, Finset.sum_comm]
  refine Finset.sum_congr rfl fun d _ => ?_
  rw [sum_mul_fin0 _ _ hc, Finset.sum_comm]
  refine Finset.sum_congr rfl fun e _ => ?_
  rw [← sum_mul_fin0 _ _ hc]
  refine congrArg (· * (mG l * lenG)) ?_
  rw [Fin.sum_univ_eq_sum_range (fun n => T (17 - n) d e * S n d e) 18, Finset.sum_range_succ (fun n => T (17 - n) d e * S n d e) 17]
  have h0 : T (17 - 17) d e = 0 := congrFun (congrFun hT d) e
  rw [h0, zero_mul, add_zero, ← Finset.sum_range_reflect (fun n => T (17 - n) d e * S n d e) 17]
  refine Finset.sum_congr rfl fun t ht => ?_
  have ht' : t < 17 := Finset.mem_range.mp ht
  have e1 : 17 - (17 - 1 - t) = t + 1 := by omega
  rw [e1]
  exact mul_comm _ _

/-- The gradient of the log-decay, with the decays taken out of the sums over chunks. -/
theorem dl_eq (hT : T 0 = fun _ _ => 0) :
    ((lenG * ((∑ d, ∑ e, ∑ t ∈ Finset.range 17, S (16 - t) d e * T (t + 1) d e) * mG l)
      + ∑ j, posK j * ((∑ n : Fin 18, ∑ d, k n j d * fCK (v n) (T (17 - n.val)) j d) * mK l j))
      + ∑ i, posQ i * ((∑ n : Fin 18, ∑ d, q n i d * fCQ (S n.val) (o n) i d) * mQ l i))
      + (∑ i, ∑ j, Spec.dist i j * ((if j ≤ i then ∑ n, fA (q n) (k n) i j * fP (v n) (o n) i j else 0) * Ideal.exp (Spec.dist i j * l)))
      = ∑ n : Fin 18, fDL l (q n) (k n) (v n) (S n.val) (o n) (T (17 - n.val)) := by
  have hs := dl_states l hl S T hT
  have hp := dl_scores l hl q k v o
  have hk := dl_rows l hl posK posK_fin0 k (fun n => fCK (v n) (T (17 - n.val)))
  have hq := dl_rows l hl posQ posQ_fin0 q (fun n => fCQ (S n.val) (o n))
  rw [hs, hp]
  unfold fDL
  simp only [Finset.sum_add_distrib]
  unfold mK mQ
  rw [hk, hq]
  ac_rfl
end
end Cert.Spec

end
-- ==== Proof.RefL.lean ====
module

public import proofs.«01_k».proof.Proof.Gen.ReferenceIdeal.Read
public import Idealize.ShloMosaic.Lib.Pipeline.ValueKit
public import Idealize.ShloMosaic.Lib.Pointwise
public import Idealize.ShloMosaic.Lib.IdealHost
public import proofs.«01_k».proof.Proof.RefGA
public import proofs.«01_k».proof.Proof.Decay

@[expose] public section

set_option maxRecDepth 16384

noncomputable section

open Idealize.ShloMosaic
open scoped BigOperators

namespace Cert.ReferenceIdeal.Ref

open Cert.ReferenceIdeal Cert.ReferenceIdeal.Read Cert.Spec

/-! Sums over two and over three axes. -/

theorem sum13 {n1 n3 : ℕ} (hr : (⟨4, ![8, n1, 128, n3]⟩ : Shape).ReducesTo [1, 3] S8x128) (f : (⟨4, ![8, n1, 128, n3]⟩ : Shape).Idx → EReal) (b : EReal)
    (h : Fin 8) (i : Fin 128) : Ideal.hostReduceAdd hr f b (ix2 h i) = b + ∑ n : Fin n1, ∑ d : Fin n3, f (ix4 h n i d) := by
  refine congrArg (b + ·) ?_
  have hf : ∀ j, hr.drop j = ix2 h i ↔ ∃ k : Fin n1 × Fin n3, ix4 h k.1 i k.2 = j := fun j => by
    constructor
    · intro e
      refine ⟨(j 1, j 3), ?_⟩
      funext a
      apply Fin.ext
      match a with
      | ⟨0, _⟩ => exact (congrArg Fin.val (congrFun e 0)).symm
      | ⟨1, _⟩ => rfl
      | ⟨2, _⟩ => exact (congrArg Fin.val (congrFun e 1)).symm
      | ⟨3, _⟩ => rfl
    · rintro ⟨k, rfl⟩
      funext a
      apply Fin.ext
      match a with
      | ⟨0, _⟩ => rfl
      | ⟨1, _⟩ => rfl
  refine (Finset.sum_filter_eq_sum_of_fiber _ (fun k : Fin n1 × Fin n3 => ix4 h k.1 i k.2)
    (fun _ _ e => Prod.ext (congrFun e 1) (congrFun e 3)) hf f).trans ?_
  exact Fintype.sum_prod_type _

theorem sum123 {n1 n2 n3 : ℕ} (hr : (⟨4, ![8, n1, n2, n3]⟩ : Shape).ReducesTo [1, 2, 3] S8) (f : (⟨4, ![8, n1, n2, n3]⟩ : Shape).Idx → EReal) (b : EReal)
    (h : Fin 8) : Ideal.hostReduceAdd hr f b (ix1 h) = b + ∑ z : Fin n1, ∑ d : Fin n2, ∑ e : Fin n3, f (ix4 h z d e) := by
  refine congrArg (b + ·) ?_
  have hf : ∀ j, hr.drop j = ix1 h ↔ ∃ k : Fin n1 × Fin n2 × Fin n3, ix4 h k.1 k.2.1 k.2.2 = j := fun j => by
    constructor
    · intro e
      refine ⟨(j 1, j 2, j 3), ?_⟩
      funext a
      apply Fin.ext
      match a with
      | ⟨0, _⟩ => exact (congrArg Fin.val (congrFun e 0)).symm
      | ⟨1, _⟩ => rfl
      | ⟨2, _⟩ => rfl
      | ⟨3, _⟩ => rfl
    · rintro ⟨k, rfl⟩
      funext a
      apply Fin.ext
      match a with
      | ⟨0, _⟩ => rfl
  refine (Finset.sum_filter_eq_sum_of_fiber _ (fun k : Fin n1 × Fin n2 × Fin n3 => ix4 h k.1 k.2.1 k.2.2)
    (fun _ _ e => Prod.ext (congrFun e 1) (Prod.ext (congrFun e 2) (congrFun e 3))) hf f).trans ?_
  rw [Fintype.sum_prod_type]
  exact Finset.sum_congr rfl fun z _ => Fintype.sum_prod_type _

theorem zero_word : (FloatOps.ofBits (F := Ideal) FTy.f32 0x00000000#32 : EReal) = 0 := Ideal.ofBits_zero_f32

variable (x0 x1 : (⟨S2304x1024, .bf16⟩ : BufTy).Contents (Elt Ideal)) (x2 : (⟨S2304x14336, .bf16⟩ : BufTy).Contents (Elt Ideal))
  (x3 : (⟨S8, .f32⟩ : BufTy).Contents (Elt Ideal)) (x4 : (⟨S2304x2048, .bf16⟩ : BufTy).Contents (Elt Ideal))

theorem v153_at (h : Fin 8) (i : Fin 128) :
    @Eq EReal (val_main_v153 (F := Ideal) x0 x1 x2 x3 x4 (ix2 h i)) (∑ n : Fin 18, ∑ d : Fin 128, (cK (rk x0) h n) i d * fCQ (sN (rl x3) (rk x1) (ru x2) h n.val) (cO (ro x4) h n) i d) := by
  unfold val_main_v153
  refine (ValueIdx.hostReduceAdd_apply _ _ _ _ _).trans ?_
  refine (sum13 _ _ _ h i).trans ?_
  refine (congrArg (· + _) zero_word).trans ((zero_add _).trans ?_)
  refine Finset.sum_congr rfl fun n _ => Finset.sum_congr rfl fun d _ => ?_
  rw [val_main_v152_apply, v56_at, v151_at]
  rfl

theorem v157_at (h : Fin 8) (i : Fin 128) :
    @Eq EReal (val_main_v157 (F := Ideal) x0 x1 x2 x3 x4 (ix2 h i)) (val_main_v153 (F := Ideal) x0 x1 x2 x3 x4 (ix2 h i)) := by
  unfold val_main_v157 val_main_v154
  generalize val_main_v153 (F := Ideal) x0 x1 x2 x3 x4 = A
  refine (ValueIdx.hostReduceAdd_apply _ _ _ _ _).trans ?_
  refine (sum13 _ _ _ h i).trans ?_
  refine (congrArg (· + _) zero_word).trans ((zero_add _).trans ?_)
  rw [Fin.sum_univ_one, Fin.sum_univ_one]
  pointwise

theorem v253_at (h : Fin 8) (i : Fin 128) :
    @Eq EReal (val_main_v253 (F := Ideal) x0 x1 x2 x3 x4 (ix2 h i)) (∑ n : Fin 18, ∑ d : Fin 128, (cK (rk x1) h n) i d * fCK (cU (ru x2) h n) (tN (rl x3) (rk x0) (ro x4) h (17 - n.val)) i d) := by
  unfold val_main_v253
  refine (ValueIdx.hostReduceAdd_apply _ _ _ _ _).trans ?_
  refine (sum13 _ _ _ h i).trans ?_
  refine (congrArg (· + _) zero_word).trans ((zero_add _).trans ?_)
  refine Finset.sum_congr rfl fun n _ => Finset.sum_congr rfl fun d _ => ?_
  rw [val_main_v252_apply, v57_at, v251_at]
  rfl

theorem v257_at (h : Fin 8) (i : Fin 128) :
    @Eq EReal (val_main_v257 (F := Ideal) x0 x1 x2 x3 x4 (ix2 h i)) (val_main_v253 (F := Ideal) x0 x1 x2 x3 x4 (ix2 h i)) := by
  unfold val_main_v257 val_main_v254
  generalize val_main_v253 (F := Ideal) x0 x1 x2 x3 x4 = A
  refine (ValueIdx.hostReduceAdd_apply _ _ _ _ _).trans ?_
  refine (sum13 _ _ _ h i).trans ?_
  refine (congrArg (· + _) zero_word).trans ((zero_add _).trans ?_)
  rw [Fin.sum_univ_one, Fin.sum_univ_one]
  pointwise

/-! Products of the states and their cotangents, chunk by chunk. -/
theorem v176_at (h : Fin 8) (z : Fin 1) (d : Fin 128) (e : Fin 256) :
    @Eq EReal (val_main_v176 (F := Ideal) x0 x1 x2 x3 x4 (ix4 h z d e)) (∑ t ∈ Finset.range 1, sN (rl x3) (rk x1) (ru x2) h (16 - t) d e * tN (rl x3) (rk x0) (ro x4) h (t + 1) d e) := by
  rw [val_main_v176_apply, v120_at x1 x2 x3, v175_at, Finset.sum_range_one]
  rfl

theorem v180_at (h : Fin 8) (z : Fin 1) (d : Fin 128) (e : Fin 256) :
    @Eq EReal (val_main_v180 (F := Ideal) x0 x1 x2 x3 x4 (ix4 h z d e)) (∑ t ∈ Finset.range 2, sN (rl x3) (rk x1) (ru x2) h (16 - t) d e * tN (rl x3) (rk x0) (ro x4) h (t + 1) d e) := by
  rw [val_main_v180_apply, v176_at, val_main_v179_apply, v118_at x1 x2 x3, v178_at, Finset.sum_range_succ _ 1]
  rfl

theorem v184_at (h : Fin 8) (z : Fin 1) (d : Fin 128) (e : Fin 256) :
    @Eq EReal (val_main_v184 (F := Ideal) x0 x1 x2 x3 x4 (ix4 h z d e)) (∑ t ∈ Finset.range 3, sN (rl x3) (rk x1) (ru x2) h (16 - t) d e * tN (rl x3) (rk x0) (ro x4) h (t + 1) d e) := by
  rw [val_main_v184_apply, v180_at, val_main_v183_apply, v116_at x1 x2 x3, v182_at, Finset.sum_range_succ _ 2]
  rfl

theorem v188_at (h : Fin 8) (z : Fin 1) (d : Fin 128) (e : Fin 256) :
    @Eq EReal (val_main_v188 (F := Ideal) x0 x1 x2 x3 x4 (ix4 h z d e)) (∑ t ∈ Finset.range 4, sN (rl x3) (rk x1) (ru x2) h (16 - t) d e * tN (rl x3) (rk x0) (ro x4) h (t + 1) d e) := by
  rw [val_main_v188_apply, v184_at, val_main_v187_apply, v114_at x1 x2 x3, v186_at, Finset.sum_range_succ _ 3]
  rfl

theorem v192_at (h : Fin 8) (z : Fin 1) (d : Fin 128) (e : Fin 256) :
    @Eq EReal (val_main_v192 (F := Ideal) x0 x1 x2 x3 x4 (ix4 h z d e)) (∑ t ∈ Finset.range 5, sN (rl x3) (rk x1) (ru x2) h (16 - t) d e * tN (rl x3) (rk x0) (ro x4) h (t + 1) d e) := by
  rw [val_main_v192_apply, v188_at, val_main_v191_apply, v112_at x1 x2 x3, v190_at, Finset.sum_range_succ _ 4]
  rfl

theorem v196_at (h : Fin 8) (z : Fin 1) (d : Fin 128) (e : Fin 256) :
    @Eq EReal (val_main_v196 (F := Ideal) x0 x1 x2 x3 x4 (ix4 h z d e)) (∑ t ∈ Finset.range 6, sN (rl x3) (rk x1) (ru x2) h (16 - t) d e * tN (rl x3) (rk x0) (ro x4) h (t + 1) d e) := by
  rw [val_main_v196_apply, v192_at, val_main_v195_apply, v110_at x1 x2 x3, v194_at, Finset.sum_range_succ _ 5]
  rfl

theorem v200_at (h : Fin 8) (z : Fin 1) (d : Fin 128) (e : Fin 256) :
    @Eq EReal (val_main_v200 (F := Ideal) x0 x1 x2 x3 x4 (ix4 h z d e)) (∑ t ∈ Finset.range 7, sN (rl x3) (rk x1) (ru x2) h (16 - t) d e * tN (rl x3) (rk x0) (ro x4) h (t + 1) d e) := by
  rw [val_main_v200_apply, v196_at, val_main_v199_apply, v108_at x1 x2 x3, v198_at, Finset.sum_range_succ _ 6]
  rfl

theorem v204_at (h : Fin 8) (z : Fin 1) (d : Fin 128) (e : Fin 256) :
    @Eq EReal (val_main_v204 (F := Ideal) x0 x1 x2 x3 x4 (ix4 h z d e)) (∑ t ∈ Finset.range 8, sN (rl x3) (rk x1) (ru x2) h (16 - t) d e * tN (rl x3) (rk x0) (ro x4) h (t + 1) d e) := by
  rw [val_main_v204_apply, v200_at, val_main_v203_apply, v106_at x1 x2 x3, v202_at, Finset.sum_range_succ _ 7]
  rfl

theorem v208_at (h : Fin 8) (z : Fin 1) (d : Fin 128) (e : Fin 256) :
    @Eq EReal (val_main_v208 (F := Ideal) x0 x1 x2 x3 x4 (ix4 h z d e)) (∑ t ∈ Finset.range 9, sN (rl x3) (rk x1) (ru x2) h (16 - t) d e * tN (rl x3) (rk x0) (ro x4) h (t + 1) d e) := by
  rw [val_main_v208_apply, v204_at, val_main_v207_apply, v104_at x1 x2 x3, v206_at, Finset.sum_range_succ _ 8]
  rfl

theorem v212_at (h : Fin 8) (z : Fin 1) (d : Fin 128) (e : Fin 256) :
    @Eq EReal (val_main_v212 (F := Ideal) x0 x1 x2 x3 x4 (ix4 h z d e)) (∑ t ∈ Finset.range 10, sN (rl x3) (rk x1) (ru x2) h (16 - t) d e * tN (rl x3) (rk x0) (ro x4) h (t + 1) d e) := by
  rw [val_main_v212_apply, v208_at, val_main_v211_apply, v102_at x1 x2 x3, v210_at, Finset.sum_range_succ _ 9]
  rfl

theorem v216_at (h : Fin 8) (z : Fin 1) (d : Fin 128) (e : Fin 256) :
    @Eq EReal (val_main_v216 (F := Ideal) x0 x1 x2 x3 x4 (ix4 h z d e)) (∑ t ∈ Finset.range 11, sN (rl x3) (rk x1) (ru x2) h (16 - t) d e * tN (rl x3) (rk x0) (ro x4) h (t + 1) d e) := by
  rw [val_main_v216_apply, v212_at, val_main_v215_apply, v100_at x1 x2 x3, v214_at, Finset.sum_range_succ _ 10]
  rfl

theorem v220_at (h : Fin 8) (z : Fin 1) (d : Fin 128) (e : Fin 256) :
    @Eq EReal (val_main_v220 (F := Ideal) x0 x1 x2 x3 x4 (ix4 h z d e)) (∑ t ∈ Finset.range 12, sN (rl x3) (rk x1) (ru x2) h (16 - t) d e * tN (rl x3) (rk x0) (ro x4) h (t + 1) d e) := by
  rw [val_main_v220_apply, v216_at, val_main_v219_apply, v98_at x1 x2 x3, v218_at, Finset.sum_range_succ _ 11]
  rfl

theorem v224_at (h : Fin 8) (z : Fin 1) (d : Fin 128) (e : Fin 256) :
    @Eq EReal (val_main_v224 (F := Ideal) x0 x1 x2 x3 x4 (ix4 h z d e)) (∑ t ∈ Finset.range 13, sN (rl x3) (rk x1) (ru x2) h (16 - t) d e * tN (rl x3) (rk x0) (ro x4) h (t + 1) d e) := by
  rw [val_main_v224_apply, v220_at, val_main_v223_apply, v96_at x1 x2 x3, v222_at, Finset.sum_range_succ _ 12]
  rfl

theorem v228_at (h : Fin 8) (z : Fin 1) (d : Fin 128) (e : Fin 256) :
    @Eq EReal (val_main_v228 (F := Ideal) x0 x1 x2 x3 x4 (ix4 h z d e)) (∑ t ∈ Finset.range 14, sN (rl x3) (rk x1) (ru x2) h (16 - t) d e * tN (rl x3) (rk x0) (ro x4) h (t + 1) d e) := by
  rw [val_main_v228_apply, v224_at, val_main_v227_apply, v94_at x1 x2 x3, v226_at, Finset.sum_range_succ _ 13]
  rfl

theorem v232_at (h : Fin 8) (z : Fin 1) (d : Fin 128) (e : Fin 256) :
    @Eq EReal (val_main_v232 (F := Ideal) x0 x1 x2 x3 x4 (ix4 h z d e)) (∑ t ∈ Finset.range 15, sN (rl x3) (rk x1) (ru x2) h (16 - t) d e * tN (rl x3) (rk x0) (ro x4) h (t + 1) d e) := by
  rw [val_main_v232_apply, v228_at, val_main_v231_apply, v92_at x1 x2 x3, v230_at, Finset.sum_range_succ _ 14]
  rfl

theorem v236_at (h : Fin 8) (z : Fin 1) (d : Fin 128) (e : Fin 256) :
    @Eq EReal (val_main_v236 (F := Ideal) x0 x1 x2 x3 x4 (ix4 h z d e)) (∑ t ∈ Finset.range 16, sN (rl x3) (rk x1) (ru x2) h (16 - t) d e * tN (rl x3) (rk x0) (ro x4) h (t + 1) d e) := by
  rw [val_main_v236_apply, v232_at, val_main_v235_apply, v90_at x1 x2 x3, v234_at, Finset.sum_range_succ _ 15]
  rfl

theorem v240_at (h : Fin 8) (z : Fin 1) (d : Fin 128) (e : Fin 256) :
    @Eq EReal (val_main_v240 (F := Ideal) x0 x1 x2 x3 x4 (ix4 h z d e)) (∑ t ∈ Finset.range 17, sN (rl x3) (rk x1) (ru x2) h (16 - t) d e * tN (rl x3) (rk x0) (ro x4) h (t + 1) d e) := by
  rw [val_main_v240_apply, v236_at, val_main_v239_apply, v70_at x1 x2 x3, v238_at, Finset.sum_range_succ _ 16]
  rfl

theorem v245_at (h : Fin 8) :
    @Eq EReal (val_main_v245 (F := Ideal) x0 x1 x2 x3 x4 (ix1 h)) (∑ d, ∑ e, ∑ t ∈ Finset.range 17, sN (rl x3) (rk x1) (ru x2) h (16 - t) d e * tN (rl x3) (rk x0) (ro x4) h (t + 1) d e) := by
  unfold val_main_v245
  refine (ValueIdx.hostReduceAdd_apply _ _ _ _ _).trans ?_
  refine (sum123 _ _ _ h).trans ?_
  refine (congrArg (· + _) zero_word).trans ((zero_add _).trans ?_)
  rw [Fin.sum_univ_one]
  exact Finset.sum_congr rfl fun d _ => Finset.sum_congr rfl fun e _ => v240_at x0 x1 x2 x3 x4 h 0 d e

theorem v247_at (h : Fin 8) :
    @Eq EReal (val_main_v247 (F := Ideal) x0 x1 x2 x3 x4 (ix1 h)) (val_main_v245 (F := Ideal) x0 x1 x2 x3 x4 (ix1 h)) := by
  unfold val_main_v247 val_main_v246
  generalize val_main_v245 (F := Ideal) x0 x1 x2 x3 x4 = A
  refine (ValueIdx.hostReduceAdd_apply _ _ _ _ _).trans ?_
  refine (sum123 _ _ _ h).trans ?_
  refine (congrArg (· + _) zero_word).trans ((zero_add _).trans ?_)
  rw [Fin.sum_univ_one, Fin.sum_univ_one, Fin.sum_univ_one]
  pointwise

theorem v277_at (h : Fin 8) :
    @Eq EReal (val_main_v277 (F := Ideal) x0 x1 x2 x3 x4 (ix1 h)) (lenG * (val_main_v245 (F := Ideal) x0 x1 x2 x3 x4 (ix1 h) * mG (rl x3 h))) := by
  rw [← v247_at, ← v55_at]
  unfold val_main_v277 val_main_v275
  generalize val_main_v247 (F := Ideal) x0 x1 x2 x3 x4 = A
  generalize val_main_v55 (F := Ideal) x3 = B
  pointwise [val_main_v276, val_main_cst_18]
  rfl

theorem v283_at (h : Fin 8) :
    @Eq EReal (val_main_v283 (F := Ideal) x0 x1 x2 x3 x4 (ix1 h)) (∑ j, posK j * (val_main_v253 (F := Ideal) x0 x1 x2 x3 x4 (ix2 h j) * mK (rl x3 h) j)) := by
  refine via fun T hT => ?_
  pointwise [val_main_v283, val_main_v282, val_main_cst_20, val_main_v281, val_main_v280, val_main_cst_19, val_main_v279, val_main_v278, val_main_v47]
  subst hT
  simp only [Fin.sum_univ_one, v257_at, v46_at, v52_at]

theorem v290_at (h : Fin 8) :
    @Eq EReal (val_main_v290 (F := Ideal) x0 x1 x2 x3 x4 (ix1 h)) (∑ j, posQ j * (val_main_v153 (F := Ideal) x0 x1 x2 x3 x4 (ix2 h j) * mQ (rl x3 h) j)) := by
  refine via fun T hT => ?_
  pointwise [val_main_v290, val_main_v289, val_main_cst_22, val_main_v288, val_main_v287, val_main_cst_21, val_main_v286, val_main_v285, val_main_v39]
  subst hT
  simp only [Fin.sum_univ_one, v157_at, v38_at, v44_at]

theorem v263_at (h : Fin 8) (i j : Fin 128) :
    @Eq EReal (val_main_v263 (F := Ideal) x0 x1 x2 x4 (ix3 h i j)) (∑ n : Fin 18, fA (cK (rk x0) h n) (cK (rk x1) h n) i j * fP (cU (ru x2) h n) (cO (ro x4) h n) i j) := by
  unfold val_main_v263
  refine (ValueIdx.hostReduceAdd_apply _ _ _ _ _).trans ?_
  refine (Ideal.hostReduceAdd_r4_a1 _ _ _ _).trans ?_
  refine (congrArg (· + _) zero_word).trans ((zero_add _).trans ?_)
  refine Finset.sum_congr rfl fun n _ => ?_
  show @Eq EReal (val_main_v262 (F := Ideal) x0 x1 x2 x4 (ix4 h n i j)) _
  rw [val_main_v262_apply, v59_at, v261_at]
  rfl

theorem v267_at (h : Fin 8) (i j : Fin 128) :
    @Eq EReal (val_main_v267 (F := Ideal) x0 x1 x2 x4 (ix3 h i j)) (val_main_v263 (F := Ideal) x0 x1 x2 x4 (ix3 h i j)) := by
  unfold val_main_v267 val_main_v264
  generalize val_main_v263 (F := Ideal) x0 x1 x2 x4 = A
  refine (ValueIdx.hostReduceAdd_apply _ _ _ _ _).trans ?_
  refine (Ideal.hostReduceAdd_r4_a1 _ _ _ _).trans ?_
  refine (congrArg (· + _) zero_word).trans ((zero_add _).trans ?_)
  rw [Fin.sum_univ_one]
  pointwise

theorem v292_at (h : Fin 8) (i j : Fin 128) :
    @Eq EReal (val_main_v292 (F := Ideal) x0 x1 x2 x4 (ix3 h i j)) (if j ≤ i then val_main_v263 (F := Ideal) x0 x1 x2 x4 (ix3 h i j) else 0) := by
  rw [val_main_v292_apply, mask_at, v267_at, val_main_call2_v0_apply]
  by_cases hj : j ≤ i
  · rw [if_pos hj, decide_eq_true hj]; rfl
  · rw [if_neg hj, decide_eq_false hj]
    exact zero_word

theorem v298_at (h : Fin 8) :
    @Eq EReal (val_main_v298 (F := Ideal) x0 x1 x2 x3 x4 (ix1 h))
      (∑ i, ∑ j, Spec.dist i j * ((if j ≤ i then val_main_v263 (F := Ideal) x0 x1 x2 x4 (ix3 h i j) else 0) * Ideal.exp (Spec.dist i j * rl x3 h))) := by
  refine via fun T hT => ?_
  pointwise [val_main_v298, val_main_v297, val_main_cst_24, val_main_v296, val_main_v295, val_main_cst_23, val_main_v294, val_main_v293, val_main_v31]
  subst hT
  simp only [Fin.sum_univ_one, v29_at, v292_at, v35_at]

theorem log1p_nonneg (y : EReal) (hy : 0 ≤ y) : 0 ≤ Ideal.log1p y := by
  induction y with
  | bot => exact absurd hy (by decide)
  | top =>
    have e : (1 : EReal) + ⊤ = ⊤ := EReal.coe_add_top 1
    unfold Ideal.log1p
    rw [e]
    exact le_top
  | coe r =>
    have hr : (0 : ℝ) ≤ r := EReal.coe_nonneg.mp hy
    have e : (1 : EReal) + (r : EReal) = ((1 + r : ℝ) : EReal) := by rw [EReal.coe_add]; rfl
    unfold Ideal.log1p
    rw [e]
    show (0 : EReal) ≤ if 1 + r ≤ 0 then ⊥ else (Real.log (1 + r) : EReal)
    rw [if_neg (by linarith)]
    exact EReal.coe_nonneg.mpr (Real.log_nonneg (by linarith))

/-- The log-decay is not positive. -/
theorem rl_nonpos (h : Fin 8) : rl x3 h ≤ 0 := by
  have hv : ∃ c : EReal, 0 ≤ c ∧ @Eq EReal (val_main_v0 (F := Ideal) x3 (ix1 h)) (-c) := by
    refine ⟨max (-(x3 (ix1 h) : EReal)) 0 + Ideal.log1p (Ideal.exp (-FloatOps.absf (F := Ideal) (φ := .f32) (-(x3 (ix1 h) : EReal)))), ?_, ?_⟩
    · exact add_nonneg (le_max_right _ _) (log1p_nonneg _ (exp_nonneg _))
    · refine via fun T hT => ?_
      pointwise [val_main_v0, val_main_call0_v1, val_main_call0_call0_v4, val_main_call0_call0_v6, val_main_call0_call0_v11, val_main_call0_call0_v3, val_main_call0_v0, val_main_call0_call0_v5, val_main_call0_call0_v1, val_main_call0_call0_v10, val_main_call0_call0_v2, val_main_call0_call0_cst, val_main_call0_call0_v0, val_main_call0_call0_v9, val_main_call0_call0_v8, val_main_call0_call0_v7]
      rw [if_neg (fun hne => hne rfl)]
      exact hT
  obtain ⟨c, hc, e⟩ := hv
  have e' : rl x3 h = -c := e
  rw [e']
  exact EReal.neg_le_zero.mpr hc

/-- Gradient of the log-decay. -/
theorem v299_at (h : Fin 8) :
    @Eq EReal (val_main_v299 (F := Ideal) x0 x1 x2 x3 x4 (ix1 h)) (gL (rl x3) (rk x0) (rk x1) (ru x2) (ro x4) h) := by
  rw [val_main_v299_apply, val_main_v291_apply, val_main_v284_apply, v277_at, v283_at, v290_at, v298_at]
  simp only [v245_at, v253_at, v153_at, v263_at]
  exact dl_eq (rl x3 h) (rl_nonpos x3 h) (cK (rk x0) h) (cK (rk x1) h) (cU (ru x2) h) (cO (ro x4) h)
    (sN (rl x3) (rk x1) (ru x2) h) (tN (rl x3) (rk x0) (ro x4) h) rfl

theorem v325_at (h : Fin 8) (y : Fin 8) (z : Fin 128) :
    @Eq EReal (val_main_v325 (F := Ideal) x0 x1 x2 x3 x4 (ix3 h y z)) (gL (rl x3) (rk x0) (rk x1) (ru x2) (ro x4) h) := by
  refine via fun T hT => ?_
  pointwise [val_main_v325, val_main_v324]
  subst hT
  exact v299_at x0 x1 x2 x3 x4 h

end Cert.ReferenceIdeal.Ref

end
-- ==== Proof.Final.lean ====
module

public import proofs.«01_k».proof.Proof.Results
public import proofs.«01_k».proof.Proof.RefG
public import proofs.«01_k».proof.Proof.RefL
public import proofs.«01_k».proof.Proof.Gen.ReferenceIdeal.Read
public import Idealize.ShloMosaic.Lib.Pointwise
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.KernelIdeal.Final

open Cert.KernelIdeal Cert.KernelIdeal.Gen Cert.KernelIdeal.Host Cert.KernelIdeal.Blocks Cert.KernelIdeal.Results Cert.Spec
open Cert.ReferenceIdeal.Ref Cert.ReferenceIdeal.Read

variable (m : (ℓ : Loc nD τ sig) → Buf (Elt Ideal) ℓ)

/-! The four results of the backward call are the four results of the derivative, at the call's own arguments. -/

/-- The decays the kernel's host code computes are the reference's. -/
theorem lam_eq (c : Dev nD) (a : (⟨Cert.ReferenceIdeal.S8, .f32⟩ : BufTy).Contents (Elt Ideal)) (ha : m ((c : Thread nD τ).loc main_arg3) = a) :
    (V m c main_v0 : Vec Ideal S8 .f32) = val_main_v0 (F := Ideal) a := by
  subst ha
  rw [V_split]
  after_reads_simp
  rfl

theorem al_eq (c : Dev nD) : al m c = rl (m ((c : Thread nD τ).loc main_arg3)) :=
  funext fun h => congrFun (lam_eq m c _ rfl) (ix1 h)

/-- Every row belongs to a chunk, every column to a head. -/
theorem row_split (r : Fin 2304) : r = row (nq r) (iq r) := Fin.ext (by simp only [row, nq, iq]; omega)
theorem kcol_split (x : Fin 1024) : x = kcol (hk x) (dk x) := Fin.ext (by simp only [kcol, hk, dk]; omega)
theorem vcol_split (x : Fin 2048) : x = vcol (hv x) (ev x) := Fin.ext (by simp only [vcol, hv, ev]; omega)

theorem res_q (c : Dev nD) : (dats m 0 c).arrAt 6 (cfgs 0).N = val_main_v321 (F := Ideal) (m ((c : Thread nD τ).loc main_arg1))
    (m ((c : Thread nD τ).loc main_arg2)) (m ((c : Thread nD τ).loc main_arg3)) (m ((c : Thread nD τ).loc main_arg4)) := by
  refine (final_q m c).trans (funext fun y => ?_)
  idx_vars y
  refine Eq.trans ?_ (v321_at _ _ _ _ (hk y1) (nq y0) (iq y0) (dk y1) y0 y1 (row_split y0) (kcol_split y1)).symm
  rw [← al_eq]
  rfl

theorem res_k (c : Dev nD) : (dats m 0 c).arrAt 7 (cfgs 0).N = val_main_v322 (F := Ideal) (m ((c : Thread nD τ).loc main_arg0))
    (m ((c : Thread nD τ).loc main_arg2)) (m ((c : Thread nD τ).loc main_arg3)) (m ((c : Thread nD τ).loc main_arg4)) := by
  refine (final_k m c).trans (funext fun y => ?_)
  idx_vars y
  refine Eq.trans ?_ (v322_at _ _ _ _ (hk y1) (nq y0) (iq y0) (dk y1) y0 y1 (row_split y0) (kcol_split y1)).symm
  rw [← al_eq]
  rfl

theorem res_v (c : Dev nD) : (dats m 0 c).arrAt 8 (cfgs 0).N = val_main_v323 (F := Ideal) (m ((c : Thread nD τ).loc main_arg0))
    (m ((c : Thread nD τ).loc main_arg1)) (m ((c : Thread nD τ).loc main_arg3)) (m ((c : Thread nD τ).loc main_arg4)) := by
  refine (final_v m c).trans (funext fun y => ?_)
  idx_vars y
  refine Eq.trans ?_ (v323_at _ _ _ _ (hv y1) (nq y0) (iq y0) (ev y1) y0 y1 (row_split y0) (vcol_split y1)).symm
  rw [← al_eq]
  rfl

theorem res_l (c : Dev nD) : (dats m 0 c).arrAt 9 (cfgs 0).N = val_main_v325 (F := Ideal) (m ((c : Thread nD τ).loc main_arg0))
    (m ((c : Thread nD τ).loc main_arg1)) (m ((c : Thread nD τ).loc main_arg2)) (m ((c : Thread nD τ).loc main_arg3)) (m ((c : Thread nD τ).loc main_arg4)) := by
  refine (final_l m c).trans (funext fun y => ?_)
  idx_vars y
  refine Eq.trans ?_ (v325_at _ _ _ _ _ y0 y1 y2).symm
  rw [← al_eq]
  rfl

end Cert.KernelIdeal.Final

end
-- ==== Proof.lean ====
/- The frames of the calls and of their references; that the retention's backward call computes the derivative of its
   forward lines; that the products compute a product and its derivatives; and that the gates, the modulation's
   gradient and the optimiser's step are what the plain formulas say. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.InDw
public import proofs.«01_k».proof.Proof.InDa
public import proofs.«01_k».proof.Proof.InFwd
public import proofs.«01_k».proof.Proof.RetDw
public import proofs.«01_k».proof.Proof.RetDa
public import proofs.«01_k».proof.Proof.RetFwd
public import proofs.«01_k».proof.Proof.OutFwd
public import proofs.«01_k».proof.Proof.NaDw
public import proofs.«01_k».proof.Proof.NaDa
public import proofs.«01_k».proof.Proof.NaFwd
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.AdaBwd
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.AdamW
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.GateNa
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Merge
public import proofs.«01_k».proof.Proof.Final
public import Idealize.ShloMosaic.Adequacy
public import Idealize.ShloMosaic.Init

@[expose] public section

noncomputable section

namespace Cert.Proof

open Idealize.ShloMosaic Idealize.ShloMosaic.TcCoe Idealize.SL.Sem

/-- The backward call's results are the derivative's: the values the two runs are compared at are the derivative's own,
    read at the arguments of the kernel's memory. -/
theorem values : Cert.algebraic_KernelIdeal_ReferenceIdeal (hKernelIdeal := Cert.KernelIdeal.Gen.facts) (hReferenceIdeal := Cert.ReferenceIdeal.Gen.facts) := by
  intro m g m' g' _ hargs
  refine ⟨_, _, _, _, Cert.KernelIdeal.Value.run_blocks m g, (θ_run _ _ _).mono (fun r h c => ?_) (Cert.ReferenceIdeal.Value.run m' g')⟩
  obtain ⟨h0, h1, h2, h3, hk⟩ := h c
  obtain ⟨a0, a1, a2, a3, a4⟩ := hargs c
  refine ⟨?_, ?_, ?_, ?_, hk⟩
  · refine h0.trans ((Cert.ReferenceIdeal.Read.val_main_v321_eq (F := Ideal) _).trans ?_)
    refine Eq.trans ?_ (Cert.KernelIdeal.Final.res_q m c).symm
    exact congr (congr (congr (congrArg _ a1) a2) a3) a4
  · refine h1.trans ((Cert.ReferenceIdeal.Read.val_main_v322_eq (F := Ideal) _).trans ?_)
    refine Eq.trans ?_ (Cert.KernelIdeal.Final.res_k m c).symm
    exact congr (congr (congr (congrArg _ a0) a2) a3) a4
  · refine h2.trans ((Cert.ReferenceIdeal.Read.val_main_v323_eq (F := Ideal) _).trans ?_)
    refine Eq.trans ?_ (Cert.KernelIdeal.Final.res_v m c).symm
    exact congr (congr (congr (congrArg _ a0) a1) a3) a4
  · refine h3.trans ((Cert.ReferenceIdeal.Read.val_main_v325_eq (F := Ideal) _).trans ?_)
    refine Eq.trans ?_ (Cert.KernelIdeal.Final.res_l m c).symm
    exact congr (congr (congr (congr (congrArg _ a0) a1) a2) a3) a4

/-- The reference's frame: its run names the arguments, and it declares no semaphore. -/
theorem reference_frame : Cert.quiescent_ReferenceIdeal (hReferenceIdeal := Cert.ReferenceIdeal.Gen.facts) := fun m ρ _ =>
  (θ_run _ _ _).mono (fun r h => ⟨fun c => (h c).2.2.2.2, sem_eq_zero_of_no_sems (by decide) r.2⟩) (Cert.ReferenceIdeal.Value.run m ρ)

/-- The weight gradient of the input product is what its reference says. -/
theorem values2 : Cert.algebraic_Kernel2Ideal_Reference2Ideal (hKernel2Ideal := Cert.Kernel2Ideal.Gen.facts) (hReference2Ideal := Cert.Reference2Ideal.Gen.facts) := by
  intro m g m' g' _ hargs
  refine ⟨_, Cert.Kernel2Ideal.Value.run_blocks m g, (θ_run _ _ _).mono (fun r h c => ?_) (Cert.Reference2Ideal.Value.run m' g')⟩
  obtain ⟨h0, hk⟩ := h c
  obtain ⟨a0, a1⟩ := hargs c
  refine ⟨h0.trans ((Cert.Reference2Ideal.Read.val_main_v6_eq (F := Ideal) _ _).trans (Eq.trans ?_ (Cert.Kernel2Ideal.Prod.res m c).symm)), hk⟩
  exact congr (congrArg _ a0) a1

theorem reference_frame2 : Cert.quiescent_Reference2Ideal (hReference2Ideal := Cert.Reference2Ideal.Gen.facts) := fun m ρ _ =>
  (θ_run _ _ _).mono (fun r h => ⟨fun c => (h c).2, sem_eq_zero_of_no_sems (by decide) r.2⟩) (Cert.Reference2Ideal.Value.run m ρ)

/-- The gradient of the input product's rows is what its reference says. -/
theorem values3 : Cert.algebraic_Kernel3Ideal_Reference3Ideal (hKernel3Ideal := Cert.Kernel3Ideal.Gen.facts) (hReference3Ideal := Cert.Reference3Ideal.Gen.facts) := by
  intro m g m' g' _ hargs
  refine ⟨_, Cert.Kernel3Ideal.Value.run_blocks m g, (θ_run _ _ _).mono (fun r h c => ?_) (Cert.Reference3Ideal.Value.run m' g')⟩
  obtain ⟨h0, hk⟩ := h c
  obtain ⟨a0, a1, a2⟩ := hargs c
  refine ⟨h0.trans ((Cert.Reference3Ideal.Read.val_main_v5_eq (F := Ideal) _ _).trans (Eq.trans ?_ (Cert.Kernel3Ideal.Prod.res m c).symm)), hk⟩
  exact congr (congrArg _ a0) a1

theorem reference_frame3 : Cert.quiescent_Reference3Ideal (hReference3Ideal := Cert.Reference3Ideal.Gen.facts) := fun m ρ _ =>
  (θ_run _ _ _).mono (fun r h => ⟨fun c => (h c).2, sem_eq_zero_of_no_sems (by decide) r.2⟩) (Cert.Reference3Ideal.Value.run m ρ)

/-- The input product is what its reference says. -/
theorem values4 : Cert.algebraic_Kernel4Ideal_Reference4Ideal (hKernel4Ideal := Cert.Kernel4Ideal.Gen.facts) (hReference4Ideal := Cert.Reference4Ideal.Gen.facts) := by
  intro m g m' g' _ hargs
  refine ⟨_, Cert.Kernel4Ideal.Value.run_blocks m g, (θ_run _ _ _).mono (fun r h c => ?_) (Cert.Reference4Ideal.Value.run m' g')⟩
  obtain ⟨h0, hk⟩ := h c
  obtain ⟨a0, a1⟩ := hargs c
  refine ⟨h0.trans ((Cert.Reference4Ideal.Read.val_main_v3_eq (F := Ideal) _ _).trans (Eq.trans ?_ (Cert.Kernel4Ideal.Prod.res m c).symm)), hk⟩
  exact congr (congrArg _ a0) a1

theorem reference_frame4 : Cert.quiescent_Reference4Ideal (hReference4Ideal := Cert.Reference4Ideal.Gen.facts) := fun m ρ _ =>
  (θ_run _ _ _).mono (fun r h => ⟨fun c => (h c).2, sem_eq_zero_of_no_sems (by decide) r.2⟩) (Cert.Reference4Ideal.Value.run m ρ)

/-- The weight gradient of the retention branch's projection is what its reference says. -/
theorem values5 : Cert.algebraic_Kernel5Ideal_Reference5Ideal (hKernel5Ideal := Cert.Kernel5Ideal.Gen.facts) (hReference5Ideal := Cert.Reference5Ideal.Gen.facts) := by
  intro m g m' g' _ hargs
  refine ⟨_, Cert.Kernel5Ideal.Value.run_blocks m g, (θ_run _ _ _).mono (fun r h c => ?_) (Cert.Reference5Ideal.Value.run m' g')⟩
  obtain ⟨h0, hk⟩ := h c
  obtain ⟨a0, a1⟩ := hargs c
  refine ⟨h0.trans ((Cert.Reference5Ideal.Read.val_main_v6_eq (F := Ideal) _ _).trans (Eq.trans ?_ (Cert.Kernel5Ideal.Prod.res m c).symm)), hk⟩
  exact congr (congrArg _ a0) a1

theorem reference_frame5 : Cert.quiescent_Reference5Ideal (hReference5Ideal := Cert.Reference5Ideal.Gen.facts) := fun m ρ _ =>
  (θ_run _ _ _).mono (fun r h => ⟨fun c => (h c).2, sem_eq_zero_of_no_sems (by decide) r.2⟩) (Cert.Reference5Ideal.Value.run m ρ)

/-- The gradient of its rows is what its reference says. -/
theorem values6 : Cert.algebraic_Kernel6Ideal_Reference6Ideal (hKernel6Ideal := Cert.Kernel6Ideal.Gen.facts) (hReference6Ideal := Cert.Reference6Ideal.Gen.facts) := by
  intro m g m' g' _ hargs
  refine ⟨_, Cert.Kernel6Ideal.Value.run_blocks m g, (θ_run _ _ _).mono (fun r h c => ?_) (Cert.Reference6Ideal.Value.run m' g')⟩
  obtain ⟨h0, hk⟩ := h c
  obtain ⟨a0, a1⟩ := hargs c
  refine ⟨h0.trans ((Cert.Reference6Ideal.Read.val_main_v5_eq (F := Ideal) _ _).trans (Eq.trans ?_ (Cert.Kernel6Ideal.Prod.res m c).symm)), hk⟩
  exact congr (congrArg _ a0) a1

theorem reference_frame6 : Cert.quiescent_Reference6Ideal (hReference6Ideal := Cert.Reference6Ideal.Gen.facts) := fun m ρ _ =>
  (θ_run _ _ _).mono (fun r h => ⟨fun c => (h c).2, sem_eq_zero_of_no_sems (by decide) r.2⟩) (Cert.Reference6Ideal.Value.run m ρ)

/-- The retention branch's projection is what its reference says. -/
theorem values7 : Cert.algebraic_Kernel7Ideal_Reference7Ideal (hKernel7Ideal := Cert.Kernel7Ideal.Gen.facts) (hReference7Ideal := Cert.Reference7Ideal.Gen.facts) := by
  intro m g m' g' _ hargs
  refine ⟨_, Cert.Kernel7Ideal.Value.run_blocks m g, (θ_run _ _ _).mono (fun r h c => ?_) (Cert.Reference7Ideal.Value.run m' g')⟩
  obtain ⟨h0, hk⟩ := h c
  obtain ⟨a0, a1⟩ := hargs c
  refine ⟨h0.trans ((Cert.Reference7Ideal.Read.val_main_v3_eq (F := Ideal) _ _).trans (Eq.trans ?_ (Cert.Kernel7Ideal.Prod.res m c).symm)), hk⟩
  exact congr (congrArg _ a0) a1

theorem reference_frame7 : Cert.quiescent_Reference7Ideal (hReference7Ideal := Cert.Reference7Ideal.Gen.facts) := fun m ρ _ =>
  (θ_run _ _ _).mono (fun r h => ⟨fun c => (h c).2, sem_eq_zero_of_no_sems (by decide) r.2⟩) (Cert.Reference7Ideal.Value.run m ρ)

/-- The output projection is what its reference says. -/
theorem values8 : Cert.algebraic_Kernel8Ideal_Reference8Ideal (hKernel8Ideal := Cert.Kernel8Ideal.Gen.facts) (hReference8Ideal := Cert.Reference8Ideal.Gen.facts) := by
  intro m g m' g' _ hargs
  refine ⟨_, Cert.Kernel8Ideal.Value.run_blocks m g, (θ_run _ _ _).mono (fun r h c => ?_) (Cert.Reference8Ideal.Value.run m' g')⟩
  obtain ⟨h0, hk⟩ := h c
  obtain ⟨a0, a1⟩ := hargs c
  refine ⟨h0.trans ((Cert.Reference8Ideal.Read.val_main_v2_eq (F := Ideal) _ _).trans (Eq.trans ?_ (Cert.Kernel8Ideal.Prod.res m c).symm)), hk⟩
  exact congr (congrArg _ a0) a1

theorem reference_frame8 : Cert.quiescent_Reference8Ideal (hReference8Ideal := Cert.Reference8Ideal.Gen.facts) := fun m ρ _ =>
  (θ_run _ _ _).mono (fun r h => ⟨fun c => (h c).2, sem_eq_zero_of_no_sems (by decide) r.2⟩) (Cert.Reference8Ideal.Value.run m ρ)

/-- The weight gradient of the attention branch's projection is what its reference says. -/
theorem values9 : Cert.algebraic_Kernel9Ideal_Reference9Ideal (hKernel9Ideal := Cert.Kernel9Ideal.Gen.facts) (hReference9Ideal := Cert.Reference9Ideal.Gen.facts) := by
  intro m g m' g' _ hargs
  refine ⟨_, Cert.Kernel9Ideal.Value.run_blocks m g, (θ_run _ _ _).mono (fun r h c => ?_) (Cert.Reference9Ideal.Value.run m' g')⟩
  obtain ⟨h0, hk⟩ := h c
  obtain ⟨a0, a1⟩ := hargs c
  refine ⟨h0.trans ((Cert.Reference9Ideal.Read.val_main_v6_eq (F := Ideal) _ _).trans (Eq.trans ?_ (Cert.Kernel9Ideal.Prod.res m c).symm)), hk⟩
  exact congr (congrArg _ a0) a1

theorem reference_frame9 : Cert.quiescent_Reference9Ideal (hReference9Ideal := Cert.Reference9Ideal.Gen.facts) := fun m ρ _ =>
  (θ_run _ _ _).mono (fun r h => ⟨fun c => (h c).2, sem_eq_zero_of_no_sems (by decide) r.2⟩) (Cert.Reference9Ideal.Value.run m ρ)

/-- The gradient of its rows is what its reference says. -/
theorem values10 : Cert.algebraic_Kernel10Ideal_Reference10Ideal (hKernel10Ideal := Cert.Kernel10Ideal.Gen.facts) (hReference10Ideal := Cert.Reference10Ideal.Gen.facts) := by
  intro m g m' g' _ hargs
  refine ⟨_, Cert.Kernel10Ideal.Value.run_blocks m g, (θ_run _ _ _).mono (fun r h c => ?_) (Cert.Reference10Ideal.Value.run m' g')⟩
  obtain ⟨h0, hk⟩ := h c
  obtain ⟨a0, a1, a2⟩ := hargs c
  refine ⟨h0.trans ((Cert.Reference10Ideal.Read.val_main_v5_eq (F := Ideal) _ _).trans (Eq.trans ?_ (Cert.Kernel10Ideal.Prod.res m c).symm)), hk⟩
  exact congr (congrArg _ a0) a1

theorem reference_frame10 : Cert.quiescent_Reference10Ideal (hReference10Ideal := Cert.Reference10Ideal.Gen.facts) := fun m ρ _ =>
  (θ_run _ _ _).mono (fun r h => ⟨fun c => (h c).2, sem_eq_zero_of_no_sems (by decide) r.2⟩) (Cert.Reference10Ideal.Value.run m ρ)

/-- The attention branch's projection is what its reference says. -/
theorem values11 : Cert.algebraic_Kernel11Ideal_Reference11Ideal (hKernel11Ideal := Cert.Kernel11Ideal.Gen.facts) (hReference11Ideal := Cert.Reference11Ideal.Gen.facts) := by
  intro m g m' g' _ hargs
  refine ⟨_, Cert.Kernel11Ideal.Value.run_blocks m g, (θ_run _ _ _).mono (fun r h c => ?_) (Cert.Reference11Ideal.Value.run m' g')⟩
  obtain ⟨h0, hk⟩ := h c
  obtain ⟨a0, a1⟩ := hargs c
  refine ⟨h0.trans ((Cert.Reference11Ideal.Read.val_main_v3_eq (F := Ideal) _ _).trans (Eq.trans ?_ (Cert.Kernel11Ideal.Prod.res m c).symm)), hk⟩
  exact congr (congrArg _ a0) a1

theorem reference_frame11 : Cert.quiescent_Reference11Ideal (hReference11Ideal := Cert.Reference11Ideal.Gen.facts) := fun m ρ _ =>
  (θ_run _ _ _).mono (fun r h => ⟨fun c => (h c).2, sem_eq_zero_of_no_sems (by decide) r.2⟩) (Cert.Reference11Ideal.Value.run m ρ)

/-- The gradients of the modulation's weight and of the conditions are what the reference says. -/
theorem values12 : Cert.algebraic_Kernel12Ideal_Reference12Ideal (hKernel12Ideal := Cert.Kernel12Ideal.Gen.facts) (hReference12Ideal := Cert.Reference12Ideal.Gen.facts) := by
  intro m g m' g' _ hargs
  refine ⟨_, _, Cert.Kernel12Ideal.Value.run m g, (θ_run _ _ _).mono (fun r h c => ?_) (Cert.Reference12Ideal.Value.run m' g')⟩
  obtain ⟨h0, h1, hk⟩ := h c
  obtain ⟨a0, a1, a2⟩ := hargs c
  refine ⟨h0.trans ((Cert.Reference12Ideal.Read.val_main_v6_eq (F := Ideal) _ _).trans (Eq.trans ?_ (Cert.Kernel12Ideal.Pointwise.res_w _ _ _).symm)),
    h1.trans ((Cert.Reference12Ideal.Read.val_main_v4_eq (F := Ideal) _ _).trans (Eq.trans ?_ (Cert.Kernel12Ideal.Pointwise.res_c _ _ _).symm)), hk⟩
  · exact congr (congrArg _ a0) a2
  · exact congr (congrArg _ a1) a2

theorem reference_frame12 : Cert.quiescent_Reference12Ideal (hReference12Ideal := Cert.Reference12Ideal.Gen.facts) := fun m ρ _ =>
  (θ_run _ _ _).mono (fun r h => ⟨fun c => (h c).2.2, sem_eq_zero_of_no_sems (by decide) r.2⟩) (Cert.Reference12Ideal.Value.run m ρ)

/-- The optimiser's step of the modulation's weight is what the reference says. -/
theorem values13 : Cert.algebraic_Kernel13Ideal_Reference13Ideal (hKernel13Ideal := Cert.Kernel13Ideal.Gen.facts) (hReference13Ideal := Cert.Reference13Ideal.Gen.facts) := by
  intro m g m' g' _ hargs
  refine ⟨_, _, _, Cert.Kernel13Ideal.Value.run m g, (θ_run _ _ _).mono (fun r h c => ?_) (Cert.Reference13Ideal.Value.run m' g')⟩
  obtain ⟨h0, h1, h2, hk⟩ := h c
  obtain ⟨a0, a1, a2, a3⟩ := hargs c
  refine ⟨h0.trans ((Cert.Reference13Ideal.Read.val_main_v23_eq (F := Ideal) _ _ _ _).trans (Eq.trans ?_ (Cert.Kernel13Ideal.Pointwise.delta _ _ _ _).symm)),
    h1.trans ((Cert.Reference13Ideal.Read.val_main_v4_eq (F := Ideal) _ _).trans (Eq.trans ?_ (Cert.Kernel13Ideal.Pointwise.new_m _ _).symm)),
    h2.trans ((Cert.Reference13Ideal.Read.val_main_v10_eq (F := Ideal) _ _).trans (Eq.trans ?_ (Cert.Kernel13Ideal.Pointwise.new_v _ _).symm)), hk⟩
  · exact congr (congr (congr (congrArg _ a0) a1) a2) a3
  · exact congr (congrArg _ a1) a2
  · exact congr (congrArg _ a1) a3

theorem reference_frame13 : Cert.quiescent_Reference13Ideal (hReference13Ideal := Cert.Reference13Ideal.Gen.facts) := fun m ρ _ =>
  (θ_run _ _ _).mono (fun r h => ⟨fun c => (h c).2.2.2, sem_eq_zero_of_no_sems (by decide) r.2⟩) (Cert.Reference13Ideal.Value.run m ρ)

/-- The gradients of the attention's gate are what the reference says. -/
theorem values14 : Cert.algebraic_Kernel14Ideal_Reference14Ideal (hKernel14Ideal := Cert.Kernel14Ideal.Gen.facts) (hReference14Ideal := Cert.Reference14Ideal.Gen.facts) := by
  intro m g m' g' _ hargs
  refine ⟨_, _, Cert.Kernel14Ideal.Value.run m g, (θ_run _ _ _).mono (fun r h c => ?_) (Cert.Reference14Ideal.Value.run m' g')⟩
  obtain ⟨h0, h1, hk⟩ := h c
  obtain ⟨a0, a1, a2⟩ := hargs c
  refine ⟨h0.trans ((Cert.Reference14Ideal.Read.val_main_v9_eq (F := Ideal) _ _).trans (Eq.trans ?_ (Cert.Kernel14Ideal.Pointwise.d_o _ _).symm)),
    h1.trans ((Cert.Reference14Ideal.Read.val_main_v10_eq (F := Ideal) _ _ _).trans (Eq.trans ?_ (Cert.Kernel14Ideal.Pointwise.d_z _ _ _).symm)), hk⟩
  · exact congr (congrArg _ a1) a2
  · exact congr (congr (congrArg _ a0) a1) a2

theorem reference_frame14 : Cert.quiescent_Reference14Ideal (hReference14Ideal := Cert.Reference14Ideal.Gen.facts) := fun m ρ _ =>
  (θ_run _ _ _).mono (fun r h => ⟨fun c => (h c).2.2, sem_eq_zero_of_no_sems (by decide) r.2⟩) (Cert.Reference14Ideal.Value.run m ρ)

/-- The gradients of the two branches' mixture are what the reference says. -/
theorem values15 : Cert.algebraic_Kernel15Ideal_Reference15Ideal (hKernel15Ideal := Cert.Kernel15Ideal.Gen.facts) (hReference15Ideal := Cert.Reference15Ideal.Gen.facts) := by
  intro m g m' g' _ hargs
  refine ⟨_, _, _, _, Cert.Kernel15Ideal.Value.run m g, (θ_run _ _ _).mono (fun r h c => ?_) (Cert.Reference15Ideal.Value.run m' g')⟩
  obtain ⟨h0, h1, h2, h3, hk⟩ := h c
  obtain ⟨a0, a1, a2, a3⟩ := hargs c
  refine ⟨h0.trans ((Cert.Reference15Ideal.Read.val_main_v34_eq (F := Ideal) _ _ _).trans (Eq.trans ?_ (Cert.Kernel15Ideal.Pointwise.d_g_na _ _ _).symm)),
    h1.trans ((Cert.Reference15Ideal.Read.val_main_v35_eq (F := Ideal) _ _ _).trans (Eq.trans ?_ (Cert.Kernel15Ideal.Pointwise.d_g_ret _ _ _).symm)),
    h2.trans ((Cert.Reference15Ideal.Read.val_main_v36_eq (F := Ideal) _ _).trans (Eq.trans ?_ (Cert.Kernel15Ideal.Pointwise.d_y_na _ _).symm)),
    h3.trans ((Cert.Reference15Ideal.Read.val_main_v37_eq (F := Ideal) _ _).trans (Eq.trans ?_ (Cert.Kernel15Ideal.Pointwise.d_y_ret _ _).symm)), hk⟩
  · exact congr (congr (congrArg _ a0) a1) a3
  · exact congr (congr (congrArg _ a0) a2) a3
  · exact congr (congrArg _ a0) a3
  · exact congr (congrArg _ a0) a3

theorem reference_frame15 : Cert.quiescent_Reference15Ideal (hReference15Ideal := Cert.Reference15Ideal.Gen.facts) := fun m ρ _ =>
  (θ_run _ _ _).mono (fun r h => ⟨fun c => (h c).2.2.2.2, sem_eq_zero_of_no_sems (by decide) r.2⟩) (Cert.Reference15Ideal.Value.run m ρ)

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    fun m ρ _ => Cert.Kernel.Gen.frame m ρ, fun m ρ _ => Cert.KernelIdeal.Gen.frame m ρ, reference_frame,
    fun m ρ _ => Cert.Kernel2.Gen.frame m ρ, fun m ρ _ => Cert.Kernel2Ideal.Gen.frame m ρ, reference_frame2,
    fun m ρ _ => Cert.Kernel3.Gen.frame m ρ, fun m ρ _ => Cert.Kernel3Ideal.Gen.frame m ρ, reference_frame3,
    fun m ρ _ => Cert.Kernel4.Gen.frame m ρ, fun m ρ _ => Cert.Kernel4Ideal.Gen.frame m ρ, reference_frame4,
    fun m ρ _ => Cert.Kernel5.Gen.frame m ρ, fun m ρ _ => Cert.Kernel5Ideal.Gen.frame m ρ, reference_frame5,
    fun m ρ _ => Cert.Kernel6.Gen.frame m ρ, fun m ρ _ => Cert.Kernel6Ideal.Gen.frame m ρ, reference_frame6,
    fun m ρ _ => Cert.Kernel7.Gen.frame m ρ, fun m ρ _ => Cert.Kernel7Ideal.Gen.frame m ρ, reference_frame7,
    fun m ρ _ => Cert.Kernel8.Gen.frame m ρ, fun m ρ _ => Cert.Kernel8Ideal.Gen.frame m ρ, reference_frame8,
    fun m ρ _ => Cert.Kernel9.Gen.frame m ρ, fun m ρ _ => Cert.Kernel9Ideal.Gen.frame m ρ, reference_frame9,
    fun m ρ _ => Cert.Kernel10.Gen.frame m ρ, fun m ρ _ => Cert.Kernel10Ideal.Gen.frame m ρ, reference_frame10,
    fun m ρ _ => Cert.Kernel11.Gen.frame m ρ, fun m ρ _ => Cert.Kernel11Ideal.Gen.frame m ρ, reference_frame11,
    fun m ρ _ => Cert.Kernel12.Gen.frame m ρ, fun m ρ _ => Cert.Kernel12Ideal.Gen.frame m ρ, reference_frame12,
    fun m ρ _ => Cert.Kernel13.Gen.frame m ρ, fun m ρ _ => Cert.Kernel13Ideal.Gen.frame m ρ, reference_frame13,
    fun m ρ _ => Cert.Kernel14.Gen.frame m ρ, fun m ρ _ => Cert.Kernel14Ideal.Gen.frame m ρ, reference_frame14,
    fun m ρ _ => Cert.Kernel15.Gen.frame m ρ, fun m ρ _ => Cert.Kernel15Ideal.Gen.frame m ρ, reference_frame15,
    trivial, values, trivial, values2, trivial, values3, trivial, values4, trivial, values5, trivial, values6, trivial, values7, trivial, values8, trivial, values9, trivial, values10, trivial, values11, trivial, values12, trivial, values13, trivial, values14, trivial, values15⟩

end Cert.Proof

end
